-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesReferenceIdeal (m : (ℓ : Loc Cert.ValuesReferenceIdeal.nD Cert.ValuesReferenceIdeal.τ Cert.ValuesReferenceIdeal.sig) → Buf (Elt Ideal) ℓ) : Prop :=
  True

def Pre_Inputs (m : (ℓ : Loc Cert.Inputs.nD Cert.Inputs.τ Cert.Inputs.sig) → Buf (Elt Bits) ℓ) : Prop :=
  True

def Pre_InputsIdeal (m : (ℓ : Loc Cert.InputsIdeal.nD Cert.InputsIdeal.τ Cert.InputsIdeal.sig) → Buf (Elt Ideal) ℓ) : Prop :=
  True

def Pre_InputsReferenceIdeal (m : (ℓ : Loc Cert.InputsReferenceIdeal.nD Cert.InputsReferenceIdeal.τ Cert.InputsReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualReferenceIdeal (m : (ℓ : Loc Cert.ResidualReferenceIdeal.nD Cert.ResidualReferenceIdeal.τ Cert.ResidualReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_ValuesReferenceIdeal [hValuesReferenceIdeal : Cert.ValuesReferenceIdeal.Facts] : Prop :=
  ∀ (m : (ℓ : Loc Cert.ValuesReferenceIdeal.nD Cert.ValuesReferenceIdeal.τ Cert.ValuesReferenceIdeal.sig) → Buf (Elt Ideal) ℓ) (g : Dev Cert.ValuesReferenceIdeal.nD → PrngReg), Pre_ValuesReferenceIdeal m →
    θ_run (Cert.ValuesReferenceIdeal.defs (F := Ideal)) (onTc (τ := Cert.ValuesReferenceIdeal.τ) (Cert.ValuesReferenceIdeal.main (F := Ideal))) ⟨m, fun _ => 0, g⟩ (fun r => (∀ c : Dev Cert.ValuesReferenceIdeal.nD,
      r.2.mem ((c.tc : Thread Cert.ValuesReferenceIdeal.nD Cert.ValuesReferenceIdeal.τ).loc Cert.ValuesReferenceIdeal.main_arg0) = m ((c.tc : Thread Cert.ValuesReferenceIdeal.nD Cert.ValuesReferenceIdeal.τ).loc Cert.ValuesReferenceIdeal.main_arg0)
      ∧ r.2.mem ((c.tc : Thread Cert.ValuesReferenceIdeal.nD Cert.ValuesReferenceIdeal.τ).loc Cert.ValuesReferenceIdeal.main_arg1) = m ((c.tc : Thread Cert.ValuesReferenceIdeal.nD Cert.ValuesReferenceIdeal.τ).loc Cert.ValuesReferenceIdeal.main_arg1))
      ∧ r.2.sem = fun _ => 0)

def quiescent_Inputs [hInputs : Cert.Inputs.Facts] : Prop :=
  ∀ (m : (ℓ : Loc Cert.Inputs.nD Cert.Inputs.τ Cert.Inputs.sig) → Buf (Elt Bits) ℓ) (g : Dev Cert.Inputs.nD → PrngReg), Pre_Inputs m →
    θ_run (Cert.Inputs.defs (F := Bits)) (onTc (τ := Cert.Inputs.τ) (Cert.Inputs.main (F := Bits))) ⟨m, fun _ => 0, g⟩ (fun r => (∀ c : Dev Cert.Inputs.nD,
      r.2.mem ((c.tc : Thread Cert.Inputs.nD Cert.Inputs.τ).loc Cert.Inputs.main_arg0) = m ((c.tc : Thread Cert.Inputs.nD Cert.Inputs.τ).loc Cert.Inputs.main_arg0)
      ∧ r.2.mem ((c.tc : Thread Cert.Inputs.nD Cert.Inputs.τ).loc Cert.Inputs.main_arg1) = m ((c.tc : Thread Cert.Inputs.nD Cert.Inputs.τ).loc Cert.Inputs.main_arg1))
      ∧ r.2.sem = fun _ => 0)

def quiescent_InputsIdeal [hInputsIdeal : Cert.InputsIdeal.Facts] : Prop :=
  ∀ (m : (ℓ : Loc Cert.InputsIdeal.nD Cert.InputsIdeal.τ Cert.InputsIdeal.sig) → Buf (Elt Ideal) ℓ) (g : Dev Cert.InputsIdeal.nD → PrngReg), Pre_InputsIdeal m →
    θ_run (Cert.InputsIdeal.defs (F := Ideal)) (onTc (τ := Cert.InputsIdeal.τ) (Cert.InputsIdeal.main (F := Ideal))) ⟨m, fun _ => 0, g⟩ (fun r => (∀ c : Dev Cert.InputsIdeal.nD,
      r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
      ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1))
      ∧ r.2.sem = fun _ => 0)

def quiescent_InputsReferenceIdeal [hInputsReferenceIdeal : Cert.InputsReferenceIdeal.Facts] : Prop :=
  ∀ (m : (ℓ : Loc Cert.InputsReferenceIdeal.nD Cert.InputsReferenceIdeal.τ Cert.InputsReferenceIdeal.sig) → Buf (Elt Ideal) ℓ) (g : Dev Cert.InputsReferenceIdeal.nD → PrngReg), Pre_InputsReferenceIdeal m →
    θ_run (Cert.InputsReferenceIdeal.defs (F := Ideal)) (onTc (τ := Cert.InputsReferenceIdeal.τ) (Cert.InputsReferenceIdeal.main (F := Ideal))) ⟨m, fun _ => 0, g⟩ (fun r => (∀ c : Dev Cert.InputsReferenceIdeal.nD,
      r.2.mem ((c.tc : Thread Cert.InputsReferenceIdeal.nD Cert.InputsReferenceIdeal.τ).loc Cert.InputsReferenceIdeal.main_arg0) = m ((c.tc : Thread Cert.InputsReferenceIdeal.nD Cert.InputsReferenceIdeal.τ).loc Cert.InputsReferenceIdeal.main_arg0)
      ∧ r.2.mem ((c.tc : Thread Cert.InputsReferenceIdeal.nD Cert.InputsReferenceIdeal.τ).loc Cert.InputsReferenceIdeal.main_arg1) = m ((c.tc : Thread Cert.InputsReferenceIdeal.nD Cert.InputsReferenceIdeal.τ).loc Cert.InputsReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2))
      ∧ r.2.sem = fun _ => 0)

def quiescent_ResidualReferenceIdeal [hResidualReferenceIdeal : Cert.ResidualReferenceIdeal.Facts] : Prop :=
  ∀ (m : (ℓ : Loc Cert.ResidualReferenceIdeal.nD Cert.ResidualReferenceIdeal.τ Cert.ResidualReferenceIdeal.sig) → Buf (Elt Ideal) ℓ) (g : Dev Cert.ResidualReferenceIdeal.nD → PrngReg), Pre_ResidualReferenceIdeal m →
    θ_run (Cert.ResidualReferenceIdeal.defs (F := Ideal)) (onTc (τ := Cert.ResidualReferenceIdeal.τ) (Cert.ResidualReferenceIdeal.main (F := Ideal))) ⟨m, fun _ => 0, g⟩ (fun r => (∀ c : Dev Cert.ResidualReferenceIdeal.nD,
      r.2.mem ((c.tc : Thread Cert.ResidualReferenceIdeal.nD Cert.ResidualReferenceIdeal.τ).loc Cert.ResidualReferenceIdeal.main_arg0) = m ((c.tc : Thread Cert.ResidualReferenceIdeal.nD Cert.ResidualReferenceIdeal.τ).loc Cert.ResidualReferenceIdeal.main_arg0)
      ∧ r.2.mem ((c.tc : Thread Cert.ResidualReferenceIdeal.nD Cert.ResidualReferenceIdeal.τ).loc Cert.ResidualReferenceIdeal.main_arg1) = m ((c.tc : Thread Cert.ResidualReferenceIdeal.nD Cert.ResidualReferenceIdeal.τ).loc Cert.ResidualReferenceIdeal.main_arg1)
      ∧ r.2.mem ((c.tc : Thread Cert.ResidualReferenceIdeal.nD Cert.ResidualReferenceIdeal.τ).loc Cert.ResidualReferenceIdeal.main_arg2) = m ((c.tc : Thread Cert.ResidualReferenceIdeal.nD Cert.ResidualReferenceIdeal.τ).loc Cert.ResidualReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v8) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_Values_ValuesIdeal : Prop :=
  True

def algebraic_ValuesIdeal_ValuesReferenceIdeal [hValuesIdeal : Cert.ValuesIdeal.Facts] [hValuesReferenceIdeal : Cert.ValuesReferenceIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesReferenceIdeal.nD Cert.ValuesReferenceIdeal.τ Cert.ValuesReferenceIdeal.sig) → Buf (Elt Ideal) ℓ) (g' : Dev Cert.ValuesReferenceIdeal.nD → PrngReg), Pre_ValuesIdeal m →
    (∀ c : Dev Cert.ValuesIdeal.nD,
      m' ((c.tc : Thread Cert.ValuesReferenceIdeal.nD Cert.ValuesReferenceIdeal.τ).loc Cert.ValuesReferenceIdeal.main_arg0) = m ((c.tc : Thread Cert.ValuesIdeal.nD Cert.ValuesIdeal.τ).loc Cert.ValuesIdeal.main_arg0)
      ∧ m' ((c.tc : Thread Cert.ValuesReferenceIdeal.nD Cert.ValuesReferenceIdeal.τ).loc Cert.ValuesReferenceIdeal.main_arg1) = m ((c.tc : Thread Cert.ValuesIdeal.nD Cert.ValuesIdeal.τ).loc Cert.ValuesIdeal.main_arg1)) →
    ∃ (v0 : (c : Dev Cert.ValuesIdeal.nD) → Buf (Elt Ideal) ((c.tc : Thread Cert.ValuesIdeal.nD Cert.ValuesIdeal.τ).loc Cert.ValuesIdeal.main_v3)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v3) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ θ_run (Cert.ValuesReferenceIdeal.defs (F := Ideal)) (onTc (τ := Cert.ValuesReferenceIdeal.τ) (Cert.ValuesReferenceIdeal.main (F := Ideal))) ⟨m', fun _ => 0, g'⟩ (fun r => ∀ c : Dev Cert.ValuesReferenceIdeal.nD,
          r.2.mem ((c.tc : Thread Cert.ValuesReferenceIdeal.nD Cert.ValuesReferenceIdeal.τ).loc Cert.ValuesReferenceIdeal.main_v2) = v0 c
          ∧ r.2.mem ((c.tc : Thread Cert.ValuesReferenceIdeal.nD Cert.ValuesReferenceIdeal.τ).loc Cert.ValuesReferenceIdeal.main_arg0) = m' ((c.tc : Thread Cert.ValuesReferenceIdeal.nD Cert.ValuesReferenceIdeal.τ).loc Cert.ValuesReferenceIdeal.main_arg0)
          ∧ r.2.mem ((c.tc : Thread Cert.ValuesReferenceIdeal.nD Cert.ValuesReferenceIdeal.τ).loc Cert.ValuesReferenceIdeal.main_arg1) = m' ((c.tc : Thread Cert.ValuesReferenceIdeal.nD Cert.ValuesReferenceIdeal.τ).loc Cert.ValuesReferenceIdeal.main_arg1))

def preserves_Inputs_InputsIdeal : Prop :=
  True

def algebraic_InputsIdeal_InputsReferenceIdeal [hInputsIdeal : Cert.InputsIdeal.Facts] [hInputsReferenceIdeal : Cert.InputsReferenceIdeal.Facts] : Prop :=
  ∀ (m : (ℓ : Loc Cert.InputsIdeal.nD Cert.InputsIdeal.τ Cert.InputsIdeal.sig) → Buf (Elt Ideal) ℓ) (g : Dev Cert.InputsIdeal.nD → PrngReg)
    (m' : (ℓ : Loc Cert.InputsReferenceIdeal.nD Cert.InputsReferenceIdeal.τ Cert.InputsReferenceIdeal.sig) → Buf (Elt Ideal) ℓ) (g' : Dev Cert.InputsReferenceIdeal.nD → PrngReg), Pre_InputsIdeal m →
    (∀ c : Dev Cert.InputsIdeal.nD,
      m' ((c.tc : Thread Cert.InputsReferenceIdeal.nD Cert.InputsReferenceIdeal.τ).loc Cert.InputsReferenceIdeal.main_arg0) = m ((c.tc : Thread Cert.InputsIdeal.nD Cert.InputsIdeal.τ).loc Cert.InputsIdeal.main_arg0)
      ∧ m' ((c.tc : Thread Cert.InputsReferenceIdeal.nD Cert.InputsReferenceIdeal.τ).loc Cert.InputsReferenceIdeal.main_arg1) = m ((c.tc : Thread Cert.InputsIdeal.nD Cert.InputsIdeal.τ).loc Cert.InputsIdeal.main_arg1)) →
    ∃ (v0 : (c : Dev Cert.InputsIdeal.nD) → Buf (Elt Ideal) ((c.tc : Thread Cert.InputsIdeal.nD Cert.InputsIdeal.τ).loc Cert.InputsIdeal.main_v3)),
      θ_run (Cert.InputsIdeal.defs (F := Ideal)) (onTc (τ := Cert.InputsIdeal.τ) (Cert.InputsIdeal.main (F := Ideal))) ⟨m, fun _ => 0, g⟩ (fun r => ∀ c : Dev Cert.InputsIdeal.nD,
          r.2.mem ((c.tc : Thread Cert.InputsIdeal.nD Cert.InputsIdeal.τ).loc Cert.InputsIdeal.main_v3) = v0 c
          ∧ r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
          ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1))
      ∧ θ_run (Cert.InputsReferenceIdeal.defs (F := Ideal)) (onTc (τ := Cert.InputsReferenceIdeal.τ) (Cert.InputsReferenceIdeal.main (F := Ideal))) ⟨m', fun _ => 0, g'⟩ (fun r => ∀ c : Dev Cert.InputsReferenceIdeal.nD,
          r.2.mem ((c.tc : Thread Cert.InputsReferenceIdeal.nD Cert.InputsReferenceIdeal.τ).loc Cert.InputsReferenceIdeal.main_v2) = v0 c
          ∧ r.2.mem ((c.tc : Thread Cert.InputsReferenceIdeal.nD Cert.InputsReferenceIdeal.τ).loc Cert.InputsReferenceIdeal.main_arg0) = m' ((c.tc : Thread Cert.InputsReferenceIdeal.nD Cert.InputsReferenceIdeal.τ).loc Cert.InputsReferenceIdeal.main_arg0)
          ∧ r.2.mem ((c.tc : Thread Cert.InputsReferenceIdeal.nD Cert.InputsReferenceIdeal.τ).loc Cert.InputsReferenceIdeal.main_arg1) = m' ((c.tc : Thread Cert.InputsReferenceIdeal.nD Cert.InputsReferenceIdeal.τ).loc Cert.InputsReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v7) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_Residual_ResidualIdeal : Prop :=
  True

def algebraic_ResidualIdeal_ResidualReferenceIdeal [hResidualIdeal : Cert.ResidualIdeal.Facts] [hResidualReferenceIdeal : Cert.ResidualReferenceIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualReferenceIdeal.nD Cert.ResidualReferenceIdeal.τ Cert.ResidualReferenceIdeal.sig) → Buf (Elt Ideal) ℓ) (g' : Dev Cert.ResidualReferenceIdeal.nD → PrngReg), Pre_ResidualIdeal m →
    (∀ c : Dev Cert.ResidualIdeal.nD,
      m' ((c.tc : Thread Cert.ResidualReferenceIdeal.nD Cert.ResidualReferenceIdeal.τ).loc Cert.ResidualReferenceIdeal.main_arg0) = m ((c.tc : Thread Cert.ResidualIdeal.nD Cert.ResidualIdeal.τ).loc Cert.ResidualIdeal.main_arg0)
      ∧ m' ((c.tc : Thread Cert.ResidualReferenceIdeal.nD Cert.ResidualReferenceIdeal.τ).loc Cert.ResidualReferenceIdeal.main_arg1) = m ((c.tc : Thread Cert.ResidualIdeal.nD Cert.ResidualIdeal.τ).loc Cert.ResidualIdeal.main_arg1)
      ∧ m' ((c.tc : Thread Cert.ResidualReferenceIdeal.nD Cert.ResidualReferenceIdeal.τ).loc Cert.ResidualReferenceIdeal.main_arg2) = m ((c.tc : Thread Cert.ResidualIdeal.nD Cert.ResidualIdeal.τ).loc Cert.ResidualIdeal.main_arg2)) →
    ∃ (v0 : (c : Dev Cert.ResidualIdeal.nD) → Buf (Elt Ideal) ((c.tc : Thread Cert.ResidualIdeal.nD Cert.ResidualIdeal.τ).loc Cert.ResidualIdeal.main_v2)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v2) = v0 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2))
      ∧ θ_run (Cert.ResidualReferenceIdeal.defs (F := Ideal)) (onTc (τ := Cert.ResidualReferenceIdeal.τ) (Cert.ResidualReferenceIdeal.main (F := Ideal))) ⟨m', fun _ => 0, g'⟩ (fun r => ∀ c : Dev Cert.ResidualReferenceIdeal.nD,
          r.2.mem ((c.tc : Thread Cert.ResidualReferenceIdeal.nD Cert.ResidualReferenceIdeal.τ).loc Cert.ResidualReferenceIdeal.main_v1) = v0 c
          ∧ r.2.mem ((c.tc : Thread Cert.ResidualReferenceIdeal.nD Cert.ResidualReferenceIdeal.τ).loc Cert.ResidualReferenceIdeal.main_arg0) = m' ((c.tc : Thread Cert.ResidualReferenceIdeal.nD Cert.ResidualReferenceIdeal.τ).loc Cert.ResidualReferenceIdeal.main_arg0)
          ∧ r.2.mem ((c.tc : Thread Cert.ResidualReferenceIdeal.nD Cert.ResidualReferenceIdeal.τ).loc Cert.ResidualReferenceIdeal.main_arg1) = m' ((c.tc : Thread Cert.ResidualReferenceIdeal.nD Cert.ResidualReferenceIdeal.τ).loc Cert.ResidualReferenceIdeal.main_arg1)
          ∧ r.2.mem ((c.tc : Thread Cert.ResidualReferenceIdeal.nD Cert.ResidualReferenceIdeal.τ).loc Cert.ResidualReferenceIdeal.main_arg2) = m' ((c.tc : Thread Cert.ResidualReferenceIdeal.nD Cert.ResidualReferenceIdeal.τ).loc Cert.ResidualReferenceIdeal.main_arg2))

def Claim : Prop :=
  ∃ (hKernel : Cert.Kernel.Facts) (hKernelIdeal : Cert.KernelIdeal.Facts) (hReferenceIdeal : Cert.ReferenceIdeal.Facts) (hGates : Cert.Gates.Facts) (hGatesIdeal : Cert.GatesIdeal.Facts) (hGatesReferenceIdeal : Cert.GatesReferenceIdeal.Facts) (hValues : Cert.Values.Facts) (hValuesIdeal : Cert.ValuesIdeal.Facts) (hValuesReferenceIdeal : Cert.ValuesReferenceIdeal.Facts) (hInputs : Cert.Inputs.Facts) (hInputsIdeal : Cert.InputsIdeal.Facts) (hInputsReferenceIdeal : Cert.InputsReferenceIdeal.Facts) (hMix : Cert.Mix.Facts) (hMixIdeal : Cert.MixIdeal.Facts) (hMixReferenceIdeal : Cert.MixReferenceIdeal.Facts) (hResidual : Cert.Residual.Facts) (hResidualIdeal : Cert.ResidualIdeal.Facts) (hResidualReferenceIdeal : Cert.ResidualReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gates (hGates := hGates)
    ∧ quiescent_GatesIdeal (hGatesIdeal := hGatesIdeal)
    ∧ quiescent_GatesReferenceIdeal (hGatesReferenceIdeal := hGatesReferenceIdeal)
    ∧ quiescent_Values (hValues := hValues)
    ∧ quiescent_ValuesIdeal (hValuesIdeal := hValuesIdeal)
    ∧ quiescent_ValuesReferenceIdeal (hValuesReferenceIdeal := hValuesReferenceIdeal)
    ∧ quiescent_Inputs (hInputs := hInputs)
    ∧ quiescent_InputsIdeal (hInputsIdeal := hInputsIdeal)
    ∧ quiescent_InputsReferenceIdeal (hInputsReferenceIdeal := hInputsReferenceIdeal)
    ∧ quiescent_Mix (hMix := hMix)
    ∧ quiescent_MixIdeal (hMixIdeal := hMixIdeal)
    ∧ quiescent_MixReferenceIdeal (hMixReferenceIdeal := hMixReferenceIdeal)
    ∧ quiescent_Residual (hResidual := hResidual)
    ∧ quiescent_ResidualIdeal (hResidualIdeal := hResidualIdeal)
    ∧ quiescent_ResidualReferenceIdeal (hResidualReferenceIdeal := hResidualReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gates_GatesIdeal
    ∧ algebraic_GatesIdeal_GatesReferenceIdeal (hGatesIdeal := hGatesIdeal) (hGatesReferenceIdeal := hGatesReferenceIdeal)
    ∧ preserves_Values_ValuesIdeal
    ∧ algebraic_ValuesIdeal_ValuesReferenceIdeal (hValuesIdeal := hValuesIdeal) (hValuesReferenceIdeal := hValuesReferenceIdeal)
    ∧ preserves_Inputs_InputsIdeal
    ∧ algebraic_InputsIdeal_InputsReferenceIdeal (hInputsIdeal := hInputsIdeal) (hInputsReferenceIdeal := hInputsReferenceIdeal)
    ∧ preserves_Mix_MixIdeal
    ∧ algebraic_MixIdeal_MixReferenceIdeal (hMixIdeal := hMixIdeal) (hMixReferenceIdeal := hMixReferenceIdeal)
    ∧ preserves_Residual_ResidualIdeal
    ∧ algebraic_ResidualIdeal_ResidualReferenceIdeal (hResidualIdeal := hResidualIdeal) (hResidualReferenceIdeal := hResidualReferenceIdeal)
-- ==== Pre_finite.lean ====
abbrev S16384x2048 : Shape := ⟨2, ![16384, 2048]⟩
abbrev S16384x16 : Shape := ⟨2, ![16384, 16]⟩
abbrev S16x2048 : Shape := ⟨2, ![16, 2048]⟩
abbrev S16x16 : Shape := ⟨2, ![16, 16]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x16 : S_.BroadcastsInDim S16384x16 (![] : Fin 0 → Fin S16384x16.rank)
  reducesTo_S16384x16_S_d0_1 : S16384x16.ReducesTo [0, 1] S_
  bcast_S_S16x2048 : S_.BroadcastsInDim S16x2048 (![] : Fin 0 → Fin S16x2048.rank)
  reducesTo_S16x2048_S_d0_1 : S16x2048.ReducesTo [0, 1] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg6 : FVec F S16x16 .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  main_v23

def fn {F : FTy → Type} [FloatOps F] (main_arg0 : FVec F S16384x2048 .f32) (main_arg1 : FVec F S16384x2048 .f32) (main_arg2 : FVec F S16384x2048 .f32) (main_arg3 : FVec F S16384x16 .f32) (main_arg4 : FVec F S16x2048 .f32) (main_arg5 : FVec F S16x2048 .f32) (main_arg6 : FVec F S16x16 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x16 .f32 := Host.absf main_arg3
  let main_cst_2 : FVec F S_ .f32 := constant S_ .f32 0x7F800000#32
  let main_v10 : FVec F S16384x16 .f32 := broadcastInDim S16384x16 ![] bcast_S_S16384x16 main_cst_2
  let main_v11 : IVec S16384x16 1 := cmpf .olt main_v9 main_v10
  let main_c_3 : IVec S_ 1 := constantI S_ 1 1#1
  let main_v12 : IVec S_ 1 := (fun x v => Host.reduce IntOp.andi x v reducesTo_S16384x16_S_d0_1 h_S_) main_v11 main_c_3
  let main_v13 : IVec S_ 1 := andi main_v8 main_v12
  let main_v14 : FVec F S16x2048 .f32 := Host.absf main_arg4
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg6 main_v13 main_v16
-- ==== Kernel.lean ====
abbrev S16384x2048 : Shape := ⟨2, ![16384, 2048]⟩
abbrev S16384x16 : Shape := ⟨2, ![16384, 16]⟩
abbrev S16x2048 : Shape := ⟨2, ![16, 2048]⟩
abbrev S16x16 : Shape := ⟨2, ![16, 16]⟩
abbrev S_ : Shape := ⟨0, ![]⟩
abbrev S16384x4096 : Shape := ⟨2, ![16384, 4096]⟩
abbrev S16384x16x1 : Shape := ⟨3, ![16384, 16, 1]⟩
abbrev S16384x16x3 : Shape := ⟨3, ![16384, 16, 3]⟩
abbrev S16384x16x122 : Shape := ⟨3, ![16384, 16, 122]⟩
abbrev S16384x16x128 : Shape := ⟨3, ![16384, 16, 128]⟩
abbrev S16x16x1 : Shape := ⟨3, ![16, 16, 1]⟩
abbrev S16x16x3 : Shape := ⟨3, ![16, 16, 3]⟩
abbrev S16x16x122 : Shape := ⟨3, ![16, 16, 122]⟩
abbrev S16x16x128 : Shape := ⟨3, ![16, 16, 128]⟩
abbrev S112x2048 : Shape := ⟨2, ![112, 2048]⟩
abbrev S128x2048 : Shape := ⟨2, ![128, 2048]⟩
abbrev S1024x256 : Shape := ⟨2, ![1024, 256]⟩
abbrev S4096x256 : Shape := ⟨2, ![4096, 256]⟩
abbrev S128x256 : Shape := ⟨2, ![128, 256]⟩
abbrev S8x128 : Shape := ⟨2, ![8, 128]⟩
abbrev S1024x128 : Shape := ⟨2, ![1024, 128]⟩
abbrev S1024x1 : Shape := ⟨2, ![1024, 1]⟩
abbrev S1024 : Shape := ⟨1, ![1024]⟩
abbrev S1 : Shape := ⟨1, ![1]⟩
abbrev S1x1 : Shape := ⟨2, ![1, 1]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x1024x1 : Shape := ⟨3, ![1, 1024, 1]⟩
abbrev S1x1x1 : Shape := ⟨3, ![1, 1, 1]⟩
abbrev S1024x1024 : Shape := ⟨2, ![1024, 1024]⟩

abbrev nBuf : Space → Nat
  | .hbm => 109
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S16384x16, .f32⟩
  | .hbm, ⟨4, _⟩ => ⟨S16x2048, .f32⟩
  | .hbm, ⟨5, _⟩ => ⟨S16x2048, .f32⟩
  | .hbm, ⟨6, _⟩ => ⟨S16x16, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S16384x2048, .bf16⟩
  | .hbm, ⟨11, _⟩ => ⟨S16384x2048, .bf16⟩
  | .hbm, ⟨12, _⟩ => ⟨S16384x4096, .bf16⟩
  | .hbm, ⟨13, _⟩ => ⟨S16384x16, .bf16⟩
  | .hbm, ⟨14, _⟩ => ⟨S16384x16, .f32⟩
  | .hbm, ⟨15, _⟩ => ⟨S16384x16, .f32⟩
  | .hbm, ⟨16, _⟩ => ⟨S16384x16, .bf16⟩
  | .hbm, ⟨17, _⟩ => ⟨S16384x16, .f32⟩
  | .hbm, ⟨18, _⟩ => ⟨S16384x16, .f32⟩
  | .hbm, ⟨19, _⟩ => ⟨S16384x16, .bf16⟩
  | .hbm, ⟨20, _⟩ => ⟨S16384x16x1, .bf16⟩
  | .hbm, ⟨21, _⟩ => ⟨S16384x16x1, .bf16⟩
  | .hbm, ⟨22, _⟩ => ⟨S16384x16x1, .bf16⟩
  | .hbm, ⟨23, _⟩ => ⟨S16384x16x3, .bf16⟩
  | .hbm, ⟨24, _⟩ => ⟨S_, .bf16⟩
  | .hbm, ⟨25, _⟩ => ⟨S16384x16x3, .bf16⟩
  | .hbm, ⟨26, _⟩ => ⟨S_, .bf16⟩
  | .hbm, ⟨27, _⟩ => ⟨S16384x16x122, .bf16⟩
  | .hbm, ⟨28, _⟩ => ⟨S16384x16x128, .bf16⟩
  | .hbm, ⟨29, _⟩ => ⟨S16384x2048, .bf16⟩
  | .hbm, ⟨30, _⟩ => ⟨S16384x16, .bf16⟩
  | .hbm, ⟨31, _⟩ => ⟨S16384x16, .f32⟩
  | .hbm, ⟨32, _⟩ => ⟨S16384x16, .f32⟩
  | .hbm, ⟨33, _⟩ => ⟨S16384x16, .bf16⟩
  | .hbm, ⟨34, _⟩ => ⟨S16384x16, .f32⟩
  | .hbm, ⟨35, _⟩ => ⟨S16384x16, .f32⟩
  | .hbm, ⟨36, _⟩ => ⟨S16384x16, .bf16⟩
  | .hbm, ⟨37, _⟩ => ⟨S16384x16x1, .bf16⟩
  | .hbm, ⟨38, _⟩ => ⟨S16384x16x1, .bf16⟩
  | .hbm, ⟨39, _⟩ => ⟨S16384x16x1, .bf16⟩
  | .hbm, ⟨40, _⟩ => ⟨S16384x16x3, .bf16⟩
  | .hbm, ⟨41, _⟩ => ⟨S_, .bf16⟩
  | .hbm, ⟨42, _⟩ => ⟨S16384x16x3, .bf16⟩
  | .hbm, ⟨43, _⟩ => ⟨S16384x16x3, .bf16⟩
  | .hbm, ⟨44, _⟩ => ⟨S_, .bf16⟩
  | .hbm, ⟨45, _⟩ => ⟨S16384x16x122, .bf16⟩
  | .hbm, ⟨46, _⟩ => ⟨S16384x16x128, .bf16⟩
  | .hbm, ⟨47, _⟩ => ⟨S16384x2048, .bf16⟩
  | .hbm, ⟨48, _⟩ => ⟨S16x16, .bf16⟩
  | .hbm, ⟨49, _⟩ => ⟨S16x16, .f32⟩
  | .hbm, ⟨50, _⟩ => ⟨S16x16, .f32⟩
  | .hbm, ⟨51, _⟩ => ⟨S16x16, .bf16⟩
  | .hbm, ⟨52, _⟩ => ⟨S16x16, .f32⟩
  | .hbm, ⟨53, _⟩ => ⟨S16x16, .f32⟩
  | .hbm, ⟨54, _⟩ => ⟨S16x16, .bf16⟩
  | .hbm, ⟨55, _⟩ => ⟨S16x16x1, .bf16⟩
  | .hbm, ⟨56, _⟩ => ⟨S16x16x1, .bf16⟩
  | .hbm, ⟨57, _⟩ => ⟨S16x16x1, .bf16⟩
  | .hbm, ⟨58, _⟩ => ⟨S16x16x3, .bf16⟩
  | .hbm, ⟨59, _⟩ => ⟨S_, .bf16⟩
  | .hbm, ⟨60, _⟩ => ⟨S16x16x3, .bf16⟩
  | .hbm, ⟨61, _⟩ => ⟨S16x16x3, .bf16⟩
  | .hbm, ⟨62, _⟩ => ⟨S_, .bf16⟩
  | .hbm, ⟨63, _⟩ => ⟨S16x16x122, .bf16⟩
  | .hbm, ⟨64, _⟩ => ⟨S16x16x128, .bf16⟩
  | .hbm, ⟨65, _⟩ => ⟨S16x2048, .bf16⟩
  | .hbm, ⟨66, _⟩ => ⟨S112x2048, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i1⟩
  | .hbm, ⟨71, _⟩ => ⟨S_, .i32⟩
  | .hbm, ⟨72, _⟩ => ⟨S_, .i32⟩
  | .hbm, ⟨73, _⟩ => ⟨S112x2048, .i32⟩
  | .hbm, ⟨74, _⟩ => ⟨S112x2048, .i32⟩
  | .hbm, ⟨75, _⟩ => ⟨S_, .i32⟩
  | .hbm, ⟨76, _⟩ => ⟨S112x2048, .i32⟩
  | .hbm, ⟨77, _⟩ => ⟨S112x2048, .i1⟩
  | .hbm, ⟨78, _⟩ => ⟨S_, .i32⟩
  | .hbm, ⟨79, _⟩ => ⟨S112x2048, .i32⟩
  | .hbm, ⟨80, _⟩ => ⟨S112x2048, .i1⟩
  | .hbm, ⟨81, _⟩ => ⟨S_, .i32⟩
  | .hbm, ⟨82, _⟩ => ⟨S_, .i1⟩
  | .hbm, ⟨83, _⟩ => ⟨S112x2048, .i1⟩
  | .hbm, ⟨84, _⟩ => ⟨S112x2048, .i1⟩
  | .hbm, ⟨85, _⟩ => ⟨S112x2048, .i1⟩
  | .hbm, ⟨86, _⟩ => ⟨S112x2048, .i32⟩
  | .hbm, ⟨87, _⟩ => ⟨S112x2048, .i32⟩
  | .hbm, ⟨88, _⟩ => ⟨S112x2048, .i32⟩
  | .hbm, ⟨89, _⟩ => ⟨S_, .i32⟩
  | .hbm, ⟨90, _⟩ => ⟨S112x2048, .i32⟩
  | .hbm, ⟨91, _⟩ => ⟨S112x2048, .i1⟩
  | .hbm, ⟨92, _⟩ => ⟨S_, .f32⟩
  | .hbm, ⟨93, _⟩ => ⟨S_, .f32⟩
  | .hbm, ⟨94, _⟩ => ⟨S112x2048, .f32⟩
  | .hbm, ⟨95, _⟩ => ⟨S112x2048, .f32⟩
  | .hbm, ⟨96, _⟩ => ⟨S112x2048, .f32⟩
  | .hbm, ⟨97, _⟩ => ⟨S112x2048, .bf16⟩
  | .hbm, ⟨98, _⟩ => ⟨S128x2048, .bf16⟩
  | .hbm, ⟨99, _⟩ => ⟨S16x2048, .bf16⟩
  | .hbm, ⟨100, _⟩ => ⟨S_, .i32⟩
  | .hbm, ⟨101, _⟩ => ⟨S_, .bf16⟩
  | .hbm, ⟨102, _⟩ => ⟨S128x2048, .bf16⟩
  | .hbm, ⟨103, _⟩ => ⟨S16x2048, .bf16⟩
  | .hbm, ⟨104, _⟩ => ⟨S_, .i32⟩
  | .hbm, ⟨105, _⟩ => ⟨S_, .bf16⟩
  | .hbm, ⟨106, _⟩ => ⟨S128x2048, .bf16⟩
  | .hbm, ⟨107, _⟩ => ⟨S16384x2048, .bf16⟩
  | .hbm, ⟨108, _⟩ => ⟨S16384x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S128x256, .bf16⟩
  | .local _ .vmem, ⟨15, _⟩ => ⟨S128x256, .bf16⟩
  | .local _ .vmem, ⟨16, _⟩ => ⟨S1024x256, .bf16⟩
  | .local _ .vmem, ⟨17, _⟩ => ⟨S1024x256, .bf16⟩
  | .local _ .vmem, ⟨18, _⟩ => ⟨S8x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c : Ref sig .tc := ⟨.hbm, 67, rfl⟩
abbrev main_call0_v0 : Ref sig .tc := ⟨.hbm, 68, rfl⟩
abbrev main_call0_c : Ref sig .tc := ⟨.hbm, 69, rfl⟩
abbrev main_call0_v1 : Ref sig .tc := ⟨.hbm, 70, rfl⟩
abbrev main_call0_c_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_c_1 : Ref sig .tc := ⟨.hbm, 75, rfl⟩
abbrev main_call0_v5 : Ref sig .tc := ⟨.hbm, 76, rfl⟩
abbrev main_call0_v6 : Ref sig .tc := ⟨.hbm, 77, rfl⟩
abbrev main_call0_c_2 : Ref sig .tc := ⟨.hbm, 78, rfl⟩
abbrev main_call0_v7 : Ref sig .tc := ⟨.hbm, 79, rfl⟩
abbrev main_call0_v8 : Ref sig .tc := ⟨.hbm, 80, rfl⟩
abbrev main_call0_c_3 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_v12 : Ref sig .tc := ⟨.hbm, 85, rfl⟩
abbrev main_call0_v13 : Ref sig .tc := ⟨.hbm, 86, rfl⟩
abbrev main_call0_v14 : Ref sig .tc := ⟨.hbm, 87, rfl⟩
abbrev main_v53 : Ref sig .tc := ⟨.hbm, 88, rfl⟩
abbrev main_c_6 : Ref sig .tc := ⟨.hbm, 89, rfl⟩
abbrev main_v54 : Ref sig .tc := ⟨.hbm, 90, rfl⟩
abbrev main_v55 : Ref sig .tc := ⟨.hbm, 91, rfl⟩
abbrev main_cst_7 : Ref sig .tc := ⟨.hbm, 92, rfl⟩
abbrev main_cst_8 : Ref sig .tc := ⟨.hbm, 93, rfl⟩
abbrev main_call1_v0 : Ref sig .tc := ⟨.hbm, 94, rfl⟩
abbrev main_call1_v1 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_9 : Ref sig .tc := ⟨.hbm, 100, rfl⟩
abbrev main_call2_v0 : Ref sig .tc := ⟨.hbm, 101, rfl⟩
abbrev main_v60 : Ref sig .tc := ⟨.hbm, 102, rfl⟩
abbrev main_v61 : Ref sig .tc := ⟨.hbm, 103, rfl⟩
abbrev main_c_10 : Ref sig .tc := ⟨.hbm, 104, rfl⟩
abbrev main_call3_v0 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 4], ![false, false, false]⟩

def k0_cond1 (i : grid0.Coords) : BitVec 1 :=
  let arg2 : BitVec 32 := BitVec.ofNat 32 (i 2).val
  let c0_i32_20 : BitVec 32 := 0#32
  let v48 : BitVec 1 := Scalar.cmpi .eq arg2 c0_i32_20
  let v49 : BitVec 32 := Scalar.extui v48
  let c0_i32_21 : BitVec 32 := 0#32
  let v50 : BitVec 1 := Scalar.cmpi .ne v49 c0_i32_21
  v50

@[reducible] def k0_t1_loop : Scf.Loop 32 :=
  let c0_i32_85 : BitVec 32 := 0#32
  let c4_i32 : BitVec 32 := 4#32
  let v269 : BitVec 32 := Scalar.addi c0_i32_85 c4_i32
  let c1_i32_86 : BitVec 32 := 1#32
  ⟨c0_i32_85, v269, c1_i32_86⟩
def k0_mult1 (k0_t1 : Fin k0_t1_loop.trips) : BitVec 32 :=
  let c0_i32_85 : BitVec 32 := 0#32
  let c1_i32_86 : BitVec 32 := 1#32
  let arg13 : BitVec 32 := Scf.iv c0_i32_85 c1_i32_86 k0_t1
  let c1024_i32_107 : BitVec 32 := 1024#32
  let v306 : BitVec 32 := Scalar.muli arg13 c1024_i32_107
  v306
def k0_off1 (k0_t1 : Fin k0_t1_loop.trips) : Fin 2 → Nat :=
  let c0_i32_85 : BitVec 32 := 0#32
  let c1_i32_86 : BitVec 32 := 1#32
  let arg13 : BitVec 32 := Scf.iv c0_i32_85 c1_i32_86 k0_t1
  let c1024_i32_107 : BitVec 32 := 1024#32
  let v306 : BitVec 32 := Scalar.muli arg13 c1024_i32_107
  let v307 : BitVec 32 := v306
  let v308 : Index := Scalar.indexCast v307
  let c0_108 : Index := 0#32
  ![v308.toNat, 0]
@[reducible] def k0_t2_loop : Scf.Loop 32 :=
  let c0_i32_96 : BitVec 32 := 0#32
  let c4_i32_97 : BitVec 32 := 4#32
  let v288 : BitVec 32 := Scalar.addi c0_i32_96 c4_i32_97
  let c1_i32_98 : BitVec 32 := 1#32
  ⟨c0_i32_96, v288, c1_i32_98⟩
def k0_mult2 (k0_t2 : Fin k0_t2_loop.trips) : BitVec 32 :=
  let c0_i32_96 : BitVec 32 := 0#32
  let c1_i32_98 : BitVec 32 := 1#32
  let arg13 : BitVec 32 := Scf.iv c0_i32_96 c1_i32_98 k0_t2
  let c1024_i32_107 : BitVec 32 := 1024#32
  let v306 : BitVec 32 := Scalar.muli arg13 c1024_i32_107
  v306
def k0_off2 (k0_t2 : Fin k0_t2_loop.trips) : Fin 2 → Nat :=
  let c0_i32_96 : BitVec 32 := 0#32
  let c1_i32_98 : BitVec 32 := 1#32
  let arg13 : BitVec 32 := Scf.iv c0_i32_96 c1_i32_98 k0_t2
  let c1024_i32_107 : BitVec 32 := 1024#32
  let v306 : BitVec 32 := Scalar.muli arg13 c1024_i32_107
  let v307 : BitVec 32 := v306
  let v308 : Index := Scalar.indexCast v307
  let c128_108 : Index := 128#32
  ![v308.toNat, 128]
@[reducible] def k0_t3_loop (i : grid0.Coords) : Scf.Loop 32 :=
  let c0_i32_84 : BitVec 32 := 0#32
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let v268 : BitVec 32 := Scalar.subi v27 c0_i32_84
  let c1_i32_85 : BitVec 32 := 1#32
  let v270 : BitVec 32 := Scalar.divsi v268 c1_i32_85
  let v271 : BitVec 32 := Scalar.muli v270 c1_i32_85
  let v272 : BitVec 32 := Scalar.addi c0_i32_84 v271
  let c1_i32_86 : BitVec 32 := 1#32
  ⟨c0_i32_84, v272, c1_i32_86⟩
def k0_mult3 (i : grid0.Coords) (k0_t3 : Fin (k0_t3_loop i).trips) : BitVec 32 :=
  let c0_i32_84 : BitVec 32 := 0#32
  let c1_i32_86 : BitVec 32 := 1#32
  let arg13 : BitVec 32 := Scf.iv c0_i32_84 c1_i32_86 k0_t3
  let c1024_i32_104 : BitVec 32 := 1024#32
  let v352 : BitVec 32 := Scalar.muli arg13 c1024_i32_104
  v352
def k0_off3 (i : grid0.Coords) (k0_t3 : Fin (k0_t3_loop i).trips) : Fin 2 → Nat :=
  let c0_i32_84 : BitVec 32 := 0#32
  let c1_i32_86 : BitVec 32 := 1#32
  let arg13 : BitVec 32 := Scf.iv c0_i32_84 c1_i32_86 k0_t3
  let c1024_i32_104 : BitVec 32 := 1024#32
  let v352 : BitVec 32 := Scalar.muli arg13 c1024_i32_104
  let v353 : BitVec 32 := v352
  let v354 : Index := Scalar.indexCast v353
  let c0_105 : Index := 0#32
  ![v354.toNat, 0]
def k0_mult4 (i : grid0.Coords) (k0_t3 : Fin (k0_t3_loop i).trips) : BitVec 32 :=
  let c0_i32_84 : BitVec 32 := 0#32
  let c1_i32_86 : BitVec 32 := 1#32
  let arg13 : BitVec 32 := Scf.iv c0_i32_84 c1_i32_86 k0_t3
  let c1024_i32_104 : BitVec 32 := 1024#32
  let v352 : BitVec 32 := Scalar.muli arg13 c1024_i32_104
  v352
def k0_off4 (i : grid0.Coords) (k0_t3 : Fin (k0_t3_loop i).trips) : Fin 2 → Nat :=
  let c0_i32_84 : BitVec 32 := 0#32
  let c1_i32_86 : BitVec 32 := 1#32
  let arg13 : BitVec 32 := Scf.iv c0_i32_84 c1_i32_86 k0_t3
  let c1024_i32_104 : BitVec 32 := 1024#32
  let v352 : BitVec 32 := Scalar.muli arg13 c1024_i32_104
  let v378 : BitVec 32 := v352
  let v379 : Index := Scalar.indexCast v378
  let c128_108 : Index := 128#32
  ![v379.toNat, 128]
@[reducible] def k0_t4_loop (i : grid0.Coords) : Scf.Loop 32 :=
  let c0_i32_84 : BitVec 32 := 0#32
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let v268 : BitVec 32 := Scalar.subi v27 c0_i32_84
  let c1_i32_85 : BitVec 32 := 1#32
  let v270 : BitVec 32 := Scalar.divsi v268 c1_i32_85
  let v271 : BitVec 32 := Scalar.muli v270 c1_i32_85
  let v272 : BitVec 32 := Scalar.addi c0_i32_84 v271
  let v269 : BitVec 32 := Scalar.addi c0_i32_84 v268
  let c1_i32_87 : BitVec 32 := 1#32
  ⟨v272, v269, c1_i32_87⟩
def k0_mult5 (i : grid0.Coords) (k0_t4 : Fin (k0_t4_loop i).trips) : BitVec 32 :=
  let c0_i32_84 : BitVec 32 := 0#32
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let v268 : BitVec 32 := Scalar.subi v27 c0_i32_84
  let c1_i32_85 : BitVec 32 := 1#32
  let v270 : BitVec 32 := Scalar.divsi v268 c1_i32_85
  let v271 : BitVec 32 := Scalar.muli v270 c1_i32_85
  let v272 : BitVec 32 := Scalar.addi c0_i32_84 v271
  let c1_i32_87 : BitVec 32 := 1#32
  let arg13 : BitVec 32 := Scf.iv v272 c1_i32_87 k0_t4
  let c1024_i32_104 : BitVec 32 := 1024#32
  let v352 : BitVec 32 := Scalar.muli arg13 c1024_i32_104
  v352
def k0_off5 (i : grid0.Coords) (k0_t4 : Fin (k0_t4_loop i).trips) : Fin 2 → Nat :=
  let c0_i32_84 : BitVec 32 := 0#32
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let v268 : BitVec 32 := Scalar.subi v27 c0_i32_84
  let c1_i32_85 : BitVec 32 := 1#32
  let v270 : BitVec 32 := Scalar.divsi v268 c1_i32_85
  let v271 : BitVec 32 := Scalar.muli v270 c1_i32_85
  let v272 : BitVec 32 := Scalar.addi c0_i32_84 v271
  let c1_i32_87 : BitVec 32 := 1#32
  let arg13 : BitVec 32 := Scf.iv v272 c1_i32_87 k0_t4
  let c1024_i32_104 : BitVec 32 := 1024#32
  let v352 : BitVec 32 := Scalar.muli arg13 c1024_i32_104
  let v353 : BitVec 32 := v352
  let v354 : Index := Scalar.indexCast v353
  let c0_105 : Index := 0#32
  ![v354.toNat, 0]
def k0_mult6 (i : grid0.Coords) (k0_t4 : Fin (k0_t4_loop i).trips) : BitVec 32 :=
  let c0_i32_84 : BitVec 32 := 0#32
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let v268 : BitVec 32 := Scalar.subi v27 c0_i32_84
  let c1_i32_85 : BitVec 32 := 1#32
  let v270 : BitVec 32 := Scalar.divsi v268 c1_i32_85
  let v271 : BitVec 32 := Scalar.muli v270 c1_i32_85
  let v272 : BitVec 32 := Scalar.addi c0_i32_84 v271
  let c1_i32_87 : BitVec 32 := 1#32
  let arg13 : BitVec 32 := Scf.iv v272 c1_i32_87 k0_t4
  let c1024_i32_104 : BitVec 32 := 1024#32
  let v352 : BitVec 32 := Scalar.muli arg13 c1024_i32_104
  v352
def k0_off6 (i : grid0.Coords) (k0_t4 : Fin (k0_t4_loop i).trips) : Fin 2 → Nat :=
  let c0_i32_84 : BitVec 32 := 0#32
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let v268 : BitVec 32 := Scalar.subi v27 c0_i32_84
  let c1_i32_85 : BitVec 32 := 1#32
  let v270 : BitVec 32 := Scalar.divsi v268 c1_i32_85
  let v271 : BitVec 32 := Scalar.muli v270 c1_i32_85
  let v272 : BitVec 32 := Scalar.addi c0_i32_84 v271
  let c1_i32_87 : BitVec 32 := 1#32
  let arg13 : BitVec 32 := Scf.iv v272 c1_i32_87 k0_t4
  let c1024_i32_104 : BitVec 32 := 1024#32
  let v352 : BitVec 32 := Scalar.muli arg13 c1024_i32_104
  let v378 : BitVec 32 := v352
  let v379 : Index := Scalar.indexCast v378
  let c128_108 : Index := 128#32
  ![v379.toNat, 128]
@[reducible] def k0_t5_loop (i : grid0.Coords) : Scf.Loop 32 :=
  let c0_i32_88 : BitVec 32 := 0#32
  let arg2 : BitVec 32 := BitVec.ofNat 32 (i 2).val
  let c1024_i32_11 : BitVec 32 := 1024#32
  let v28 : BitVec 32 := Scalar.muli arg2 c1024_i32_11
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_12 : BitVec 32 := 1024#32
  let v29 : BitVec 32 := Scalar.muli v27 c1024_i32_12
  let v30 : BitVec 32 := Scalar.subi v28 v29
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c1024_i32_13 : BitVec 32 := 1024#32
  let c0_i32_16 : BitVec 32 := 0#32
  let v37 : BitVec 1 := Scalar.cmpi .sgt c1024_i32_13 c0_i32_16
  let v38 : BitVec 32 := Scalar.extui v37
  let c0_i32_17 : BitVec 32 := 0#32
  let v39 : BitVec 1 := Scalar.cmpi .slt c1024_i32_13 c0_i32_17
  let v40 : BitVec 32 := Scalar.extui v39
  let v41 : BitVec 32 := Scalar.subi v38 v40
  let v42 : BitVec 1 := Scalar.cmpi .ne v36 v41
  let v43 : BitVec 32 := Scalar.remsi v30 c1024_i32_13
  let c0_i32_18 : BitVec 32 := 0#32
  let v44 : BitVec 1 := Scalar.cmpi .ne v43 c0_i32_18
  let v45 : BitVec 1 := Scalar.andi v42 v44
  let v31 : BitVec 32 := Scalar.divsi v30 c1024_i32_13
  let c1_i32_19 : BitVec 32 := 1#32
  let v46 : BitVec 32 := Scalar.subi v31 c1_i32_19
  let v47 : BitVec 32 := Scalar.select v45 v46 v31
  let v275 : BitVec 32 := Scalar.subi v47 c0_i32_88
  let c1_i32_89 : BitVec 32 := 1#32
  let v277 : BitVec 32 := Scalar.divsi v275 c1_i32_89
  let v278 : BitVec 32 := Scalar.muli v277 c1_i32_89
  let v279 : BitVec 32 := Scalar.addi c0_i32_88 v278
  let c1_i32_90 : BitVec 32 := 1#32
  ⟨c0_i32_88, v279, c1_i32_90⟩
def k0_mult7 (i : grid0.Coords) (k0_t5 : Fin (k0_t5_loop i).trips) : BitVec 32 :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_104 : BitVec 32 := 1024#32
  let v352 : BitVec 32 := Scalar.muli v27 c1024_i32_104
  let c0_i32_88 : BitVec 32 := 0#32
  let c1_i32_90 : BitVec 32 := 1#32
  let arg13 : BitVec 32 := Scf.iv c0_i32_88 c1_i32_90 k0_t5
  let c1024_i32_105 : BitVec 32 := 1024#32
  let v353 : BitVec 32 := Scalar.muli arg13 c1024_i32_105
  let v354 : BitVec 32 := Scalar.addi v352 v353
  v354
def k0_off7 (i : grid0.Coords) (k0_t5 : Fin (k0_t5_loop i).trips) : Fin 2 → Nat :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_104 : BitVec 32 := 1024#32
  let v352 : BitVec 32 := Scalar.muli v27 c1024_i32_104
  let c0_i32_88 : BitVec 32 := 0#32
  let c1_i32_90 : BitVec 32 := 1#32
  let arg13 : BitVec 32 := Scf.iv c0_i32_88 c1_i32_90 k0_t5
  let c1024_i32_105 : BitVec 32 := 1024#32
  let v353 : BitVec 32 := Scalar.muli arg13 c1024_i32_105
  let v354 : BitVec 32 := Scalar.addi v352 v353
  let v355 : BitVec 32 := v354
  let v356 : Index := Scalar.indexCast v355
  let c0_106 : Index := 0#32
  ![v356.toNat, 0]
def k0_mult8 (i : grid0.Coords) (k0_t5 : Fin (k0_t5_loop i).trips) : BitVec 32 :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_104 : BitVec 32 := 1024#32
  let v352 : BitVec 32 := Scalar.muli v27 c1024_i32_104
  let c0_i32_88 : BitVec 32 := 0#32
  let c1_i32_90 : BitVec 32 := 1#32
  let arg13 : BitVec 32 := Scf.iv c0_i32_88 c1_i32_90 k0_t5
  let c1024_i32_105 : BitVec 32 := 1024#32
  let v353 : BitVec 32 := Scalar.muli arg13 c1024_i32_105
  let v354 : BitVec 32 := Scalar.addi v352 v353
  v354
def k0_off8 (i : grid0.Coords) (k0_t5 : Fin (k0_t5_loop i).trips) : Fin 2 → Nat :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_104 : BitVec 32 := 1024#32
  let v352 : BitVec 32 := Scalar.muli v27 c1024_i32_104
  let c0_i32_88 : BitVec 32 := 0#32
  let c1_i32_90 : BitVec 32 := 1#32
  let arg13 : BitVec 32 := Scf.iv c0_i32_88 c1_i32_90 k0_t5
  let c1024_i32_105 : BitVec 32 := 1024#32
  let v353 : BitVec 32 := Scalar.muli arg13 c1024_i32_105
  let v354 : BitVec 32 := Scalar.addi v352 v353
  let v380 : BitVec 32 := v354
  let v381 : Index := Scalar.indexCast v380
  let c128_109 : Index := 128#32
  ![v381.toNat, 128]
@[reducible] def k0_t6_loop (i : grid0.Coords) : Scf.Loop 32 :=
  let c0_i32_88 : BitVec 32 := 0#32
  let arg2 : BitVec 32 := BitVec.ofNat 32 (i 2).val
  let c1024_i32_11 : BitVec 32 := 1024#32
  let v28 : BitVec 32 := Scalar.muli arg2 c1024_i32_11
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_12 : BitVec 32 := 1024#32
  let v29 : BitVec 32 := Scalar.muli v27 c1024_i32_12
  let v30 : BitVec 32 := Scalar.subi v28 v29
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c1024_i32_13 : BitVec 32 := 1024#32
  let c0_i32_16 : BitVec 32 := 0#32
  let v37 : BitVec 1 := Scalar.cmpi .sgt c1024_i32_13 c0_i32_16
  let v38 : BitVec 32 := Scalar.extui v37
  let c0_i32_17 : BitVec 32 := 0#32
  let v39 : BitVec 1 := Scalar.cmpi .slt c1024_i32_13 c0_i32_17
  let v40 : BitVec 32 := Scalar.extui v39
  let v41 : BitVec 32 := Scalar.subi v38 v40
  let v42 : BitVec 1 := Scalar.cmpi .ne v36 v41
  let v43 : BitVec 32 := Scalar.remsi v30 c1024_i32_13
  let c0_i32_18 : BitVec 32 := 0#32
  let v44 : BitVec 1 := Scalar.cmpi .ne v43 c0_i32_18
  let v45 : BitVec 1 := Scalar.andi v42 v44
  let v31 : BitVec 32 := Scalar.divsi v30 c1024_i32_13
  let c1_i32_19 : BitVec 32 := 1#32
  let v46 : BitVec 32 := Scalar.subi v31 c1_i32_19
  let v47 : BitVec 32 := Scalar.select v45 v46 v31
  let v275 : BitVec 32 := Scalar.subi v47 c0_i32_88
  let c1_i32_89 : BitVec 32 := 1#32
  let v277 : BitVec 32 := Scalar.divsi v275 c1_i32_89
  let v278 : BitVec 32 := Scalar.muli v277 c1_i32_89
  let v279 : BitVec 32 := Scalar.addi c0_i32_88 v278
  let v276 : BitVec 32 := Scalar.addi c0_i32_88 v275
  let c1_i32_91 : BitVec 32 := 1#32
  ⟨v279, v276, c1_i32_91⟩
def k0_mult9 (i : grid0.Coords) (k0_t6 : Fin (k0_t6_loop i).trips) : BitVec 32 :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_104 : BitVec 32 := 1024#32
  let v352 : BitVec 32 := Scalar.muli v27 c1024_i32_104
  let c0_i32_88 : BitVec 32 := 0#32
  let c1024_i32_11 : BitVec 32 := 1024#32
  let v28 : BitVec 32 := Scalar.muli arg2 c1024_i32_11
  let c1024_i32_12 : BitVec 32 := 1024#32
  let v29 : BitVec 32 := Scalar.muli v27 c1024_i32_12
  let v30 : BitVec 32 := Scalar.subi v28 v29
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c1024_i32_13 : BitVec 32 := 1024#32
  let c0_i32_16 : BitVec 32 := 0#32
  let v37 : BitVec 1 := Scalar.cmpi .sgt c1024_i32_13 c0_i32_16
  let v38 : BitVec 32 := Scalar.extui v37
  let c0_i32_17 : BitVec 32 := 0#32
  let v39 : BitVec 1 := Scalar.cmpi .slt c1024_i32_13 c0_i32_17
  let v40 : BitVec 32 := Scalar.extui v39
  let v41 : BitVec 32 := Scalar.subi v38 v40
  let v42 : BitVec 1 := Scalar.cmpi .ne v36 v41
  let v43 : BitVec 32 := Scalar.remsi v30 c1024_i32_13
  let c0_i32_18 : BitVec 32 := 0#32
  let v44 : BitVec 1 := Scalar.cmpi .ne v43 c0_i32_18
  let v45 : BitVec 1 := Scalar.andi v42 v44
  let v31 : BitVec 32 := Scalar.divsi v30 c1024_i32_13
  let c1_i32_19 : BitVec 32 := 1#32
  let v46 : BitVec 32 := Scalar.subi v31 c1_i32_19
  let v47 : BitVec 32 := Scalar.select v45 v46 v31
  let v275 : BitVec 32 := Scalar.subi v47 c0_i32_88
  let c1_i32_89 : BitVec 32 := 1#32
  let v277 : BitVec 32 := Scalar.divsi v275 c1_i32_89
  let v278 : BitVec 32 := Scalar.muli v277 c1_i32_89
  let v279 : BitVec 32 := Scalar.addi c0_i32_88 v278
  let c1_i32_91 : BitVec 32 := 1#32
  let arg13 : BitVec 32 := Scf.iv v279 c1_i32_91 k0_t6
  let c1024_i32_105 : BitVec 32 := 1024#32
  let v353 : BitVec 32 := Scalar.muli arg13 c1024_i32_105
  let v354 : BitVec 32 := Scalar.addi v352 v353
  v354
def k0_off9 (i : grid0.Coords) (k0_t6 : Fin (k0_t6_loop i).trips) : Fin 2 → Nat :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_104 : BitVec 32 := 1024#32
  let v352 : BitVec 32 := Scalar.muli v27 c1024_i32_104
  let c0_i32_88 : BitVec 32 := 0#32
  let c1024_i32_11 : BitVec 32 := 1024#32
  let v28 : BitVec 32 := Scalar.muli arg2 c1024_i32_11
  let c1024_i32_12 : BitVec 32 := 1024#32
  let v29 : BitVec 32 := Scalar.muli v27 c1024_i32_12
  let v30 : BitVec 32 := Scalar.subi v28 v29
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c1024_i32_13 : BitVec 32 := 1024#32
  let c0_i32_16 : BitVec 32 := 0#32
  let v37 : BitVec 1 := Scalar.cmpi .sgt c1024_i32_13 c0_i32_16
  let v38 : BitVec 32 := Scalar.extui v37
  let c0_i32_17 : BitVec 32 := 0#32
  let v39 : BitVec 1 := Scalar.cmpi .slt c1024_i32_13 c0_i32_17
  let v40 : BitVec 32 := Scalar.extui v39
  let v41 : BitVec 32 := Scalar.subi v38 v40
  let v42 : BitVec 1 := Scalar.cmpi .ne v36 v41
  let v43 : BitVec 32 := Scalar.remsi v30 c1024_i32_13
  let c0_i32_18 : BitVec 32 := 0#32
  let v44 : BitVec 1 := Scalar.cmpi .ne v43 c0_i32_18
  let v45 : BitVec 1 := Scalar.andi v42 v44
  let v31 : BitVec 32 := Scalar.divsi v30 c1024_i32_13
  let c1_i32_19 : BitVec 32 := 1#32
  let v46 : BitVec 32 := Scalar.subi v31 c1_i32_19
  let v47 : BitVec 32 := Scalar.select v45 v46 v31
  let v275 : BitVec 32 := Scalar.subi v47 c0_i32_88
  let c1_i32_89 : BitVec 32 := 1#32
  let v277 : BitVec 32 := Scalar.divsi v275 c1_i32_89
  let v278 : BitVec 32 := Scalar.muli v277 c1_i32_89
  let v279 : BitVec 32 := Scalar.addi c0_i32_88 v278
  let c1_i32_91 : BitVec 32 := 1#32
  let arg13 : BitVec 32 := Scf.iv v279 c1_i32_91 k0_t6
  let c1024_i32_105 : BitVec 32 := 1024#32
  let v353 : BitVec 32 := Scalar.muli arg13 c1024_i32_105
  let v354 : BitVec 32 := Scalar.addi v352 v353
  let v355 : BitVec 32 := v354
  let v356 : Index := Scalar.indexCast v355
  let c0_106 : Index := 0#32
  ![v356.toNat, 0]
def k0_mult10 (i : grid0.Coords) (k0_t6 : Fin (k0_t6_loop i).trips) : BitVec 32 :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_104 : BitVec 32 := 1024#32
  let v352 : BitVec 32 := Scalar.muli v27 c1024_i32_104
  let c0_i32_88 : BitVec 32 := 0#32
  let c1024_i32_11 : BitVec 32 := 1024#32
  let v28 : BitVec 32 := Scalar.muli arg2 c1024_i32_11
  let c1024_i32_12 : BitVec 32 := 1024#32
  let v29 : BitVec 32 := Scalar.muli v27 c1024_i32_12
  let v30 : BitVec 32 := Scalar.subi v28 v29
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c1024_i32_13 : BitVec 32 := 1024#32
  let c0_i32_16 : BitVec 32 := 0#32
  let v37 : BitVec 1 := Scalar.cmpi .sgt c1024_i32_13 c0_i32_16
  let v38 : BitVec 32 := Scalar.extui v37
  let c0_i32_17 : BitVec 32 := 0#32
  let v39 : BitVec 1 := Scalar.cmpi .slt c1024_i32_13 c0_i32_17
  let v40 : BitVec 32 := Scalar.extui v39
  let v41 : BitVec 32 := Scalar.subi v38 v40
  let v42 : BitVec 1 := Scalar.cmpi .ne v36 v41
  let v43 : BitVec 32 := Scalar.remsi v30 c1024_i32_13
  let c0_i32_18 : BitVec 32 := 0#32
  let v44 : BitVec 1 := Scalar.cmpi .ne v43 c0_i32_18
  let v45 : BitVec 1 := Scalar.andi v42 v44
  let v31 : BitVec 32 := Scalar.divsi v30 c1024_i32_13
  let c1_i32_19 : BitVec 32 := 1#32
  let v46 : BitVec 32 := Scalar.subi v31 c1_i32_19
  let v47 : BitVec 32 := Scalar.select v45 v46 v31
  let v275 : BitVec 32 := Scalar.subi v47 c0_i32_88
  let c1_i32_89 : BitVec 32 := 1#32
  let v277 : BitVec 32 := Scalar.divsi v275 c1_i32_89
  let v278 : BitVec 32 := Scalar.muli v277 c1_i32_89
  let v279 : BitVec 32 := Scalar.addi c0_i32_88 v278
  let c1_i32_91 : BitVec 32 := 1#32
  let arg13 : BitVec 32 := Scf.iv v279 c1_i32_91 k0_t6
  let c1024_i32_105 : BitVec 32 := 1024#32
  let v353 : BitVec 32 := Scalar.muli arg13 c1024_i32_105
  let v354 : BitVec 32 := Scalar.addi v352 v353
  v354
def k0_off10 (i : grid0.Coords) (k0_t6 : Fin (k0_t6_loop i).trips) : Fin 2 → Nat :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_104 : BitVec 32 := 1024#32
  let v352 : BitVec 32 := Scalar.muli v27 c1024_i32_104
  let c0_i32_88 : BitVec 32 := 0#32
  let c1024_i32_11 : BitVec 32 := 1024#32
  let v28 : BitVec 32 := Scalar.muli arg2 c1024_i32_11
  let c1024_i32_12 : BitVec 32 := 1024#32
  let v29 : BitVec 32 := Scalar.muli v27 c1024_i32_12
  let v30 : BitVec 32 := Scalar.subi v28 v29
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c1024_i32_13 : BitVec 32 := 1024#32
  let c0_i32_16 : BitVec 32 := 0#32
  let v37 : BitVec 1 := Scalar.cmpi .sgt c1024_i32_13 c0_i32_16
  let v38 : BitVec 32 := Scalar.extui v37
  let c0_i32_17 : BitVec 32 := 0#32
  let v39 : BitVec 1 := Scalar.cmpi .slt c1024_i32_13 c0_i32_17
  let v40 : BitVec 32 := Scalar.extui v39
  let v41 : BitVec 32 := Scalar.subi v38 v40
  let v42 : BitVec 1 := Scalar.cmpi .ne v36 v41
  let v43 : BitVec 32 := Scalar.remsi v30 c1024_i32_13
  let c0_i32_18 : BitVec 32 := 0#32
  let v44 : BitVec 1 := Scalar.cmpi .ne v43 c0_i32_18
  let v45 : BitVec 1 := Scalar.andi v42 v44
  let v31 : BitVec 32 := Scalar.divsi v30 c1024_i32_13
  let c1_i32_19 : BitVec 32 := 1#32
  let v46 : BitVec 32 := Scalar.subi v31 c1_i32_19
  let v47 : BitVec 32 := Scalar.select v45 v46 v31
  let v275 : BitVec 32 := Scalar.subi v47 c0_i32_88
  let c1_i32_89 : BitVec 32 := 1#32
  let v277 : BitVec 32 := Scalar.divsi v275 c1_i32_89
  let v278 : BitVec 32 := Scalar.muli v277 c1_i32_89
  let v279 : BitVec 32 := Scalar.addi c0_i32_88 v278
  let c1_i32_91 : BitVec 32 := 1#32
  let arg13 : BitVec 32 := Scf.iv v279 c1_i32_91 k0_t6
  let c1024_i32_105 : BitVec 32 := 1024#32
  let v353 : BitVec 32 := Scalar.muli arg13 c1024_i32_105
  let v354 : BitVec 32 := Scalar.addi v352 v353
  let v380 : BitVec 32 := v354
  let v381 : Index := Scalar.indexCast v380
  let c128_109 : Index := 128#32
  ![v381.toNat, 128]
def k0_mult11 (i : grid0.Coords) : BitVec 32 :=
  let arg2 : BitVec 32 := BitVec.ofNat 32 (i 2).val
  let c1024_i32_92 : BitVec 32 := 1024#32
  let v285 : BitVec 32 := Scalar.muli arg2 c1024_i32_92
  v285
def k0_off11 (i : grid0.Coords) : Fin 2 → Nat :=
  let arg2 : BitVec 32 := BitVec.ofNat 32 (i 2).val
  let c1024_i32_92 : BitVec 32 := 1024#32
  let v285 : BitVec 32 := Scalar.muli arg2 c1024_i32_92
  let v286 : BitVec 32 := v285
  let v287 : Index := Scalar.indexCast v286
  let c0_93 : Index := 0#32
  ![v287.toNat, 0]
def k0_mult12 (i : grid0.Coords) : BitVec 32 :=
  let arg2 : BitVec 32 := BitVec.ofNat 32 (i 2).val
  let c1024_i32_97 : BitVec 32 := 1024#32
  let v316 : BitVec 32 := Scalar.muli arg2 c1024_i32_97
  v316
def k0_off12 (i : grid0.Coords) : Fin 2 → Nat :=
  let arg2 : BitVec 32 := BitVec.ofNat 32 (i 2).val
  let c1024_i32_97 : BitVec 32 := 1024#32
  let v316 : BitVec 32 := Scalar.muli arg2 c1024_i32_97
  let v317 : BitVec 32 := v316
  let v318 : Index := Scalar.indexCast v317
  let c128_98 : Index := 128#32
  ![v318.toNat, 128]
@[reducible] def k0_t7_loop (i : grid0.Coords) : Scf.Loop 32 :=
  let c0_i32_54 : BitVec 32 := 0#32
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let v116 : BitVec 32 := Scalar.subi v27 c0_i32_54
  let c1_i32_55 : BitVec 32 := 1#32
  let v118 : BitVec 32 := Scalar.divsi v116 c1_i32_55
  let v119 : BitVec 32 := Scalar.muli v118 c1_i32_55
  let v120 : BitVec 32 := Scalar.addi c0_i32_54 v119
  let c1_i32_56 : BitVec 32 := 1#32
  ⟨c0_i32_54, v120, c1_i32_56⟩
def k0_mult13 (i : grid0.Coords) (k0_t7 : Fin (k0_t7_loop i).trips) : BitVec 32 :=
  let c0_i32_54 : BitVec 32 := 0#32
  let c1_i32_56 : BitVec 32 := 1#32
  let arg13 : BitVec 32 := Scf.iv c0_i32_54 c1_i32_56 k0_t7
  let c1024_i32_84 : BitVec 32 := 1024#32
  let v268 : BitVec 32 := Scalar.muli arg13 c1024_i32_84
  v268
def k0_off13 (i : grid0.Coords) (k0_t7 : Fin (k0_t7_loop i).trips) : Fin 2 → Nat :=
  let c0_i32_54 : BitVec 32 := 0#32
  let c1_i32_56 : BitVec 32 := 1#32
  let arg13 : BitVec 32 := Scf.iv c0_i32_54 c1_i32_56 k0_t7
  let c1024_i32_84 : BitVec 32 := 1024#32
  let v268 : BitVec 32 := Scalar.muli arg13 c1024_i32_84
  let v269 : BitVec 32 := v268
  let v270 : Index := Scalar.indexCast v269
  let c0_85 : Index := 0#32
  ![v270.toNat, 0]
def k0_mult14 (i : grid0.Coords) (k0_t7 : Fin (k0_t7_loop i).trips) : BitVec 32 :=
  let c0_i32_54 : BitVec 32 := 0#32
  let c1_i32_56 : BitVec 32 := 1#32
  let arg13 : BitVec 32 := Scf.iv c0_i32_54 c1_i32_56 k0_t7
  let c1024_i32_84 : BitVec 32 := 1024#32
  let v268 : BitVec 32 := Scalar.muli arg13 c1024_i32_84
  v268
def k0_mult15 (i : grid0.Coords) (k0_t7 : Fin (k0_t7_loop i).trips) : BitVec 32 :=
  let c0_i32_54 : BitVec 32 := 0#32
  let c1_i32_56 : BitVec 32 := 1#32
  let arg13 : BitVec 32 := Scf.iv c0_i32_54 c1_i32_56 k0_t7
  let c1024_i32_84 : BitVec 32 := 1024#32
  let v268 : BitVec 32 := Scalar.muli arg13 c1024_i32_84
  v268
def k0_off14 (i : grid0.Coords) (k0_t7 : Fin (k0_t7_loop i).trips) : Fin 2 → Nat :=
  let c0_i32_54 : BitVec 32 := 0#32
  let c1_i32_56 : BitVec 32 := 1#32
  let arg13 : BitVec 32 := Scf.iv c0_i32_54 c1_i32_56 k0_t7
  let c1024_i32_84 : BitVec 32 := 1024#32
  let v268 : BitVec 32 := Scalar.muli arg13 c1024_i32_84
  let v325 : BitVec 32 := v268
  let v326 : Index := Scalar.indexCast v325
  let c128_90 : Index := 128#32
  ![v326.toNat, 128]
def k0_mult16 (i : grid0.Coords) (k0_t7 : Fin (k0_t7_loop i).trips) : BitVec 32 :=
  let c0_i32_54 : BitVec 32 := 0#32
  let c1_i32_56 : BitVec 32 := 1#32
  let arg13 : BitVec 32 := Scf.iv c0_i32_54 c1_i32_56 k0_t7
  let c1024_i32_84 : BitVec 32 := 1024#32
  let v268 : BitVec 32 := Scalar.muli arg13 c1024_i32_84
  v268
@[reducible] def k0_t8_loop (i : grid0.Coords) : Scf.Loop 32 :=
  let c0_i32_54 : BitVec 32 := 0#32
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let v116 : BitVec 32 := Scalar.subi v27 c0_i32_54
  let c1_i32_55 : BitVec 32 := 1#32
  let v118 : BitVec 32 := Scalar.divsi v116 c1_i32_55
  let v119 : BitVec 32 := Scalar.muli v118 c1_i32_55
  let v120 : BitVec 32 := Scalar.addi c0_i32_54 v119
  let v117 : BitVec 32 := Scalar.addi c0_i32_54 v116
  let c1_i32_57 : BitVec 32 := 1#32
  ⟨v120, v117, c1_i32_57⟩
def k0_mult17 (i : grid0.Coords) (k0_t8 : Fin (k0_t8_loop i).trips) : BitVec 32 :=
  let c0_i32_54 : BitVec 32 := 0#32
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let v116 : BitVec 32 := Scalar.subi v27 c0_i32_54
  let c1_i32_55 : BitVec 32 := 1#32
  let v118 : BitVec 32 := Scalar.divsi v116 c1_i32_55
  let v119 : BitVec 32 := Scalar.muli v118 c1_i32_55
  let v120 : BitVec 32 := Scalar.addi c0_i32_54 v119
  let c1_i32_57 : BitVec 32 := 1#32
  let arg13 : BitVec 32 := Scf.iv v120 c1_i32_57 k0_t8
  let c1024_i32_84 : BitVec 32 := 1024#32
  let v268 : BitVec 32 := Scalar.muli arg13 c1024_i32_84
  v268
def k0_off15 (i : grid0.Coords) (k0_t8 : Fin (k0_t8_loop i).trips) : Fin 2 → Nat :=
  let c0_i32_54 : BitVec 32 := 0#32
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let v116 : BitVec 32 := Scalar.subi v27 c0_i32_54
  let c1_i32_55 : BitVec 32 := 1#32
  let v118 : BitVec 32 := Scalar.divsi v116 c1_i32_55
  let v119 : BitVec 32 := Scalar.muli v118 c1_i32_55
  let v120 : BitVec 32 := Scalar.addi c0_i32_54 v119
  let c1_i32_57 : BitVec 32 := 1#32
  let arg13 : BitVec 32 := Scf.iv v120 c1_i32_57 k0_t8
  let c1024_i32_84 : BitVec 32 := 1024#32
  let v268 : BitVec 32 := Scalar.muli arg13 c1024_i32_84
  let v269 : BitVec 32 := v268
  let v270 : Index := Scalar.indexCast v269
  let c0_85 : Index := 0#32
  ![v270.toNat, 0]
def k0_mult18 (i : grid0.Coords) (k0_t8 : Fin (k0_t8_loop i).trips) : BitVec 32 :=
  let c0_i32_54 : BitVec 32 := 0#32
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let v116 : BitVec 32 := Scalar.subi v27 c0_i32_54
  let c1_i32_55 : BitVec 32 := 1#32
  let v118 : BitVec 32 := Scalar.divsi v116 c1_i32_55
  let v119 : BitVec 32 := Scalar.muli v118 c1_i32_55
  let v120 : BitVec 32 := Scalar.addi c0_i32_54 v119
  let c1_i32_57 : BitVec 32 := 1#32
  let arg13 : BitVec 32 := Scf.iv v120 c1_i32_57 k0_t8
  let c1024_i32_84 : BitVec 32 := 1024#32
  let v268 : BitVec 32 := Scalar.muli arg13 c1024_i32_84
  v268
def k0_mult19 (i : grid0.Coords) (k0_t8 : Fin (k0_t8_loop i).trips) : BitVec 32 :=
  let c0_i32_54 : BitVec 32 := 0#32
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let v116 : BitVec 32 := Scalar.subi v27 c0_i32_54
  let c1_i32_55 : BitVec 32 := 1#32
  let v118 : BitVec 32 := Scalar.divsi v116 c1_i32_55
  let v119 : BitVec 32 := Scalar.muli v118 c1_i32_55
  let v120 : BitVec 32 := Scalar.addi c0_i32_54 v119
  let c1_i32_57 : BitVec 32 := 1#32
  let arg13 : BitVec 32 := Scf.iv v120 c1_i32_57 k0_t8
  let c1024_i32_84 : BitVec 32 := 1024#32
  let v268 : BitVec 32 := Scalar.muli arg13 c1024_i32_84
  v268
def k0_off16 (i : grid0.Coords) (k0_t8 : Fin (k0_t8_loop i).trips) : Fin 2 → Nat :=
  let c0_i32_54 : BitVec 32 := 0#32
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let v116 : BitVec 32 := Scalar.subi v27 c0_i32_54
  let c1_i32_55 : BitVec 32 := 1#32
  let v118 : BitVec 32 := Scalar.divsi v116 c1_i32_55
  let v119 : BitVec 32 := Scalar.muli v118 c1_i32_55
  let v120 : BitVec 32 := Scalar.addi c0_i32_54 v119
  let c1_i32_57 : BitVec 32 := 1#32
  let arg13 : BitVec 32 := Scf.iv v120 c1_i32_57 k0_t8
  let c1024_i32_84 : BitVec 32 := 1024#32
  let v268 : BitVec 32 := Scalar.muli arg13 c1024_i32_84
  let v325 : BitVec 32 := v268
  let v326 : Index := Scalar.indexCast v325
  let c128_90 : Index := 128#32
  ![v326.toNat, 128]
def k0_mult20 (i : grid0.Coords) (k0_t8 : Fin (k0_t8_loop i).trips) : BitVec 32 :=
  let c0_i32_54 : BitVec 32 := 0#32
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let v116 : BitVec 32 := Scalar.subi v27 c0_i32_54
  let c1_i32_55 : BitVec 32 := 1#32
  let v118 : BitVec 32 := Scalar.divsi v116 c1_i32_55
  let v119 : BitVec 32 := Scalar.muli v118 c1_i32_55
  let v120 : BitVec 32 := Scalar.addi c0_i32_54 v119
  let c1_i32_57 : BitVec 32 := 1#32
  let arg13 : BitVec 32 := Scf.iv v120 c1_i32_57 k0_t8
  let c1024_i32_84 : BitVec 32 := 1024#32
  let v268 : BitVec 32 := Scalar.muli arg13 c1024_i32_84
  v268
@[reducible] def k0_t9_loop (i : grid0.Coords) : Scf.Loop 32 :=
  let c0_i32_58 : BitVec 32 := 0#32
  let arg2 : BitVec 32 := BitVec.ofNat 32 (i 2).val
  let c1024_i32_11 : BitVec 32 := 1024#32
  let v28 : BitVec 32 := Scalar.muli arg2 c1024_i32_11
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_12 : BitVec 32 := 1024#32
  let v29 : BitVec 32 := Scalar.muli v27 c1024_i32_12
  let v30 : BitVec 32 := Scalar.subi v28 v29
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c1024_i32_13 : BitVec 32 := 1024#32
  let c0_i32_16 : BitVec 32 := 0#32
  let v37 : BitVec 1 := Scalar.cmpi .sgt c1024_i32_13 c0_i32_16
  let v38 : BitVec 32 := Scalar.extui v37
  let c0_i32_17 : BitVec 32 := 0#32
  let v39 : BitVec 1 := Scalar.cmpi .slt c1024_i32_13 c0_i32_17
  let v40 : BitVec 32 := Scalar.extui v39
  let v41 : BitVec 32 := Scalar.subi v38 v40
  let v42 : BitVec 1 := Scalar.cmpi .ne v36 v41
  let v43 : BitVec 32 := Scalar.remsi v30 c1024_i32_13
  let c0_i32_18 : BitVec 32 := 0#32
  let v44 : BitVec 1 := Scalar.cmpi .ne v43 c0_i32_18
  let v45 : BitVec 1 := Scalar.andi v42 v44
  let v31 : BitVec 32 := Scalar.divsi v30 c1024_i32_13
  let c1_i32_19 : BitVec 32 := 1#32
  let v46 : BitVec 32 := Scalar.subi v31 c1_i32_19
  let v47 : BitVec 32 := Scalar.select v45 v46 v31
  let v123 : BitVec 32 := Scalar.subi v47 c0_i32_58
  let c1_i32_59 : BitVec 32 := 1#32
  let v125 : BitVec 32 := Scalar.divsi v123 c1_i32_59
  let v126 : BitVec 32 := Scalar.muli v125 c1_i32_59
  let v127 : BitVec 32 := Scalar.addi c0_i32_58 v126
  let c1_i32_60 : BitVec 32 := 1#32
  ⟨c0_i32_58, v127, c1_i32_60⟩
def k0_mult21 (i : grid0.Coords) (k0_t9 : Fin (k0_t9_loop i).trips) : BitVec 32 :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_84 : BitVec 32 := 1024#32
  let v268 : BitVec 32 := Scalar.muli v27 c1024_i32_84
  let c0_i32_58 : BitVec 32 := 0#32
  let c1_i32_60 : BitVec 32 := 1#32
  let arg13 : BitVec 32 := Scf.iv c0_i32_58 c1_i32_60 k0_t9
  let c1024_i32_85 : BitVec 32 := 1024#32
  let v269 : BitVec 32 := Scalar.muli arg13 c1024_i32_85
  let v270 : BitVec 32 := Scalar.addi v268 v269
  v270
def k0_off17 (i : grid0.Coords) (k0_t9 : Fin (k0_t9_loop i).trips) : Fin 2 → Nat :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_84 : BitVec 32 := 1024#32
  let v268 : BitVec 32 := Scalar.muli v27 c1024_i32_84
  let c0_i32_58 : BitVec 32 := 0#32
  let c1_i32_60 : BitVec 32 := 1#32
  let arg13 : BitVec 32 := Scf.iv c0_i32_58 c1_i32_60 k0_t9
  let c1024_i32_85 : BitVec 32 := 1024#32
  let v269 : BitVec 32 := Scalar.muli arg13 c1024_i32_85
  let v270 : BitVec 32 := Scalar.addi v268 v269
  let v271 : BitVec 32 := v270
  let v272 : Index := Scalar.indexCast v271
  let c0_86 : Index := 0#32
  ![v272.toNat, 0]
def k0_mult22 (i : grid0.Coords) (k0_t9 : Fin (k0_t9_loop i).trips) : BitVec 32 :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_84 : BitVec 32 := 1024#32
  let v268 : BitVec 32 := Scalar.muli v27 c1024_i32_84
  let c0_i32_58 : BitVec 32 := 0#32
  let c1_i32_60 : BitVec 32 := 1#32
  let arg13 : BitVec 32 := Scf.iv c0_i32_58 c1_i32_60 k0_t9
  let c1024_i32_85 : BitVec 32 := 1024#32
  let v269 : BitVec 32 := Scalar.muli arg13 c1024_i32_85
  let v270 : BitVec 32 := Scalar.addi v268 v269
  v270
def k0_mult23 (i : grid0.Coords) (k0_t9 : Fin (k0_t9_loop i).trips) : BitVec 32 :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_84 : BitVec 32 := 1024#32
  let v268 : BitVec 32 := Scalar.muli v27 c1024_i32_84
  let c0_i32_58 : BitVec 32 := 0#32
  let c1_i32_60 : BitVec 32 := 1#32
  let arg13 : BitVec 32 := Scf.iv c0_i32_58 c1_i32_60 k0_t9
  let c1024_i32_85 : BitVec 32 := 1024#32
  let v269 : BitVec 32 := Scalar.muli arg13 c1024_i32_85
  let v270 : BitVec 32 := Scalar.addi v268 v269
  v270
def k0_off18 (i : grid0.Coords) (k0_t9 : Fin (k0_t9_loop i).trips) : Fin 2 → Nat :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_84 : BitVec 32 := 1024#32
  let v268 : BitVec 32 := Scalar.muli v27 c1024_i32_84
  let c0_i32_58 : BitVec 32 := 0#32
  let c1_i32_60 : BitVec 32 := 1#32
  let arg13 : BitVec 32 := Scf.iv c0_i32_58 c1_i32_60 k0_t9
  let c1024_i32_85 : BitVec 32 := 1024#32
  let v269 : BitVec 32 := Scalar.muli arg13 c1024_i32_85
  let v270 : BitVec 32 := Scalar.addi v268 v269
  let v327 : BitVec 32 := v270
  let v328 : Index := Scalar.indexCast v327
  let c128_91 : Index := 128#32
  ![v328.toNat, 128]
def k0_mult24 (i : grid0.Coords) (k0_t9 : Fin (k0_t9_loop i).trips) : BitVec 32 :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_84 : BitVec 32 := 1024#32
  let v268 : BitVec 32 := Scalar.muli v27 c1024_i32_84
  let c0_i32_58 : BitVec 32 := 0#32
  let c1_i32_60 : BitVec 32 := 1#32
  let arg13 : BitVec 32 := Scf.iv c0_i32_58 c1_i32_60 k0_t9
  let c1024_i32_85 : BitVec 32 := 1024#32
  let v269 : BitVec 32 := Scalar.muli arg13 c1024_i32_85
  let v270 : BitVec 32 := Scalar.addi v268 v269
  v270
@[reducible] def k0_t10_loop (i : grid0.Coords) : Scf.Loop 32 :=
  let c0_i32_58 : BitVec 32 := 0#32
  let arg2 : BitVec 32 := BitVec.ofNat 32 (i 2).val
  let c1024_i32_11 : BitVec 32 := 1024#32
  let v28 : BitVec 32 := Scalar.muli arg2 c1024_i32_11
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_12 : BitVec 32 := 1024#32
  let v29 : BitVec 32 := Scalar.muli v27 c1024_i32_12
  let v30 : BitVec 32 := Scalar.subi v28 v29
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c1024_i32_13 : BitVec 32 := 1024#32
  let c0_i32_16 : BitVec 32 := 0#32
  let v37 : BitVec 1 := Scalar.cmpi .sgt c1024_i32_13 c0_i32_16
  let v38 : BitVec 32 := Scalar.extui v37
  let c0_i32_17 : BitVec 32 := 0#32
  let v39 : BitVec 1 := Scalar.cmpi .slt c1024_i32_13 c0_i32_17
  let v40 : BitVec 32 := Scalar.extui v39
  let v41 : BitVec 32 := Scalar.subi v38 v40
  let v42 : BitVec 1 := Scalar.cmpi .ne v36 v41
  let v43 : BitVec 32 := Scalar.remsi v30 c1024_i32_13
  let c0_i32_18 : BitVec 32 := 0#32
  let v44 : BitVec 1 := Scalar.cmpi .ne v43 c0_i32_18
  let v45 : BitVec 1 := Scalar.andi v42 v44
  let v31 : BitVec 32 := Scalar.divsi v30 c1024_i32_13
  let c1_i32_19 : BitVec 32 := 1#32
  let v46 : BitVec 32 := Scalar.subi v31 c1_i32_19
  let v47 : BitVec 32 := Scalar.select v45 v46 v31
  let v123 : BitVec 32 := Scalar.subi v47 c0_i32_58
  let c1_i32_59 : BitVec 32 := 1#32
  let v125 : BitVec 32 := Scalar.divsi v123 c1_i32_59
  let v126 : BitVec 32 := Scalar.muli v125 c1_i32_59
  let v127 : BitVec 32 := Scalar.addi c0_i32_58 v126
  let v124 : BitVec 32 := Scalar.addi c0_i32_58 v123
  let c1_i32_61 : BitVec 32 := 1#32
  ⟨v127, v124, c1_i32_61⟩
def k0_mult25 (i : grid0.Coords) (k0_t10 : Fin (k0_t10_loop i).trips) : BitVec 32 :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_84 : BitVec 32 := 1024#32
  let v268 : BitVec 32 := Scalar.muli v27 c1024_i32_84
  let c0_i32_58 : BitVec 32 := 0#32
  let c1024_i32_11 : BitVec 32 := 1024#32
  let v28 : BitVec 32 := Scalar.muli arg2 c1024_i32_11
  let c1024_i32_12 : BitVec 32 := 1024#32
  let v29 : BitVec 32 := Scalar.muli v27 c1024_i32_12
  let v30 : BitVec 32 := Scalar.subi v28 v29
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c1024_i32_13 : BitVec 32 := 1024#32
  let c0_i32_16 : BitVec 32 := 0#32
  let v37 : BitVec 1 := Scalar.cmpi .sgt c1024_i32_13 c0_i32_16
  let v38 : BitVec 32 := Scalar.extui v37
  let c0_i32_17 : BitVec 32 := 0#32
  let v39 : BitVec 1 := Scalar.cmpi .slt c1024_i32_13 c0_i32_17
  let v40 : BitVec 32 := Scalar.extui v39
  let v41 : BitVec 32 := Scalar.subi v38 v40
  let v42 : BitVec 1 := Scalar.cmpi .ne v36 v41
  let v43 : BitVec 32 := Scalar.remsi v30 c1024_i32_13
  let c0_i32_18 : BitVec 32 := 0#32
  let v44 : BitVec 1 := Scalar.cmpi .ne v43 c0_i32_18
  let v45 : BitVec 1 := Scalar.andi v42 v44
  let v31 : BitVec 32 := Scalar.divsi v30 c1024_i32_13
  let c1_i32_19 : BitVec 32 := 1#32
  let v46 : BitVec 32 := Scalar.subi v31 c1_i32_19
  let v47 : BitVec 32 := Scalar.select v45 v46 v31
  let v123 : BitVec 32 := Scalar.subi v47 c0_i32_58
  let c1_i32_59 : BitVec 32 := 1#32
  let v125 : BitVec 32 := Scalar.divsi v123 c1_i32_59
  let v126 : BitVec 32 := Scalar.muli v125 c1_i32_59
  let v127 : BitVec 32 := Scalar.addi c0_i32_58 v126
  let c1_i32_61 : BitVec 32 := 1#32
  let arg13 : BitVec 32 := Scf.iv v127 c1_i32_61 k0_t10
  let c1024_i32_85 : BitVec 32 := 1024#32
  let v269 : BitVec 32 := Scalar.muli arg13 c1024_i32_85
  let v270 : BitVec 32 := Scalar.addi v268 v269
  v270
def k0_off19 (i : grid0.Coords) (k0_t10 : Fin (k0_t10_loop i).trips) : Fin 2 → Nat :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_84 : BitVec 32 := 1024#32
  let v268 : BitVec 32 := Scalar.muli v27 c1024_i32_84
  let c0_i32_58 : BitVec 32 := 0#32
  let c1024_i32_11 : BitVec 32 := 1024#32
  let v28 : BitVec 32 := Scalar.muli arg2 c1024_i32_11
  let c1024_i32_12 : BitVec 32 := 1024#32
  let v29 : BitVec 32 := Scalar.muli v27 c1024_i32_12
  let v30 : BitVec 32 := Scalar.subi v28 v29
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c1024_i32_13 : BitVec 32 := 1024#32
  let c0_i32_16 : BitVec 32 := 0#32
  let v37 : BitVec 1 := Scalar.cmpi .sgt c1024_i32_13 c0_i32_16
  let v38 : BitVec 32 := Scalar.extui v37
  let c0_i32_17 : BitVec 32 := 0#32
  let v39 : BitVec 1 := Scalar.cmpi .slt c1024_i32_13 c0_i32_17
  let v40 : BitVec 32 := Scalar.extui v39
  let v41 : BitVec 32 := Scalar.subi v38 v40
  let v42 : BitVec 1 := Scalar.cmpi .ne v36 v41
  let v43 : BitVec 32 := Scalar.remsi v30 c1024_i32_13
  let c0_i32_18 : BitVec 32 := 0#32
  let v44 : BitVec 1 := Scalar.cmpi .ne v43 c0_i32_18
  let v45 : BitVec 1 := Scalar.andi v42 v44
  let v31 : BitVec 32 := Scalar.divsi v30 c1024_i32_13
  let c1_i32_19 : BitVec 32 := 1#32
  let v46 : BitVec 32 := Scalar.subi v31 c1_i32_19
  let v47 : BitVec 32 := Scalar.select v45 v46 v31
  let v123 : BitVec 32 := Scalar.subi v47 c0_i32_58
  let c1_i32_59 : BitVec 32 := 1#32
  let v125 : BitVec 32 := Scalar.divsi v123 c1_i32_59
  let v126 : BitVec 32 := Scalar.muli v125 c1_i32_59
  let v127 : BitVec 32 := Scalar.addi c0_i32_58 v126
  let c1_i32_61 : BitVec 32 := 1#32
  let arg13 : BitVec 32 := Scf.iv v127 c1_i32_61 k0_t10
  let c1024_i32_85 : BitVec 32 := 1024#32
  let v269 : BitVec 32 := Scalar.muli arg13 c1024_i32_85
  let v270 : BitVec 32 := Scalar.addi v268 v269
  let v271 : BitVec 32 := v270
  let v272 : Index := Scalar.indexCast v271
  let c0_86 : Index := 0#32
  ![v272.toNat, 0]
def k0_mult26 (i : grid0.Coords) (k0_t10 : Fin (k0_t10_loop i).trips) : BitVec 32 :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_84 : BitVec 32 := 1024#32
  let v268 : BitVec 32 := Scalar.muli v27 c1024_i32_84
  let c0_i32_58 : BitVec 32 := 0#32
  let c1024_i32_11 : BitVec 32 := 1024#32
  let v28 : BitVec 32 := Scalar.muli arg2 c1024_i32_11
  let c1024_i32_12 : BitVec 32 := 1024#32
  let v29 : BitVec 32 := Scalar.muli v27 c1024_i32_12
  let v30 : BitVec 32 := Scalar.subi v28 v29
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c1024_i32_13 : BitVec 32 := 1024#32
  let c0_i32_16 : BitVec 32 := 0#32
  let v37 : BitVec 1 := Scalar.cmpi .sgt c1024_i32_13 c0_i32_16
  let v38 : BitVec 32 := Scalar.extui v37
  let c0_i32_17 : BitVec 32 := 0#32
  let v39 : BitVec 1 := Scalar.cmpi .slt c1024_i32_13 c0_i32_17
  let v40 : BitVec 32 := Scalar.extui v39
  let v41 : BitVec 32 := Scalar.subi v38 v40
  let v42 : BitVec 1 := Scalar.cmpi .ne v36 v41
  let v43 : BitVec 32 := Scalar.remsi v30 c1024_i32_13
  let c0_i32_18 : BitVec 32 := 0#32
  let v44 : BitVec 1 := Scalar.cmpi .ne v43 c0_i32_18
  let v45 : BitVec 1 := Scalar.andi v42 v44
  let v31 : BitVec 32 := Scalar.divsi v30 c1024_i32_13
  let c1_i32_19 : BitVec 32 := 1#32
  let v46 : BitVec 32 := Scalar.subi v31 c1_i32_19
  let v47 : BitVec 32 := Scalar.select v45 v46 v31
  let v123 : BitVec 32 := Scalar.subi v47 c0_i32_58
  let c1_i32_59 : BitVec 32 := 1#32
  let v125 : BitVec 32 := Scalar.divsi v123 c1_i32_59
  let v126 : BitVec 32 := Scalar.muli v125 c1_i32_59
  let v127 : BitVec 32 := Scalar.addi c0_i32_58 v126
  let c1_i32_61 : BitVec 32 := 1#32
  let arg13 : BitVec 32 := Scf.iv v127 c1_i32_61 k0_t10
  let c1024_i32_85 : BitVec 32 := 1024#32
  let v269 : BitVec 32 := Scalar.muli arg13 c1024_i32_85
  let v270 : BitVec 32 := Scalar.addi v268 v269
  v270
def k0_mult27 (i : grid0.Coords) (k0_t10 : Fin (k0_t10_loop i).trips) : BitVec 32 :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_84 : BitVec 32 := 1024#32
  let v268 : BitVec 32 := Scalar.muli v27 c1024_i32_84
  let c0_i32_58 : BitVec 32 := 0#32
  let c1024_i32_11 : BitVec 32 := 1024#32
  let v28 : BitVec 32 := Scalar.muli arg2 c1024_i32_11
  let c1024_i32_12 : BitVec 32 := 1024#32
  let v29 : BitVec 32 := Scalar.muli v27 c1024_i32_12
  let v30 : BitVec 32 := Scalar.subi v28 v29
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c1024_i32_13 : BitVec 32 := 1024#32
  let c0_i32_16 : BitVec 32 := 0#32
  let v37 : BitVec 1 := Scalar.cmpi .sgt c1024_i32_13 c0_i32_16
  let v38 : BitVec 32 := Scalar.extui v37
  let c0_i32_17 : BitVec 32 := 0#32
  let v39 : BitVec 1 := Scalar.cmpi .slt c1024_i32_13 c0_i32_17
  let v40 : BitVec 32 := Scalar.extui v39
  let v41 : BitVec 32 := Scalar.subi v38 v40
  let v42 : BitVec 1 := Scalar.cmpi .ne v36 v41
  let v43 : BitVec 32 := Scalar.remsi v30 c1024_i32_13
  let c0_i32_18 : BitVec 32 := 0#32
  let v44 : BitVec 1 := Scalar.cmpi .ne v43 c0_i32_18
  let v45 : BitVec 1 := Scalar.andi v42 v44
  let v31 : BitVec 32 := Scalar.divsi v30 c1024_i32_13
  let c1_i32_19 : BitVec 32 := 1#32
  let v46 : BitVec 32 := Scalar.subi v31 c1_i32_19
  let v47 : BitVec 32 := Scalar.select v45 v46 v31
  let v123 : BitVec 32 := Scalar.subi v47 c0_i32_58
  let c1_i32_59 : BitVec 32 := 1#32
  let v125 : BitVec 32 := Scalar.divsi v123 c1_i32_59
  let v126 : BitVec 32 := Scalar.muli v125 c1_i32_59
  let v127 : BitVec 32 := Scalar.addi c0_i32_58 v126
  let c1_i32_61 : BitVec 32 := 1#32
  let arg13 : BitVec 32 := Scf.iv v127 c1_i32_61 k0_t10
  let c1024_i32_85 : BitVec 32 := 1024#32
  let v269 : BitVec 32 := Scalar.muli arg13 c1024_i32_85
  let v270 : BitVec 32 := Scalar.addi v268 v269
  v270
def k0_off20 (i : grid0.Coords) (k0_t10 : Fin (k0_t10_loop i).trips) : Fin 2 → Nat :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_84 : BitVec 32 := 1024#32
  let v268 : BitVec 32 := Scalar.muli v27 c1024_i32_84
  let c0_i32_58 : BitVec 32 := 0#32
  let c1024_i32_11 : BitVec 32 := 1024#32
  let v28 : BitVec 32 := Scalar.muli arg2 c1024_i32_11
  let c1024_i32_12 : BitVec 32 := 1024#32
  let v29 : BitVec 32 := Scalar.muli v27 c1024_i32_12
  let v30 : BitVec 32 := Scalar.subi v28 v29
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c1024_i32_13 : BitVec 32 := 1024#32
  let c0_i32_16 : BitVec 32 := 0#32
  let v37 : BitVec 1 := Scalar.cmpi .sgt c1024_i32_13 c0_i32_16
  let v38 : BitVec 32 := Scalar.extui v37
  let c0_i32_17 : BitVec 32 := 0#32
  let v39 : BitVec 1 := Scalar.cmpi .slt c1024_i32_13 c0_i32_17
  let v40 : BitVec 32 := Scalar.extui v39
  let v41 : BitVec 32 := Scalar.subi v38 v40
  let v42 : BitVec 1 := Scalar.cmpi .ne v36 v41
  let v43 : BitVec 32 := Scalar.remsi v30 c1024_i32_13
  let c0_i32_18 : BitVec 32 := 0#32
  let v44 : BitVec 1 := Scalar.cmpi .ne v43 c0_i32_18
  let v45 : BitVec 1 := Scalar.andi v42 v44
  let v31 : BitVec 32 := Scalar.divsi v30 c1024_i32_13
  let c1_i32_19 : BitVec 32 := 1#32
  let v46 : BitVec 32 := Scalar.subi v31 c1_i32_19
  let v47 : BitVec 32 := Scalar.select v45 v46 v31
  let v123 : BitVec 32 := Scalar.subi v47 c0_i32_58
  let c1_i32_59 : BitVec 32 := 1#32
  let v125 : BitVec 32 := Scalar.divsi v123 c1_i32_59
  let v126 : BitVec 32 := Scalar.muli v125 c1_i32_59
  let v127 : BitVec 32 := Scalar.addi c0_i32_58 v126
  let c1_i32_61 : BitVec 32 := 1#32
  let arg13 : BitVec 32 := Scf.iv v127 c1_i32_61 k0_t10
  let c1024_i32_85 : BitVec 32 := 1024#32
  let v269 : BitVec 32 := Scalar.muli arg13 c1024_i32_85
  let v270 : BitVec 32 := Scalar.addi v268 v269
  let v327 : BitVec 32 := v270
  let v328 : Index := Scalar.indexCast v327
  let c128_91 : Index := 128#32
  ![v328.toNat, 128]
def k0_mult28 (i : grid0.Coords) (k0_t10 : Fin (k0_t10_loop i).trips) : BitVec 32 :=
  let arg2 : BitVec 32 := BitVec.ofNat 32 (i 2).val
  let c1024_i32 : BitVec 32 := 1024#32
  let v10 : BitVec 32 := Scalar.muli arg2 c1024_i32
  let c0_i32 : BitVec 32 := 0#32
  let v12 : BitVec 1 := Scalar.cmpi .sgt v10 c0_i32
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c1024_i32_6 : BitVec 32 := 1024#32
  let c0_i32_8 : BitVec 32 := 0#32
  let v17 : BitVec 1 := Scalar.cmpi .sgt c1024_i32_6 c0_i32_8
  let v18 : BitVec 32 := Scalar.extui v17
  let c0_i32_9 : BitVec 32 := 0#32
  let v19 : BitVec 1 := Scalar.cmpi .slt c1024_i32_6 c0_i32_9
  let v20 : BitVec 32 := Scalar.extui v19
  let v21 : BitVec 32 := Scalar.subi v18 v20
  let v22 : BitVec 1 := Scalar.cmpi .ne v16 v21
  let v23 : BitVec 32 := Scalar.remsi v10 c1024_i32_6
  let c0_i32_10 : BitVec 32 := 0#32
  let v24 : BitVec 1 := Scalar.cmpi .ne v23 c0_i32_10
  let v25 : BitVec 1 := Scalar.andi v22 v24
  let v11 : BitVec 32 := Scalar.divsi v10 c1024_i32_6
  let c1_i32 : BitVec 32 := 1#32
  let v26 : BitVec 32 := Scalar.subi v11 c1_i32
  let v27 : BitVec 32 := Scalar.select v25 v26 v11
  let c1024_i32_84 : BitVec 32 := 1024#32
  let v268 : BitVec 32 := Scalar.muli v27 c1024_i32_84
  let c0_i32_58 : BitVec 32 := 0#32
  let c1024_i32_11 : BitVec 32 := 1024#32
  let v28 : BitVec 32 := Scalar.muli arg2 c1024_i32_11
  let c1024_i32_12 : BitVec 32 := 1024#32
  let v29 : BitVec 32 := Scalar.muli v27 c1024_i32_12
  let v30 : BitVec 32 := Scalar.subi v28 v29
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c1024_i32_13 : BitVec 32 := 1024#32
  let c0_i32_16 : BitVec 32 := 0#32
  let v37 : BitVec 1 := Scalar.cmpi .sgt c1024_i32_13 c0_i32_16
  let v38 : BitVec 32 := Scalar.extui v37
  let c0_i32_17 : BitVec 32 := 0#32
  let v39 : BitVec 1 := Scalar.cmpi .slt c1024_i32_13 c0_i32_17
  let v40 : BitVec 32 := Scalar.extui v39
  let v41 : BitVec 32 := Scalar.subi v38 v40
  let v42 : BitVec 1 := Scalar.cmpi .ne v36 v41
  let v43 : BitVec 32 := Scalar.remsi v30 c1024_i32_13
  let c0_i32_18 : BitVec 32 := 0#32
  let v44 : BitVec 1 := Scalar.cmpi .ne v43 c0_i32_18
  let v45 : BitVec 1 := Scalar.andi v42 v44
  let v31 : BitVec 32 := Scalar.divsi v30 c1024_i32_13
  let c1_i32_19 : BitVec 32 := 1#32
  let v46 : BitVec 32 := Scalar.subi v31 c1_i32_19
  let v47 : BitVec 32 := Scalar.select v45 v46 v31
  let v123 : BitVec 32 := Scalar.subi v47 c0_i32_58
  let c1_i32_59 : BitVec 32 := 1#32
  let v125 : BitVec 32 := Scalar.divsi v123 c1_i32_59
  let v126 : BitVec 32 := Scalar.muli v125 c1_i32_59
  let v127 : BitVec 32 := Scalar.addi c0_i32_58 v126
  let c1_i32_61 : BitVec 32 := 1#32
  let arg13 : BitVec 32 := Scf.iv v127 c1_i32_61 k0_t10
  let c1024_i32_85 : BitVec 32 := 1024#32
  let v269 : BitVec 32 := Scalar.muli arg13 c1024_i32_85
  let v270 : BitVec 32 := Scalar.addi v268 v269
  v270
def k0_mult29 (i : grid0.Coords) : BitVec 32 :=
  let arg2 : BitVec 32 := BitVec.ofNat 32 (i 2).val
  let c1024_i32_62 : BitVec 32 := 1024#32
  let v133 : BitVec 32 := Scalar.muli arg2 c1024_i32_62
  v133
def k0_off21 (i : grid0.Coords) : Fin 2 → Nat :=
  let arg2 : BitVec 32 := BitVec.ofNat 32 (i 2).val
  let c1024_i32_62 : BitVec 32 := 1024#32
  let v133 : BitVec 32 := Scalar.muli arg2 c1024_i32_62
  let v134 : BitVec 32 := v133
  let v135 : Index := Scalar.indexCast v134
  let c0_63 : Index := 0#32
  ![v135.toNat, 0]
def k0_mult30 (i : grid0.Coords) : BitVec 32 :=
  let arg2 : BitVec 32 := BitVec.ofNat 32 (i 2).val
  let c1024_i32_67 : BitVec 32 := 1024#32
  let v145 : BitVec 32 := Scalar.muli arg2 c1024_i32_67
  v145
def k0_mult31 (i : grid0.Coords) : BitVec 32 :=
  let arg2 : BitVec 32 := BitVec.ofNat 32 (i 2).val
  let c1024_i32_73 : BitVec 32 := 1024#32
  let v202 : BitVec 32 := Scalar.muli arg2 c1024_i32_73
  v202
def k0_off22 (i : grid0.Coords) : Fin 2 → Nat :=
  let arg2 : BitVec 32 := BitVec.ofNat 32 (i 2).val
  let c1024_i32_73 : BitVec 32 := 1024#32
  let v202 : BitVec 32 := Scalar.muli arg2 c1024_i32_73
  let v203 : BitVec 32 := v202
  let v204 : Index := Scalar.indexCast v203
  let c128_74 : Index := 128#32
  ![v204.toNat, 128]
def k0_mult32 (i : grid0.Coords) : BitVec 32 :=
  let arg2 : BitVec 32 := BitVec.ofNat 32 (i 2).val
  let c1024_i32_78 : BitVec 32 := 1024#32
  let v214 : BitVec 32 := Scalar.muli arg2 c1024_i32_78
  v214
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x2048 : Shape := ⟨2, ![16384, 2048]⟩
abbrev S16384x16 : Shape := ⟨2, ![16384, 16]⟩
abbrev S16x2048 : Shape := ⟨2, ![16, 2048]⟩
abbrev S16x16 : Shape := ⟨2, ![16, 16]⟩
abbrev S4x4096x16x128 : Shape := ⟨4, ![4, 4096, 16, 128]⟩
abbrev S1x16x2048 : Shape := ⟨3, ![1, 16, 2048]⟩
abbrev S4x16x2048 : Shape := ⟨3, ![4, 16, 2048]⟩
abbrev S4x4096x2048 : Shape := ⟨3, ![4, 4096, 2048]⟩
abbrev S4x4112x2048 : Shape := ⟨3, ![4, 4112, 2048]⟩
abbrev S4x4112x16x128 : Shape := ⟨4, ![4, 4112, 16, 128]⟩
abbrev S1x16x16 : Shape := ⟨3, ![1, 16, 16]⟩
abbrev S4x16x16 : Shape := ⟨3, ![4, 16, 16]⟩
abbrev S4x4096x16 : Shape := ⟨3, ![4, 4096, 16]⟩
abbrev S4x4112x16 : Shape := ⟨3, ![4, 4112, 16]⟩
abbrev S4x16x4112 : Shape := ⟨3, ![4, 16, 4112]⟩
abbrev S4x16x4096x4112 : Shape := ⟨4, ![4, 16, 4096, 4112]⟩
abbrev S_ : Shape := ⟨0, ![]⟩
abbrev S4x16x4096 : Shape := ⟨3, ![4, 16, 4096]⟩
abbrev S4x16x4096x1 : Shape := ⟨4, ![4, 16, 4096, 1]⟩
abbrev S4x16x1x4112 : Shape := ⟨4, ![4, 16, 1, 4112]⟩
abbrev S4096 : Shape := ⟨1, ![4096]⟩
abbrev S4096x1 : Shape := ⟨2, ![4096, 1]⟩
abbrev S4112 : Shape := ⟨1, ![4112]⟩
abbrev S1x4112 : Shape := ⟨2, ![1, 4112]⟩
abbrev S4096x4112 : Shape := ⟨2, ![4096, 4112]⟩
abbrev S4x16x128x4096 : Shape := ⟨4, ![4, 16, 128, 4096]⟩

abbrev nBuf : Space → Nat
  | .hbm => 67
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S16384x16, .f32⟩
  | .hbm, ⟨4, _⟩ => ⟨S16x2048, .f32⟩
  | .hbm, ⟨5, _⟩ => ⟨S16x2048, .f32⟩
  | .hbm, ⟨6, _⟩ => ⟨S16x16, .f32⟩
  | .hbm, ⟨7, _⟩ => ⟨S4x4096x16x128, .f32⟩
  | .hbm, ⟨8, _⟩ => ⟨S1x16x2048, .f32⟩
  | .hbm, ⟨9, _⟩ => ⟨S4x16x2048, .f32⟩
  | .hbm, ⟨10, _⟩ => ⟨S4x4096x2048, .f32⟩
  | .hbm, ⟨11, _⟩ => ⟨S4x4112x2048, .f32⟩
  | .hbm, ⟨12, _⟩ => ⟨S4x4112x16x128, .f32⟩
  | .hbm, ⟨13, _⟩ => ⟨S1x16x2048, .f32⟩
  | .hbm, ⟨14, _⟩ => ⟨S4x16x2048, .f32⟩
  | .hbm, ⟨15, _⟩ => ⟨S4x4096x2048, .f32⟩
  | .hbm, ⟨16, _⟩ => ⟨S4x4112x2048, .f32⟩
  | .hbm, ⟨17, _⟩ => ⟨S4x4112x16x128, .f32⟩
  | .hbm, ⟨18, _⟩ => ⟨S1x16x16, .f32⟩
  | .hbm, ⟨19, _⟩ => ⟨S4x16x16, .f32⟩
  | .hbm, ⟨20, _⟩ => ⟨S4x4096x16, .f32⟩
  | .hbm, ⟨21, _⟩ => ⟨S4x4112x16, .f32⟩
  | .hbm, ⟨22, _⟩ => ⟨S4x16x4112, .f32⟩
  | .hbm, ⟨23, _⟩ => ⟨S4x16x4096x4112, .f32⟩
  | .hbm, ⟨24, _⟩ => ⟨S_, .f32⟩
  | .hbm, ⟨25, _⟩ => ⟨S4x16x4096x4112, .f32⟩
  | .hbm, ⟨26, _⟩ => ⟨S4x16x4096x4112, .f32⟩
  | .hbm, ⟨27, _⟩ => ⟨S4x16x4096, .f32⟩
  | .hbm, ⟨28, _⟩ => ⟨S4x16x4096x1, .f32⟩
  | .hbm, ⟨29, _⟩ => ⟨S4x16x1x4112, .f32⟩
  | .hbm, ⟨30, _⟩ => ⟨S4x16x4096x4112, .f32⟩
  | .hbm, ⟨31, _⟩ => ⟨S4x16x4096x4112, .f32⟩
  | .hbm, ⟨32, _⟩ => ⟨S4x16x4096x4112, .f32⟩
  | .hbm, ⟨33, _⟩ => ⟨S4x16x4096x4112, .f32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096x1, .i32⟩
  | .hbm, ⟨39, _⟩ => ⟨S4112, .i32⟩
  | .hbm, ⟨40, _⟩ => ⟨S1x4112, .i32⟩
  | .hbm, ⟨41, _⟩ => ⟨S4096x4112, .i32⟩
  | .hbm, ⟨42, _⟩ => ⟨S4096x4112, .i32⟩
  | .hbm, ⟨43, _⟩ => ⟨S4096x4112, .i1⟩
  | .hbm, ⟨44, _⟩ => ⟨S_, .f32⟩
  | .hbm, ⟨45, _⟩ => ⟨S_, .f32⟩
  | .hbm, ⟨46, _⟩ => ⟨S4x16x4096x4112, .i1⟩
  | .hbm, ⟨47, _⟩ => ⟨S4x16x4096x4112, .f32⟩
  | .hbm, ⟨48, _⟩ => ⟨S4x16x4096x4112, .f32⟩
  | .hbm, ⟨49, _⟩ => ⟨S_, .f32⟩
  | .hbm, ⟨50, _⟩ => ⟨S4x16x4096, .f32⟩
  | .hbm, ⟨51, _⟩ => ⟨S_, .f32⟩
  | .hbm, ⟨52, _⟩ => ⟨S4x16x4096, .f32⟩
  | .hbm, ⟨53, _⟩ => ⟨S4x16x4096, .f32⟩
  | .hbm, ⟨54, _⟩ => ⟨S4x16x4096x1, .f32⟩
  | .hbm, ⟨55, _⟩ => ⟨S4x16x4096x4112, .f32⟩
  | .hbm, ⟨56, _⟩ => ⟨S4x16x4096x4112, .f32⟩
  | .hbm, ⟨57, _⟩ => ⟨S4x16x4096x4112, .f32⟩
  | .hbm, ⟨58, _⟩ => ⟨S_, .f32⟩
  | .hbm, ⟨59, _⟩ => ⟨S4x16x4096, .f32⟩
  | .hbm, ⟨60, _⟩ => ⟨S4x16x4096x1, .f32⟩
  | .hbm, ⟨61, _⟩ => ⟨S4x16x4096x4112, .f32⟩
  | .hbm, ⟨62, _⟩ => ⟨S4x16x4096x4112, .f32⟩
  | .hbm, ⟨63, _⟩ => ⟨S4x16x128x4096, .f32⟩
  | .hbm, ⟨64, _⟩ => ⟨S4x4096x16x128, .f32⟩
  | .hbm, ⟨65, _⟩ => ⟨S16384x2048, .f32⟩
  | .hbm, ⟨66, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_0 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_cst_1 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Gates.lean ====
abbrev S16384x4096 : Shape := ⟨2, ![16384, 4096]⟩
abbrev S4096x16400 : Shape := ⟨2, ![4096, 16400]⟩
abbrev S4096x8192 : Shape := ⟨2, ![4096, 8192]⟩
abbrev S16384x8192 : Shape := ⟨2, ![16384, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x16400, .f32⟩
  | .hbm, ⟨2, _⟩ => ⟨S16384x4096, .bf16⟩
  | .hbm, ⟨3, _⟩ => ⟨S4096x8192, .f32⟩
  | .hbm, ⟨4, _⟩ => ⟨S4096x8192, .bf16⟩
  | .hbm, ⟨5, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesReferenceIdeal.lean ====
abbrev S16384x4096 : Shape := ⟨2, ![16384, 4096]⟩
abbrev S4096x16400 : Shape := ⟨2, ![4096, 16400]⟩
abbrev S4096x8192 : Shape := ⟨2, ![4096, 8192]⟩
abbrev S16384x8192 : Shape := ⟨2, ![16384, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x16400, .f32⟩
  | .hbm, ⟨2, _⟩ => ⟨S4096x8192, .f32⟩
  | .hbm, ⟨3, _⟩ => ⟨S16384x8192, .f32⟩
  | .hbm, ⟨4, _⟩ => ⟨S16384x8192, .f32⟩
  | .hbm, ⟨5, _⟩ => ⟨S16384x8192, .f32⟩
  | .hbm, ⟨6, _⟩ => ⟨S_, .f32⟩
  | .hbm, ⟨7, _⟩ => ⟨S16384x8192, .f32⟩
  | .hbm, ⟨8, _⟩ => ⟨S16384x8192, .f32⟩
  | .hbm, ⟨9, _⟩ => ⟨S_, .f32⟩
  | .hbm, ⟨10, _⟩ => ⟨S16384x8192, .f32⟩
  | .hbm, ⟨11, _⟩ => ⟨S16384x8192, .f32⟩
  | .hbm, ⟨12, _⟩ => ⟨S16384x8192, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Values.lean ====
abbrev S16384x4096 : Shape := ⟨2, ![16384, 4096]⟩
abbrev S4096x16400 : Shape := ⟨2, ![4096, 16400]⟩
abbrev S4096x2048 : Shape := ⟨2, ![4096, 2048]⟩
abbrev S16384x2048 : Shape := ⟨2, ![16384, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x16400, .f32⟩
  | .hbm, ⟨2, _⟩ => ⟨S16384x4096, .bf16⟩
  | .hbm, ⟨3, _⟩ => ⟨S4096x2048, .f32⟩
  | .hbm, ⟨4, _⟩ => ⟨S4096x2048, .bf16⟩
  | .hbm, ⟨5, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValuesReferenceIdeal.lean ====
abbrev S16384x4096 : Shape := ⟨2, ![16384, 4096]⟩
abbrev S4096x16400 : Shape := ⟨2, ![4096, 16400]⟩
abbrev S4096x2048 : Shape := ⟨2, ![4096, 2048]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x16400, .f32⟩
  | .hbm, ⟨2, _⟩ => ⟨S4096x2048, .f32⟩
  | .hbm, ⟨3, _⟩ => ⟨S16384x2048, .f32⟩
  | .hbm, ⟨4, _⟩ => ⟨S16384x2048, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Inputs.lean ====
abbrev S16384x4096 : Shape := ⟨2, ![16384, 4096]⟩
abbrev S4096x16400 : Shape := ⟨2, ![4096, 16400]⟩
abbrev S4096x2048 : Shape := ⟨2, ![4096, 2048]⟩
abbrev S16384x2048 : Shape := ⟨2, ![16384, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x16400, .f32⟩
  | .hbm, ⟨2, _⟩ => ⟨S16384x4096, .bf16⟩
  | .hbm, ⟨3, _⟩ => ⟨S4096x2048, .f32⟩
  | .hbm, ⟨4, _⟩ => ⟨S4096x2048, .bf16⟩
  | .hbm, ⟨5, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InputsReferenceIdeal.lean ====
abbrev S16384x4096 : Shape := ⟨2, ![16384, 4096]⟩
abbrev S4096x16400 : Shape := ⟨2, ![4096, 16400]⟩
abbrev S4096x2048 : Shape := ⟨2, ![4096, 2048]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x16400, .f32⟩
  | .hbm, ⟨2, _⟩ => ⟨S4096x2048, .f32⟩
  | .hbm, ⟨3, _⟩ => ⟨S16384x2048, .f32⟩
  | .hbm, ⟨4, _⟩ => ⟨S16384x2048, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mix.lean ====
abbrev S16384x2048 : Shape := ⟨2, ![16384, 2048]⟩
abbrev S2048x4096 : Shape := ⟨2, ![2048, 4096]⟩
abbrev S16384x8192 : Shape := ⟨2, ![16384, 8192]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 11
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048x4096, .f32⟩
  | .hbm, ⟨2, _⟩ => ⟨S16384x2048, .f32⟩
  | .hbm, ⟨3, _⟩ => ⟨S2048x4096, .f32⟩
  | .hbm, ⟨4, _⟩ => ⟨S16384x8192, .f32⟩
  | .hbm, ⟨5, _⟩ => ⟨S16384x2048, .bf16⟩
  | .hbm, ⟨6, _⟩ => ⟨S2048x4096, .bf16⟩
  | .hbm, ⟨7, _⟩ => ⟨S16384x2048, .bf16⟩
  | .hbm, ⟨8, _⟩ => ⟨S2048x4096, .bf16⟩
  | .hbm, ⟨9, _⟩ => ⟨S16384x8192, .bf16⟩
  | .hbm, ⟨10, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixReferenceIdeal.lean ====
abbrev S16384x2048 : Shape := ⟨2, ![16384, 2048]⟩
abbrev S2048x4096 : Shape := ⟨2, ![2048, 4096]⟩
abbrev S16384x8192 : Shape := ⟨2, ![16384, 8192]⟩
abbrev S16384x4096 : Shape := ⟨2, ![16384, 4096]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x4096, .f32⟩
  | .hbm, ⟨2, _⟩ => ⟨S16384x2048, .f32⟩
  | .hbm, ⟨3, _⟩ => ⟨S2048x4096, .f32⟩
  | .hbm, ⟨4, _⟩ => ⟨S16384x8192, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Residual.lean ====
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S16384x4096, .bf16⟩
  | .hbm, ⟨4, _⟩ => ⟨S4096x4096, .bf16⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ResidualReferenceIdeal.lean ====
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Tile.lean ====
module

public import proofs.«01_k».proof.Defs
public import Idealize.ShloMosaic.Lib.StableHlo.ReadAt
public import Idealize.ShloMosaic.Lib.Pointwise

/-
What the tiled products share: the tile in which an element of the result lies, and the sigmoid's two
spellings.
-/
@[expose] public section
noncomputable section
namespace Cert.Tile
open Idealize.ShloMosaic

/-- An index is known from its two coordinates. -/
theorem ix2_ext {n p : ℕ} {i : (⟨2, ![n, p]⟩ : Shape).Idx} {a : Fin n} {b : Fin p} (h0 : (i 0).val = a.val) (h1 : (i 1).val = b.val) :
    i = ix2 a b := by
  funext x; apply Fin.ext
  match x with
  | ⟨0, _⟩ => exact h0
  | ⟨1, _⟩ => exact h1

theorem zero2 : (![0, 0] : Fin 2 → Nat) = fun _ => 0 := funext fun a => by fin_cases a <;> rfl

/-- The tile of 1024 rows and columns, of those numbered row by row, in which an element lies, and its place there. -/
theorem tile_of {R J n d : ℕ} (hn : n < R * 1024) (hd : d < J * 1024) :
    ∃ (t : Fin (R * J)) (a b : Fin 1024), t.val / J * 1024 + a.val = n ∧ t.val % J * 1024 + b.val = d := by
  have hr : n / 1024 < R := by omega
  have hc : d / 1024 < J := by omega
  refine ⟨⟨d / 1024 + J * (n / 1024), ?_⟩, ⟨n % 1024, by omega⟩, ⟨d % 1024, by omega⟩, ?_, ?_⟩
  · calc d / 1024 + J * (n / 1024) < J + J * (n / 1024) := by omega
      _ = (n / 1024 + 1) * J := by ring
      _ ≤ R * J := Nat.mul_le_mul_right J hr
  · show (d / 1024 + J * (n / 1024)) / J * 1024 + n % 1024 = n
    rw [Nat.add_mul_div_left _ _ (by omega), Nat.div_eq_of_lt hc]; omega
  · show (d / 1024 + J * (n / 1024)) % J * 1024 + d % 1024 = d
    rw [Nat.add_mul_mod_self_left, Nat.mod_eq_of_lt hc]; omega

theorem one_f32 : Ideal.ofBits .f32 0x3F800000#32 = 1 := by
  simp [Ideal.ofBits, Ideal.ieee]; rw [← EReal.coe_mul]; norm_num

/-- The kernel's sigmoid. -/
theorem sigmoid_sub (s : EReal) : Ideal.div 1 (1 + Ideal.exp (0 - s)) = Ideal.logistic s := by
  rw [zero_sub]; rfl

/-- The reference's sigmoid. -/
theorem sigmoid_neg (s : EReal) :
    Ideal.div (Ideal.ofBits .f32 0x3F800000#32) (Ideal.ofBits .f32 0x3F800000#32 + Ideal.exp (-s)) = Ideal.logistic s := by
  rw [one_f32]; rfl

end Cert.Tile
end
-- ==== Proof.Gates.lean ====
module

public import proofs.«01_k».proof.Proof.Tile
public import proofs.«01_k».proof.Proof.Gen.Gates.Frame
public import proofs.«01_k».proof.Proof.Gen.GatesIdeal.Value
public import proofs.«01_k».proof.Proof.Gen.GatesReferenceIdeal.Run
public import proofs.«01_k».proof.Proof.Gen.GatesReferenceIdeal.Read

/-
The branch gates: each tile of 1024 rows and 1024 columns is the sigmoid of its rows' product with its columns' weights, so
the array is the reference's.
-/
@[expose] public section
set_option maxRecDepth 16384
noncomputable section
namespace Cert.GatesCall
open Idealize.ShloMosaic Idealize.ShloMosaic.TcCoe Idealize.SL.Sem Cert.Tile
open Cert.GatesIdeal Cert.GatesIdeal.Gen Cert.GatesIdeal.Value

/-- A tile's element. -/
theorem tile_at (x : Vec Ideal S1024x4096 .bf16) (w : Vec Ideal S4096x1024 .bf16) (a b : Fin 1024) :
    out0_2 x w (ix2 a b) = Ideal.logistic (∑ k : Fin 4096, x (ix2 a k) * w (ix2 k b)) := by
  unfold out0_2
  rw [View.canon_unit_zero zero2, View.ld_unit_zero zero2, View.ld_unit_zero zero2]
  pointwise [k0_pay1]
  exact sigmoid_sub _

variable (m : (ℓ : Loc nD τ sig) → Buf (Elt Ideal) ℓ) (c : Dev nD)

/-- The normalized rows. -/
abbrev X : Vec Ideal S16384x4096 .f32 := m (c.tc.loc main_arg0)
/-- The input projection's weights. -/
abbrev W : Vec Ideal S4096x16400 .f32 := m (c.tc.loc main_arg1)

/-- The weights' column of a gate. -/
def wcol (d : Fin 8192) : Fin 16400 := ⟨8208 + d.val, by omega⟩

theorem V0_at (n : Fin 16384) (k : Fin 4096) : (V m c main_v0 : Vec Ideal S16384x4096 .bf16) (ix2 n k) = X m c (ix2 n k) := by
  unfold V
  after_reads_at
theorem V2_at (k : Fin 4096) (d : Fin 8192) : (V m c main_v2 : Vec Ideal S4096x8192 .bf16) (ix2 k d) = W m c (ix2 k (wcol d)) := by
  unfold V wcol
  after_reads_at

theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = t.val % 8 :=
  (by decide +kernel : ∀ t : Fin grid0.N, _)

/-- The result's row that a tile's row is. -/
def row (t : Fin cfg0.N) (a : Fin 1024) : Fin 16384 := ⟨t.val / 8 * 1024 + a.val, by have := t.isLt; have : cfg0.N = 128 := rfl; omega⟩
/-- The result's column that a tile's column is. -/
def col (t : Fin cfg0.N) (b : Fin 1024) : Fin 8192 := ⟨t.val % 8 * 1024 + b.val, by omega⟩

theorem in0 (t : Fin cfg0.N) (a : Fin 1024) (k : Fin 4096) :
    (iblk m c 0 t : Vec Ideal S1024x4096 .bf16) (ix2 a k) = X m c (ix2 (row t a) k) := by
  obtain ⟨e0, e1, _⟩ := idx_facts t
  refine Eq.trans ?_ (V0_at m c (row t a) k)
  show (V m c main_v0 : Vec Ideal S16384x4096 .bf16) (((cfg0.win 0).blk t).view.emb (ix2 a k)) = _
  refine congrArg _ (ix2_ext ?_ ?_)
  · show win0_0.index t (0 : Fin 2) * 1024 + 1 * a.val = _; rw [e0, one_mul]; rfl
  · show win0_0.index t (1 : Fin 2) * 4096 + 1 * k.val = _; rw [e1, one_mul, zero_mul, zero_add]
theorem in1 (t : Fin cfg0.N) (k : Fin 4096) (b : Fin 1024) :
    (iblk m c 1 t : Vec Ideal S4096x1024 .bf16) (ix2 k b) = W m c (ix2 k (wcol (col t b))) := by
  obtain ⟨_, _, e0, e1, _⟩ := idx_facts t
  refine Eq.trans ?_ (V2_at m c k (col t b))
  show (V m c main_v2 : Vec Ideal S4096x8192 .bf16) (((cfg0.win 1).blk t).view.emb (ix2 k b)) = _
  refine congrArg _ (ix2_ext ?_ ?_)
  · show win0_1.index t (0 : Fin 2) * 4096 + 1 * k.val = _; rw [e0, one_mul, zero_mul, zero_add]
  · show win0_1.index t (1 : Fin 2) * 1024 + 1 * b.val = _; rw [e1, one_mul]; rfl
theorem emb2 (t : Fin cfg0.N) (a b : Fin 1024) :
    ((cfg0.win 2).blk t).view.emb (ix2 a b) = (ix2 (row t a) (col t b) : S16384x8192.Idx) := by
  obtain ⟨_, _, _, _, e0, e1⟩ := idx_facts t
  refine ix2_ext ?_ ?_
  · show win0_2.index t (0 : Fin 2) * 1024 + 1 * a.val = _; rw [e0, one_mul]; rfl
  · show win0_2.index t (1 : Fin 2) * 1024 + 1 * b.val = _; rw [e1, one_mul]; rfl

/-- The reference's result. -/
def G : Vec Ideal S16384x8192 .bf16 := Cert.GatesReferenceIdeal.Read.val_main_v8 (F := Ideal) (X m c) (W m c)

open Cert.GatesReferenceIdeal.Read in
theorem G_at (n : Fin 16384) (d : Fin 8192) :
    G m c (ix2 n d) = Ideal.logistic (∑ k : Fin 4096, X m c (ix2 n k) * W m c (ix2 k (wcol d))) := by
  unfold G
  rw [val_main_v8_apply, val_main_v7_apply, val_main_v6_apply, val_main_v5_apply, val_main_v4_apply, val_main_v3_apply,
    val_main_v2_apply, val_main_v1_apply, val_main_cst_apply, val_main_cst_0_apply]
  simp only [val_main_v0_apply]
  have e1 : ∀ k : Fin 4096, lidx_main_v1 (ix2 n d) k = ix2 n k := fun k => eq_ix2 _
  have e2 : ∀ k : Fin 4096, idx_main_v0 (ridx_main_v1 (ix2 n d) k) = ix2 k (wcol d) := fun k => eq_ix2 _
  simp only [e1, e2]
  exact sigmoid_neg _

/-- A tile's element is the reference's at its place. -/
theorem tile_eq (t : Fin cfg0.N) (j : S1024x1024.Idx) :
    out0_2 (iblk m c 0 t) (iblk m c 1 t) j = G m c (((cfg0.win 2).blk t).view.emb j) := by
  obtain ⟨a, b, rfl⟩ : ∃ (a b : Fin 1024), j = ix2 a b := ⟨j 0, j 1, eq_ix2 j⟩
  rw [emb2, G_at, tile_at]
  simp only [in0, in1]

/-- A tile whose elements are those of an array at the tile's place is that array read there. -/
theorem cut2 (t : Fin cfg0.N) (Y : Vec Ideal S1024x1024 .bf16) (Z : Vec Ideal S16384x8192 .bf16)
    (h : ∀ j : S1024x1024.Idx, Y j = Z (((cfg0.win 2).blk t).view.emb j)) :
    (cfg0.win 2).cut (grid0.coords t) Y = ((cfg0.win 2).blk t).view.read (Elt Ideal) Z := by
  funext j
  exact h j

theorem covered2 (i : S16384x8192.Idx) :
    ∃ t : Fin cfg0.N, (cfg0.win 2).flush t = true ∧ i ∈ ((cfg0.win 2).blk t).view.set := by
  obtain ⟨t, a, b, h0, h1⟩ := tile_of (R := 16) (J := 8) (i 0).isLt (i 1).isLt
  let u : Fin cfg0.N := t
  refine ⟨u, flush0_2 u, ?_⟩
  have e := ((cfg0.win 2).blk u).view.emb_mem_set (ix2 a b)
  rw [emb2] at e
  rwa [ix2_ext (i := i) (a := row u a) (b := col u b) h0.symm h1.symm]

/-- The array after the run. -/
theorem final2 : (dats m 0 c).arrAt 2 cfg0.N = G m c :=
  (dats m 0 c).arrAt_eq_of_cover 2 (G m c) (fun t _ => (flushed2 m c t).trans (cut2 t _ _ (tile_eq m c t))) covered2

/-- The program runs and changes no argument, at words and at the extended reals. -/
theorem frame_words : Cert.quiescent_Gates := fun m ρ _ => Cert.Gates.Gen.frame (F := Bits) m ρ
theorem frame_ideal : Cert.quiescent_GatesIdeal := fun m ρ _ => Cert.GatesIdeal.Gen.frame (F := Ideal) m ρ
theorem preserved : Cert.preserves_Gates_GatesIdeal := trivial

/-- The reference runs and changes no argument. -/
theorem frame_reference : Cert.quiescent_GatesReferenceIdeal := fun m ρ _ =>
  (θ_run _ _ _).mono (fun r h => ⟨fun c => (h c).2, Idealize.ShloMosaic.sem_eq_zero_of_no_sems (by decide) r.2⟩)
    (Cert.GatesReferenceIdeal.Value.run (F := Ideal) m ρ)

/-- The branch gates are the reference's. -/
theorem algebraic : Cert.algebraic_GatesIdeal_GatesReferenceIdeal := by
  intro m g m' g' _ he
  refine ⟨fun c => G m c, ?_, ?_⟩
  · exact (θ_run _ _ _).mono (fun r h c => ⟨(h c).1.trans (final2 m c), (h c).2⟩) (run_blocks (F := Ideal) m g)
  · refine (θ_run _ _ _).mono (fun r h c => ⟨(h c).1.trans ?_, (h c).2⟩) (Cert.GatesReferenceIdeal.Value.run (F := Ideal) m' g')
    obtain ⟨e0, e1⟩ := he c
    rw [Cert.GatesReferenceIdeal.Read.val_main_v8_eq, e0, e1]
    rfl

end Cert.GatesCall
end
-- ==== Proof.Values.lean ====
module

public import proofs.«01_k».proof.Proof.Tile
public import proofs.«01_k».proof.Proof.Gen.Values.Frame
public import proofs.«01_k».proof.Proof.Gen.ValuesIdeal.Value
public import proofs.«01_k».proof.Proof.Gen.ValuesReferenceIdeal.Run
public import proofs.«01_k».proof.Proof.Gen.ValuesReferenceIdeal.Read

/-
The values' projection: each tile of 1024 rows and 1024 columns is its rows' product with its columns' weights, so the array
is the reference's.
-/
@[expose] public section
set_option maxRecDepth 16384
noncomputable section
namespace Cert.ValuesCall
open Idealize.ShloMosaic Idealize.ShloMosaic.TcCoe Idealize.SL.Sem Cert.Tile
open Cert.ValuesIdeal Cert.ValuesIdeal.Gen Cert.ValuesIdeal.Value

/-- A tile's element. -/
theorem tile_at (x : Vec Ideal S1024x4096 .bf16) (w : Vec Ideal S4096x1024 .bf16) (a b : Fin 1024) :
    out0_2 x w (ix2 a b) = ∑ k : Fin 4096, x (ix2 a k) * w (ix2 k b) := by
  unfold out0_2
  rw [View.canon_unit_zero zero2, View.ld_unit_zero zero2, View.ld_unit_zero zero2]
  pointwise [k0_pay1]

variable (m : (ℓ : Loc nD τ sig) → Buf (Elt Ideal) ℓ) (c : Dev nD)

/-- The normalized rows. -/
abbrev X : Vec Ideal S16384x4096 .f32 := m (c.tc.loc main_arg0)
/-- The input projection's weights. -/
abbrev W : Vec Ideal S4096x16400 .f32 := m (c.tc.loc main_arg1)

/-- The weights' column of a value. -/
def wcol (d : Fin 2048) : Fin 16400 := ⟨4096 + d.val, by omega⟩

theorem V0_at (n : Fin 16384) (k : Fin 4096) : (V m c main_v0 : Vec Ideal S16384x4096 .bf16) (ix2 n k) = X m c (ix2 n k) := by
  unfold V
  after_reads_at
theorem V2_at (k : Fin 4096) (d : Fin 2048) : (V m c main_v2 : Vec Ideal S4096x2048 .bf16) (ix2 k d) = W m c (ix2 k (wcol d)) := by
  unfold V wcol
  after_reads_at

theorem idx_facts : ∀ t : Fin cfg0.N,
    win0_0.index t (0 : Fin 2) = t.val / 2 ∧ win0_0.index t (1 : Fin 2) = 0
    ∧ win0_1.index t (0 : Fin 2) = 0 ∧ win0_1.index t (1 : Fin 2) = t.val % 2
    ∧ win0_2.index t (0 : Fin 2) = t.val / 2 ∧ win0_2.index t (1 : Fin 2) = t.val % 2 :=
  (by decide +kernel : ∀ t : Fin grid0.N, _)

/-- The result's row that a tile's row is. -/
def row (t : Fin cfg0.N) (a : Fin 1024) : Fin 16384 := ⟨t.val / 2 * 1024 + a.val, by have := t.isLt; have : cfg0.N = 32 := rfl; omega⟩
/-- The result's column that a tile's column is. -/
def col (t : Fin cfg0.N) (b : Fin 1024) : Fin 2048 := ⟨t.val % 2 * 1024 + b.val, by omega⟩

theorem in0 (t : Fin cfg0.N) (a : Fin 1024) (k : Fin 4096) :
    (iblk m c 0 t : Vec Ideal S1024x4096 .bf16) (ix2 a k) = X m c (ix2 (row t a) k) := by
  obtain ⟨e0, e1, _⟩ := idx_facts t
  refine Eq.trans ?_ (V0_at m c (row t a) k)
  show (V m c main_v0 : Vec Ideal S16384x4096 .bf16) (((cfg0.win 0).blk t).view.emb (ix2 a k)) = _
  refine congrArg _ (ix2_ext ?_ ?_)
  · show win0_0.index t (0 : Fin 2) * 1024 + 1 * a.val = _; rw [e0, one_mul]; rfl
  · show win0_0.index t (1 : Fin 2) * 4096 + 1 * k.val = _; rw [e1, one_mul, zero_mul, zero_add]
theorem in1 (t : Fin cfg0.N) (k : Fin 4096) (b : Fin 1024) :
    (iblk m c 1 t : Vec Ideal S4096x1024 .bf16) (ix2 k b) = W m c (ix2 k (wcol (col t b))) := by
  obtain ⟨_, _, e0, e1, _⟩ := idx_facts t
  refine Eq.trans ?_ (V2_at m c k (col t b))
  show (V m c main_v2 : Vec Ideal S4096x2048 .bf16) (((cfg0.win 1).blk t).view.emb (ix2 k b)) = _
  refine congrArg _ (ix2_ext ?_ ?_)
  · show win0_1.index t (0 : Fin 2) * 4096 + 1 * k.val = _; rw [e0, one_mul, zero_mul, zero_add]
  · show win0_1.index t (1 : Fin 2) * 1024 + 1 * b.val = _; rw [e1, one_mul]; rfl
theorem emb2 (t : Fin cfg0.N) (a b : Fin 1024) :
    ((cfg0.win 2).blk t).view.emb (ix2 a b) = (ix2 (row t a) (col t b) : S16384x2048.Idx) := by
  obtain ⟨_, _, _, _, e0, e1⟩ := idx_facts t
  refine ix2_ext ?_ ?_
  · show win0_2.index t (0 : Fin 2) * 1024 + 1 * a.val = _; rw [e0, one_mul]; rfl
  · show win0_2.index t (1 : Fin 2) * 1024 + 1 * b.val = _; rw [e1, one_mul]; rfl

/-- The reference's result. -/
def G : Vec Ideal S16384x2048 .bf16 := Cert.ValuesReferenceIdeal.Read.val_main_v2 (F := Ideal) (X m c) (W m c)

open Cert.ValuesReferenceIdeal.Read in
theorem G_at (n : Fin 16384) (d : Fin 2048) :
    G m c (ix2 n d) = ∑ k : Fin 4096, X m c (ix2 n k) * W m c (ix2 k (wcol d)) := by
  unfold G
  rw [val_main_v2_apply, val_main_v1_apply]
  simp only [val_main_v0_apply]
  have e1 : ∀ k : Fin 4096, lidx_main_v1 (ix2 n d) k = ix2 n k := fun k => eq_ix2 _
  have e2 : ∀ k : Fin 4096, idx_main_v0 (ridx_main_v1 (ix2 n d) k) = ix2 k (wcol d) := fun k => eq_ix2 _
  simp only [e1, e2]
  rfl

/-- A tile's element is the reference's at its place. -/
theorem tile_eq (t : Fin cfg0.N) (j : S1024x1024.Idx) :
    out0_2 (iblk m c 0 t) (iblk m c 1 t) j = G m c (((cfg0.win 2).blk t).view.emb j) := by
  obtain ⟨a, b, rfl⟩ : ∃ (a b : Fin 1024), j = ix2 a b := ⟨j 0, j 1, eq_ix2 j⟩
  rw [emb2, G_at, tile_at]
  simp only [in0, in1]

/-- A tile whose elements are those of an array at the tile's place is that array read there. -/
theorem cut2 (t : Fin cfg0.N) (Y : Vec Ideal S1024x1024 .bf16) (Z : Vec Ideal S16384x2048 .bf16)
    (h : ∀ j : S1024x1024.Idx, Y j = Z (((cfg0.win 2).blk t).view.emb j)) :
    (cfg0.win 2).cut (grid0.coords t) Y = ((cfg0.win 2).blk t).view.read (Elt Ideal) Z := by
  funext j
  exact h j

theorem covered2 (i : S16384x2048.Idx) :
    ∃ t : Fin cfg0.N, (cfg0.win 2).flush t = true ∧ i ∈ ((cfg0.win 2).blk t).view.set := by
  obtain ⟨t, a, b, h0, h1⟩ := tile_of (R := 16) (J := 2) (i 0).isLt (i 1).isLt
  let u : Fin cfg0.N := t
  refine ⟨u, flush0_2 u, ?_⟩
  have e := ((cfg0.win 2).blk u).view.emb_mem_set (ix2 a b)
  rw [emb2] at e
  rwa [ix2_ext (i := i) (a := row u a) (b := col u b) h0.symm h1.symm]

/-- The array after the run. -/
theorem final2 : (dats m 0 c).arrAt 2 cfg0.N = G m c :=
  (dats m 0 c).arrAt_eq_of_cover 2 (G m c) (fun t _ => (flushed2 m c t).trans (cut2 t _ _ (tile_eq m c t))) covered2

/-- The program runs and changes no argument, at words and at the extended reals. -/
theorem frame_words : Cert.quiescent_Values := fun m ρ _ => Cert.Values.Gen.frame (F := Bits) m ρ
theorem frame_ideal : Cert.quiescent_ValuesIdeal := fun m ρ _ => Cert.ValuesIdeal.Gen.frame (F := Ideal) m ρ
theorem preserved : Cert.preserves_Values_ValuesIdeal := trivial

/-- The reference runs and changes no argument. -/
theorem frame_reference : Cert.quiescent_ValuesReferenceIdeal := fun m ρ _ =>
  (θ_run _ _ _).mono (fun r h => ⟨fun c => (h c).2, Idealize.ShloMosaic.sem_eq_zero_of_no_sems (by decide) r.2⟩)
    (Cert.ValuesReferenceIdeal.Value.run (F := Ideal) m ρ)

/-- The values are the reference's. -/
theorem algebraic : Cert.algebraic_ValuesIdeal_ValuesReferenceIdeal := by
  intro m g m' g' _ he
  refine ⟨fun c => G m c, ?_, ?_⟩
  · exact (θ_run _ _ _).mono (fun r h c => ⟨(h c).1.trans (final2 m c), (h c).2⟩) (run_blocks (F := Ideal) m g)
  · refine (θ_run _ _ _).mono (fun r h c => ⟨(h c).1.trans ?_, (h c).2⟩) (Cert.ValuesReferenceIdeal.Value.run (F := Ideal) m' g')
    obtain ⟨e0, e1⟩ := he c
    rw [Cert.ValuesReferenceIdeal.Read.val_main_v2_eq, e0, e1]
    rfl

end Cert.ValuesCall
end
-- ==== Proof.Inputs.lean ====
module

public import proofs.«01_k».proof.Proof.Tile
public import proofs.«01_k».proof.Proof.Gen.Inputs.Frame
public import proofs.«01_k».proof.Proof.Gen.InputsIdeal.Value
public import proofs.«01_k».proof.Proof.Gen.InputsReferenceIdeal.Run
public import proofs.«01_k».proof.Proof.Gen.InputsReferenceIdeal.Read

/-
The state-space inputs' projection: each tile of 1024 rows and 1024 columns is its rows' product with its columns' weights,
so the array is the reference's.
-/
@[expose] public section
set_option maxRecDepth 16384
noncomputable section
namespace Cert.InputsCall
open Idealize.ShloMosaic Idealize.ShloMosaic.TcCoe Idealize.SL.Sem Cert.Tile
open Cert.InputsIdeal Cert.InputsIdeal.Gen Cert.InputsIdeal.Value

/-- A tile's element. -/
theorem tile_at (x : Vec Ideal S1024x4096 .bf16) (w : Vec Ideal S4096x1024 .bf16) (a b : Fin 1024) :
    out0_2 x w (ix2 a b) = ∑ k : Fin 4096, x (ix2 a k) * w (ix2 k b) := by
  unfold out0_2
  rw [View.canon_unit_zero zero2, View.ld_unit_zero zero2, View.ld_unit_zero zero2]
  pointwise [k0_pay1]

variable (m : (ℓ : Loc nD τ sig) → Buf (Elt Ideal) ℓ) (c : Dev nD)

/-- The normalized rows. -/
abbrev X : Vec Ideal S16384x4096 .f32 := m (c.tc.loc main_arg0)
/-- The input projection's weights. -/
abbrev W : Vec Ideal S4096x16400 .f32 := m (c.tc.loc main_arg1)

/-- The weights' column of an input. -/
def wcol (d : Fin 2048) : Fin 16400 := ⟨6160 + d.val, by omega⟩

theorem V0_at (n : Fin 16384) (k : Fin 4096) : (V m c main_v0 : Vec Ideal S16384x4096 .bf16) (ix2 n k) = X m c (ix2 n k) := by
  unfold V
  after_reads_at
theorem V2_at (k : Fin 4096) (d : Fin 2048) : (V m c main_v2 : Vec Ideal S4096x2048 .bf16) (ix2 k d) = W m c (ix2 k (wcol d)) := by
  unfold V wcol
  after_reads_at

theorem idx_facts : ∀ t : Fin cfg0.N,
    win0_0.index t (0 : Fin 2) = t.val / 2 ∧ win0_0.index t (1 : Fin 2) = 0
    ∧ win0_1.index t (0 : Fin 2) = 0 ∧ win0_1.index t (1 : Fin 2) = t.val % 2
    ∧ win0_2.index t (0 : Fin 2) = t.val / 2 ∧ win0_2.index t (1 : Fin 2) = t.val % 2 :=
  (by decide +kernel : ∀ t : Fin grid0.N, _)

/-- The result's row that a tile's row is. -/
def row (t : Fin cfg0.N) (a : Fin 1024) : Fin 16384 := ⟨t.val / 2 * 1024 + a.val, by have := t.isLt; have : cfg0.N = 32 := rfl; omega⟩
/-- The result's column that a tile's column is. -/
def col (t : Fin cfg0.N) (b : Fin 1024) : Fin 2048 := ⟨t.val % 2 * 1024 + b.val, by omega⟩

theorem in0 (t : Fin cfg0.N) (a : Fin 1024) (k : Fin 4096) :
    (iblk m c 0 t : Vec Ideal S1024x4096 .bf16) (ix2 a k) = X m c (ix2 (row t a) k) := by
  obtain ⟨e0, e1, _⟩ := idx_facts t
  refine Eq.trans ?_ (V0_at m c (row t a) k)
  show (V m c main_v0 : Vec Ideal S16384x4096 .bf16) (((cfg0.win 0).blk t).view.emb (ix2 a k)) = _
  refine congrArg _ (ix2_ext ?_ ?_)
  · show win0_0.index t (0 : Fin 2) * 1024 + 1 * a.val = _; rw [e0, one_mul]; rfl
  · show win0_0.index t (1 : Fin 2) * 4096 + 1 * k.val = _; rw [e1, one_mul, zero_mul, zero_add]
theorem in1 (t : Fin cfg0.N) (k : Fin 4096) (b : Fin 1024) :
    (iblk m c 1 t : Vec Ideal S4096x1024 .bf16) (ix2 k b) = W m c (ix2 k (wcol (col t b))) := by
  obtain ⟨_, _, e0, e1, _⟩ := idx_facts t
  refine Eq.trans ?_ (V2_at m c k (col t b))
  show (V m c main_v2 : Vec Ideal S4096x2048 .bf16) (((cfg0.win 1).blk t).view.emb (ix2 k b)) = _
  refine congrArg _ (ix2_ext ?_ ?_)
  · show win0_1.index t (0 : Fin 2) * 4096 + 1 * k.val = _; rw [e0, one_mul, zero_mul, zero_add]
  · show win0_1.index t (1 : Fin 2) * 1024 + 1 * b.val = _; rw [e1, one_mul]; rfl
theorem emb2 (t : Fin cfg0.N) (a b : Fin 1024) :
    ((cfg0.win 2).blk t).view.emb (ix2 a b) = (ix2 (row t a) (col t b) : S16384x2048.Idx) := by
  obtain ⟨_, _, _, _, e0, e1⟩ := idx_facts t
  refine ix2_ext ?_ ?_
  · show win0_2.index t (0 : Fin 2) * 1024 + 1 * a.val = _; rw [e0, one_mul]; rfl
  · show win0_2.index t (1 : Fin 2) * 1024 + 1 * b.val = _; rw [e1, one_mul]; rfl

/-- The reference's result. -/
def G : Vec Ideal S16384x2048 .bf16 := Cert.InputsReferenceIdeal.Read.val_main_v2 (F := Ideal) (X m c) (W m c)

open Cert.InputsReferenceIdeal.Read in
theorem G_at (n : Fin 16384) (d : Fin 2048) :
    G m c (ix2 n d) = ∑ k : Fin 4096, X m c (ix2 n k) * W m c (ix2 k (wcol d)) := by
  unfold G
  rw [val_main_v2_apply, val_main_v1_apply]
  simp only [val_main_v0_apply]
  have e1 : ∀ k : Fin 4096, lidx_main_v1 (ix2 n d) k = ix2 n k := fun k => eq_ix2 _
  have e2 : ∀ k : Fin 4096, idx_main_v0 (ridx_main_v1 (ix2 n d) k) = ix2 k (wcol d) := fun k => eq_ix2 _
  simp only [e1, e2]
  rfl

/-- A tile's element is the reference's at its place. -/
theorem tile_eq (t : Fin cfg0.N) (j : S1024x1024.Idx) :
    out0_2 (iblk m c 0 t) (iblk m c 1 t) j = G m c (((cfg0.win 2).blk t).view.emb j) := by
  obtain ⟨a, b, rfl⟩ : ∃ (a b : Fin 1024), j = ix2 a b := ⟨j 0, j 1, eq_ix2 j⟩
  rw [emb2, G_at, tile_at]
  simp only [in0, in1]

/-- A tile whose elements are those of an array at the tile's place is that array read there. -/
theorem cut2 (t : Fin cfg0.N) (Y : Vec Ideal S1024x1024 .bf16) (Z : Vec Ideal S16384x2048 .bf16)
    (h : ∀ j : S1024x1024.Idx, Y j = Z (((cfg0.win 2).blk t).view.emb j)) :
    (cfg0.win 2).cut (grid0.coords t) Y = ((cfg0.win 2).blk t).view.read (Elt Ideal) Z := by
  funext j
  exact h j

theorem covered2 (i : S16384x2048.Idx) :
    ∃ t : Fin cfg0.N, (cfg0.win 2).flush t = true ∧ i ∈ ((cfg0.win 2).blk t).view.set := by
  obtain ⟨t, a, b, h0, h1⟩ := tile_of (R := 16) (J := 2) (i 0).isLt (i 1).isLt
  let u : Fin cfg0.N := t
  refine ⟨u, flush0_2 u, ?_⟩
  have e := ((cfg0.win 2).blk u).view.emb_mem_set (ix2 a b)
  rw [emb2] at e
  rwa [ix2_ext (i := i) (a := row u a) (b := col u b) h0.symm h1.symm]

/-- The array after the run. -/
theorem final2 : (dats m 0 c).arrAt 2 cfg0.N = G m c :=
  (dats m 0 c).arrAt_eq_of_cover 2 (G m c) (fun t _ => (flushed2 m c t).trans (cut2 t _ _ (tile_eq m c t))) covered2

/-- The program runs and changes no argument, at words and at the extended reals. -/
theorem frame_words : Cert.quiescent_Inputs := fun m ρ _ => Cert.Inputs.Gen.frame (F := Bits) m ρ
theorem frame_ideal : Cert.quiescent_InputsIdeal := fun m ρ _ => Cert.InputsIdeal.Gen.frame (F := Ideal) m ρ
theorem preserved : Cert.preserves_Inputs_InputsIdeal := trivial

/-- The reference runs and changes no argument. -/
theorem frame_reference : Cert.quiescent_InputsReferenceIdeal := fun m ρ _ =>
  (θ_run _ _ _).mono (fun r h => ⟨fun c => (h c).2, Idealize.ShloMosaic.sem_eq_zero_of_no_sems (by decide) r.2⟩)
    (Cert.InputsReferenceIdeal.Value.run (F := Ideal) m ρ)

/-- The state-space inputs are the reference's. -/
theorem algebraic : Cert.algebraic_InputsIdeal_InputsReferenceIdeal := by
  intro m g m' g' _ he
  refine ⟨fun c => G m c, ?_, ?_⟩
  · exact (θ_run _ _ _).mono (fun r h c => ⟨(h c).1.trans (final2 m c), (h c).2⟩) (run_blocks (F := Ideal) m g)
  · refine (θ_run _ _ _).mono (fun r h c => ⟨(h c).1.trans ?_, (h c).2⟩) (Cert.InputsReferenceIdeal.Value.run (F := Ideal) m' g')
    obtain ⟨e0, e1⟩ := he c
    rw [Cert.InputsReferenceIdeal.Read.val_main_v2_eq, e0, e1]
    rfl

end Cert.InputsCall
end
-- ==== Proof.Mix.lean ====
module

public import proofs.«01_k».proof.Proof.Tile
public import proofs.«01_k».proof.Proof.Gen.Mix.Frame
public import proofs.«01_k».proof.Proof.Gen.MixIdeal.Value
public import proofs.«01_k».proof.Proof.Gen.MixReferenceIdeal.Run
public import proofs.«01_k».proof.Proof.Gen.MixReferenceIdeal.Read

/-
The mixing of the branches: each tile of 1024 rows and 1024 columns is the two gates' tiles times the two branches'
products with their weights, added, so the array is the reference's.
-/
@[expose] public section
set_option maxRecDepth 16384
noncomputable section
namespace Cert.MixCall
open Idealize.ShloMosaic Idealize.ShloMosaic.TcCoe Idealize.SL.Sem Cert.Tile
open Cert.MixIdeal Cert.MixIdeal.Gen Cert.MixIdeal.Value

/-- A tile's element. -/
theorem tile_at (x : Vec Ideal S1024x2048 .bf16) (w : Vec Ideal S2048x1024 .bf16) (y : Vec Ideal S1024x2048 .bf16)
    (u : Vec Ideal S2048x1024 .bf16) (g h : Vec Ideal S1024x1024 .bf16) (a b : Fin 1024) :
    out0_6 x w y u g h (ix2 a b) = g (ix2 a b) * (∑ k : Fin 2048, x (ix2 a k) * w (ix2 k b))
      + h (ix2 a b) * ∑ k : Fin 2048, y (ix2 a k) * u (ix2 k b) := by
  unfold out0_6
  rw [View.canon_unit_zero zero2]
  rw [View.ld_unit_zero zero2, View.ld_unit_zero zero2, View.ld_unit_zero zero2, View.ld_unit_zero zero2, View.ld_unit_zero zero2,
    View.ld_unit_zero zero2]
  pointwise [k0_pay1]

variable (m : (ℓ : Loc nD τ sig) → Buf (Elt Ideal) ℓ) (c : Dev nD)

/-- The attention's rows. -/
abbrev X : Vec Ideal S16384x2048 .f32 := m (c.tc.loc main_arg0)
/-- The attention's weights. -/
abbrev W : Vec Ideal S2048x4096 .f32 := m (c.tc.loc main_arg1)
/-- The state-space rows. -/
abbrev Y : Vec Ideal S16384x2048 .f32 := m (c.tc.loc main_arg2)
/-- The state-space weights. -/
abbrev U : Vec Ideal S2048x4096 .f32 := m (c.tc.loc main_arg3)
/-- The gates of both. -/
abbrev Q : Vec Ideal S16384x8192 .f32 := m (c.tc.loc main_arg4)

/-- The attention's gate of a column, and the state-space branch's. -/
def gcol (d : Fin 4096) : Fin 8192 := ⟨d.val, by omega⟩
def hcol (d : Fin 4096) : Fin 8192 := ⟨4096 + d.val, by omega⟩

theorem V0_at (n : Fin 16384) (k : Fin 2048) : (V m c main_v0 : Vec Ideal S16384x2048 .bf16) (ix2 n k) = X m c (ix2 n k) := by
  unfold V
  after_reads_at
theorem V1_at (k : Fin 2048) (d : Fin 4096) : (V m c main_v1 : Vec Ideal S2048x4096 .bf16) (ix2 k d) = W m c (ix2 k d) := by
  unfold V
  after_reads_at
theorem V2_at (n : Fin 16384) (k : Fin 2048) : (V m c main_v2 : Vec Ideal S16384x2048 .bf16) (ix2 n k) = Y m c (ix2 n k) := by
  unfold V
  after_reads_at
theorem V3_at (k : Fin 2048) (d : Fin 4096) : (V m c main_v3 : Vec Ideal S2048x4096 .bf16) (ix2 k d) = U m c (ix2 k d) := by
  unfold V
  after_reads_at
theorem V4_at (n : Fin 16384) (d : Fin 8192) : (V m c main_v4 : Vec Ideal S16384x8192 .bf16) (ix2 n d) = Q m c (ix2 n d) := by
  unfold V
  after_reads_at

theorem idx_facts : ∀ t : Fin cfg0.N,
    (win0_0.index t (0 : Fin 2) = t.val / 4 ∧ win0_0.index t (1 : Fin 2) = 0)
    ∧ (win0_1.index t (0 : Fin 2) = 0 ∧ win0_1.index t (1 : Fin 2) = t.val % 4)
    ∧ (win0_2.index t (0 : Fin 2) = t.val / 4 ∧ win0_2.index t (1 : Fin 2) = 0)
    ∧ (win0_3.index t (0 : Fin 2) = 0 ∧ win0_3.index t (1 : Fin 2) = t.val % 4)
    ∧ (win0_4.index t (0 : Fin 2) = t.val / 4 ∧ win0_4.index t (1 : Fin 2) = t.val % 4)
    ∧ (win0_5.index t (0 : Fin 2) = t.val / 4 ∧ win0_5.index t (1 : Fin 2) = 4 + t.val % 4)
    ∧ win0_6.index t (0 : Fin 2) = t.val / 4 ∧ win0_6.index t (1 : Fin 2) = t.val % 4 :=
  (by decide +kernel : ∀ t : Fin grid0.N, _)

/-- The result's row that a tile's row is. -/
def row (t : Fin cfg0.N) (a : Fin 1024) : Fin 16384 := ⟨t.val / 4 * 1024 + a.val, by have := t.isLt; have : cfg0.N = 64 := rfl; omega⟩
/-- The result's column that a tile's column is. -/
def col (t : Fin cfg0.N) (b : Fin 1024) : Fin 4096 := ⟨t.val % 4 * 1024 + b.val, by omega⟩

theorem in0 (t : Fin cfg0.N) (a : Fin 1024) (k : Fin 2048) :
    (iblk m c 0 t : Vec Ideal S1024x2048 .bf16) (ix2 a k) = X m c (ix2 (row t a) k) := by
  obtain ⟨⟨e0, e1⟩, _⟩ := idx_facts t
  refine Eq.trans ?_ (V0_at m c (row t a) k)
  show (V m c main_v0 : Vec Ideal S16384x2048 .bf16) (((cfg0.win 0).blk t).view.emb (ix2 a k)) = _
  refine congrArg _ (ix2_ext ?_ ?_)
  · show win0_0.index t (0 : Fin 2) * 1024 + 1 * a.val = _; rw [e0, one_mul]; rfl
  · show win0_0.index t (1 : Fin 2) * 2048 + 1 * k.val = _; rw [e1, one_mul, zero_mul, zero_add]
theorem in1 (t : Fin cfg0.N) (k : Fin 2048) (b : Fin 1024) :
    (iblk m c 1 t : Vec Ideal S2048x1024 .bf16) (ix2 k b) = W m c (ix2 k (col t b)) := by
  obtain ⟨_, ⟨e0, e1⟩, _⟩ := idx_facts t
  refine Eq.trans ?_ (V1_at m c k (col t b))
  show (V m c main_v1 : Vec Ideal S2048x4096 .bf16) (((cfg0.win 1).blk t).view.emb (ix2 k b)) = _
  refine congrArg _ (ix2_ext ?_ ?_)
  · show win0_1.index t (0 : Fin 2) * 2048 + 1 * k.val = _; rw [e0, one_mul, zero_mul, zero_add]
  · show win0_1.index t (1 : Fin 2) * 1024 + 1 * b.val = _; rw [e1, one_mul]; rfl
theorem in2 (t : Fin cfg0.N) (a : Fin 1024) (k : Fin 2048) :
    (iblk m c 2 t : Vec Ideal S1024x2048 .bf16) (ix2 a k) = Y m c (ix2 (row t a) k) := by
  obtain ⟨_, _, ⟨e0, e1⟩, _⟩ := idx_facts t
  refine Eq.trans ?_ (V2_at m c (row t a) k)
  show (V m c main_v2 : Vec Ideal S16384x2048 .bf16) (((cfg0.win 2).blk t).view.emb (ix2 a k)) = _
  refine congrArg _ (ix2_ext ?_ ?_)
  · show win0_2.index t (0 : Fin 2) * 1024 + 1 * a.val = _; rw [e0, one_mul]; rfl
  · show win0_2.index t (1 : Fin 2) * 2048 + 1 * k.val = _; rw [e1, one_mul, zero_mul, zero_add]
theorem in3 (t : Fin cfg0.N) (k : Fin 2048) (b : Fin 1024) :
    (iblk m c 3 t : Vec Ideal S2048x1024 .bf16) (ix2 k b) = U m c (ix2 k (col t b)) := by
  obtain ⟨_, _, _, ⟨e0, e1⟩, _⟩ := idx_facts t
  refine Eq.trans ?_ (V3_at m c k (col t b))
  show (V m c main_v3 : Vec Ideal S2048x4096 .bf16) (((cfg0.win 3).blk t).view.emb (ix2 k b)) = _
  refine congrArg _ (ix2_ext ?_ ?_)
  · show win0_3.index t (0 : Fin 2) * 2048 + 1 * k.val = _; rw [e0, one_mul, zero_mul, zero_add]
  · show win0_3.index t (1 : Fin 2) * 1024 + 1 * b.val = _; rw [e1, one_mul]; rfl
theorem in4 (t : Fin cfg0.N) (a b : Fin 1024) :
    (iblk m c 4 t : Vec Ideal S1024x1024 .bf16) (ix2 a b) = Q m c (ix2 (row t a) (gcol (col t b))) := by
  obtain ⟨_, _, _, _, ⟨e0, e1⟩, _⟩ := idx_facts t
  refine Eq.trans ?_ (V4_at m c (row t a) (gcol (col t b)))
  show (V m c main_v4 : Vec Ideal S16384x8192 .bf16) (((cfg0.win 4).blk t).view.emb (ix2 a b)) = _
  refine congrArg _ (ix2_ext ?_ ?_)
  · show win0_4.index t (0 : Fin 2) * 1024 + 1 * a.val = _; rw [e0, one_mul]; rfl
  · show win0_4.index t (1 : Fin 2) * 1024 + 1 * b.val = _; rw [e1, one_mul]; rfl
theorem in5 (t : Fin cfg0.N) (a b : Fin 1024) :
    (iblk m c 5 t : Vec Ideal S1024x1024 .bf16) (ix2 a b) = Q m c (ix2 (row t a) (hcol (col t b))) := by
  obtain ⟨_, _, _, _, _, ⟨e0, e1⟩, _⟩ := idx_facts t
  refine Eq.trans ?_ (V4_at m c (row t a) (hcol (col t b)))
  show (V m c main_v4 : Vec Ideal S16384x8192 .bf16) (((cfg0.win 5).blk t).view.emb (ix2 a b)) = _
  refine congrArg _ (ix2_ext ?_ ?_)
  · show win0_5.index t (0 : Fin 2) * 1024 + 1 * a.val = _; rw [e0, one_mul]; rfl
  · show win0_5.index t (1 : Fin 2) * 1024 + 1 * b.val = _; rw [e1, one_mul]; show _ = 4096 + (t.val % 4 * 1024 + b.val); omega
theorem emb6 (t : Fin cfg0.N) (a b : Fin 1024) :
    ((cfg0.win 6).blk t).view.emb (ix2 a b) = (ix2 (row t a) (col t b) : S16384x4096.Idx) := by
  obtain ⟨_, _, _, _, _, _, e0, e1⟩ := idx_facts t
  refine ix2_ext ?_ ?_
  · show win0_6.index t (0 : Fin 2) * 1024 + 1 * a.val = _; rw [e0, one_mul]; rfl
  · show win0_6.index t (1 : Fin 2) * 1024 + 1 * b.val = _; rw [e1, one_mul]; rfl

/-- The reference's result. -/
def G : Vec Ideal S16384x4096 .bf16 :=
  Cert.MixReferenceIdeal.Read.val_main_v7 (F := Ideal) (X m c) (W m c) (Y m c) (U m c) (Q m c)

open Cert.MixReferenceIdeal.Read in
theorem G_at (n : Fin 16384) (d : Fin 4096) :
    G m c (ix2 n d) = Q m c (ix2 n (gcol d)) * (∑ k : Fin 2048, X m c (ix2 n k) * W m c (ix2 k d))
      + Q m c (ix2 n (hcol d)) * ∑ k : Fin 2048, Y m c (ix2 n k) * U m c (ix2 k d) := by
  unfold G
  rw [val_main_v7_apply, val_main_v6_apply, val_main_v5_apply, val_main_v4_apply, val_main_v3_apply, val_main_v2_apply,
    val_main_v1_apply, val_main_v0_apply]
  have e1 : ∀ k : Fin 2048, lidx_main_v2 (ix2 n d) k = ix2 n k := fun k => eq_ix2 _
  have e2 : ∀ k : Fin 2048, ridx_main_v2 (ix2 n d) k = ix2 k d := fun k => eq_ix2 _
  have e3 : ∀ k : Fin 2048, lidx_main_v4 (ix2 n d) k = ix2 n k := fun k => eq_ix2 _
  have e4 : ∀ k : Fin 2048, ridx_main_v4 (ix2 n d) k = ix2 k d := fun k => eq_ix2 _
  have e5 : idx_main_v0 (ix2 n d) = ix2 n (gcol d) := eq_ix2 _
  have e6 : idx_main_v1 (ix2 n d) = ix2 n (hcol d) := eq_ix2 _
  simp only [e1, e2, e3, e4, e5, e6]
  rfl

/-- A tile's element is the reference's at its place. -/
theorem tile_eq (t : Fin cfg0.N) (j : S1024x1024.Idx) :
    out0_6 (iblk m c 0 t) (iblk m c 1 t) (iblk m c 2 t) (iblk m c 3 t) (iblk m c 4 t) (iblk m c 5 t) j = G m c (((cfg0.win 6).blk t).view.emb j) := by
  obtain ⟨a, b, rfl⟩ : ∃ (a b : Fin 1024), j = ix2 a b := ⟨j 0, j 1, eq_ix2 j⟩
  rw [emb6, G_at, tile_at]
  simp only [in0, in1, in2, in3, in4, in5]

/-- A tile whose elements are those of an array at the tile's place is that array read there. -/
theorem cut6 (t : Fin cfg0.N) (Y : Vec Ideal S1024x1024 .bf16) (Z : Vec Ideal S16384x4096 .bf16)
    (h : ∀ j : S1024x1024.Idx, Y j = Z (((cfg0.win 6).blk t).view.emb j)) :
    (cfg0.win 6).cut (grid0.coords t) Y = ((cfg0.win 6).blk t).view.read (Elt Ideal) Z := by
  funext j
  exact h j

theorem covered6 (i : S16384x4096.Idx) :
    ∃ t : Fin cfg0.N, (cfg0.win 6).flush t = true ∧ i ∈ ((cfg0.win 6).blk t).view.set := by
  obtain ⟨t, a, b, h0, h1⟩ := tile_of (R := 16) (J := 4) (i 0).isLt (i 1).isLt
  let u : Fin cfg0.N := t
  refine ⟨u, flush0_6 u, ?_⟩
  have e := ((cfg0.win 6).blk u).view.emb_mem_set (ix2 a b)
  rw [emb6] at e
  rwa [ix2_ext (i := i) (a := row u a) (b := col u b) h0.symm h1.symm]

/-- The array after the run. -/
theorem final6 : (dats m 0 c).arrAt 6 cfg0.N = G m c :=
  (dats m 0 c).arrAt_eq_of_cover 6 (G m c) (fun t _ => (flushed6 m c t).trans (cut6 t _ _ (tile_eq m c t))) covered6

/-- The program runs and changes no argument, at words and at the extended reals. -/
theorem frame_words : Cert.quiescent_Mix := fun m ρ _ => Cert.Mix.Gen.frame (F := Bits) m ρ
theorem frame_ideal : Cert.quiescent_MixIdeal := fun m ρ _ => Cert.MixIdeal.Gen.frame (F := Ideal) m ρ
theorem preserved : Cert.preserves_Mix_MixIdeal := trivial

/-- The reference runs and changes no argument. -/
theorem frame_reference : Cert.quiescent_MixReferenceIdeal := fun m ρ _ =>
  (θ_run _ _ _).mono (fun r h => ⟨fun c => (h c).2, Idealize.ShloMosaic.sem_eq_zero_of_no_sems (by decide) r.2⟩)
    (Cert.MixReferenceIdeal.Value.run (F := Ideal) m ρ)

/-- The mixed branches are the reference's. -/
theorem algebraic : Cert.algebraic_MixIdeal_MixReferenceIdeal := by
  intro m g m' g' _ he
  refine ⟨fun c => G m c, ?_, ?_⟩
  · exact (θ_run _ _ _).mono (fun r h c => ⟨(h c).1.trans (final6 m c), (h c).2⟩) (run_blocks (F := Ideal) m g)
  · refine (θ_run _ _ _).mono (fun r h c => ⟨(h c).1.trans ?_, (h c).2⟩) (Cert.MixReferenceIdeal.Value.run (F := Ideal) m' g')
    obtain ⟨e0, e1, e2, e3, e4⟩ := he c
    rw [Cert.MixReferenceIdeal.Read.val_main_v7_eq, e0, e1, e2, e3, e4]
    rfl

end Cert.MixCall
end
-- ==== Proof.Residual.lean ====
module

public import proofs.«01_k».proof.Proof.Tile
public import proofs.«01_k».proof.Proof.Gen.Residual.Frame
public import proofs.«01_k».proof.Proof.Gen.ResidualIdeal.Value
public import proofs.«01_k».proof.Proof.Gen.ResidualReferenceIdeal.Run
public import proofs.«01_k».proof.Proof.Gen.ResidualReferenceIdeal.Read

/-
The output projection: each tile of 1024 rows and 1024 columns is the incoming tile plus its rows' product with its columns'
weights, so the array is the reference's.
-/
@[expose] public section
set_option maxRecDepth 16384
noncomputable section
namespace Cert.ResidualCall
open Idealize.ShloMosaic Idealize.ShloMosaic.TcCoe Idealize.SL.Sem Cert.Tile
open Cert.ResidualIdeal Cert.ResidualIdeal.Gen Cert.ResidualIdeal.Value

/-- A tile's element. -/
theorem tile_at (x : Vec Ideal S1024x4096 .bf16) (w : Vec Ideal S4096x1024 .bf16) (e : Vec Ideal S1024x1024 .f32) (a b : Fin 1024) :
    out0_3 x w e (ix2 a b) = e (ix2 a b) + ∑ k : Fin 4096, x (ix2 a k) * w (ix2 k b) := by
  unfold out0_3
  rw [View.canon_unit_zero zero2, View.ld_unit_zero zero2, View.ld_unit_zero zero2, View.ld_unit_zero zero2]
  pointwise [k0_pay1]

variable (m : (ℓ : Loc nD τ sig) → Buf (Elt Ideal) ℓ) (c : Dev nD)

/-- The mixed branches. -/
abbrev X : Vec Ideal S16384x4096 .f32 := m (c.tc.loc main_arg0)
/-- The output weights. -/
abbrev W : Vec Ideal S4096x4096 .f32 := m (c.tc.loc main_arg1)
/-- The layer's input. -/
abbrev E : Vec Ideal S16384x4096 .f32 := m (c.tc.loc main_arg2)

theorem V0_at (n : Fin 16384) (k : Fin 4096) : (V m c main_v0 : Vec Ideal S16384x4096 .bf16) (ix2 n k) = X m c (ix2 n k) := by
  unfold V
  after_reads_at
theorem V1_at (k d : Fin 4096) : (V m c main_v1 : Vec Ideal S4096x4096 .bf16) (ix2 k d) = W m c (ix2 k d) := by
  unfold V
  after_reads_at

theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = t.val % 4
    ∧ win0_3.index t (0 : Fin 2) = t.val / 4 ∧ win0_3.index t (1 : Fin 2) = t.val % 4 :=
  (by decide +kernel : ∀ t : Fin grid0.N, _)

/-- The result's row that a tile's row is. -/
def row (t : Fin cfg0.N) (a : Fin 1024) : Fin 16384 := ⟨t.val / 4 * 1024 + a.val, by have := t.isLt; have : cfg0.N = 64 := rfl; omega⟩
/-- The result's column that a tile's column is. -/
def col (t : Fin cfg0.N) (b : Fin 1024) : Fin 4096 := ⟨t.val % 4 * 1024 + b.val, by omega⟩

theorem in0 (t : Fin cfg0.N) (a : Fin 1024) (k : Fin 4096) :
    (iblk m c 0 t : Vec Ideal S1024x4096 .bf16) (ix2 a k) = X m c (ix2 (row t a) k) := by
  obtain ⟨e0, e1, _⟩ := idx_facts t
  refine Eq.trans ?_ (V0_at m c (row t a) k)
  show (V m c main_v0 : Vec Ideal S16384x4096 .bf16) (((cfg0.win 0).blk t).view.emb (ix2 a k)) = _
  refine congrArg _ (ix2_ext ?_ ?_)
  · show win0_0.index t (0 : Fin 2) * 1024 + 1 * a.val = _; rw [e0, one_mul]; rfl
  · show win0_0.index t (1 : Fin 2) * 4096 + 1 * k.val = _; rw [e1, one_mul, zero_mul, zero_add]
theorem in1 (t : Fin cfg0.N) (k : Fin 4096) (b : Fin 1024) :
    (iblk m c 1 t : Vec Ideal S4096x1024 .bf16) (ix2 k b) = W m c (ix2 k (col t b)) := by
  obtain ⟨_, _, e0, e1, _⟩ := idx_facts t
  refine Eq.trans ?_ (V1_at m c k (col t b))
  show (V m c main_v1 : Vec Ideal S4096x4096 .bf16) (((cfg0.win 1).blk t).view.emb (ix2 k b)) = _
  refine congrArg _ (ix2_ext ?_ ?_)
  · show win0_1.index t (0 : Fin 2) * 4096 + 1 * k.val = _; rw [e0, one_mul, zero_mul, zero_add]
  · show win0_1.index t (1 : Fin 2) * 1024 + 1 * b.val = _; rw [e1, one_mul]; rfl
theorem in2 (t : Fin cfg0.N) (a b : Fin 1024) :
    (iblk m c 2 t : Vec Ideal S1024x1024 .f32) (ix2 a b) = E m c (ix2 (row t a) (col t b)) := by
  obtain ⟨_, _, _, _, e0, e1, _⟩ := idx_facts t
  refine Eq.trans ?_ (congrFun (V_main_arg2 m c) (ix2 (row t a) (col t b)))
  show (V m c main_arg2 : Vec Ideal S16384x4096 .f32) (((cfg0.win 2).blk t).view.emb (ix2 a b)) = _
  refine congrArg _ (ix2_ext ?_ ?_)
  · show win0_2.index t (0 : Fin 2) * 1024 + 1 * a.val = _; rw [e0, one_mul]; rfl
  · show win0_2.index t (1 : Fin 2) * 1024 + 1 * b.val = _; rw [e1, one_mul]; rfl
theorem emb3 (t : Fin cfg0.N) (a b : Fin 1024) :
    ((cfg0.win 3).blk t).view.emb (ix2 a b) = (ix2 (row t a) (col t b) : S16384x4096.Idx) := by
  obtain ⟨_, _, _, _, _, _, e0, e1⟩ := idx_facts t
  refine ix2_ext ?_ ?_
  · show win0_3.index t (0 : Fin 2) * 1024 + 1 * a.val = _; rw [e0, one_mul]; rfl
  · show win0_3.index t (1 : Fin 2) * 1024 + 1 * b.val = _; rw [e1, one_mul]; rfl

/-- The reference's result. -/
def G : Vec Ideal S16384x4096 .f32 := Cert.ResidualReferenceIdeal.Read.val_main_v1 (F := Ideal) (X m c) (W m c) (E m c)

open Cert.ResidualReferenceIdeal.Read in
theorem G_at (n : Fin 16384) (d : Fin 4096) :
    G m c (ix2 n d) = E m c (ix2 n d) + ∑ k : Fin 4096, X m c (ix2 n k) * W m c (ix2 k d) := by
  unfold G
  rw [val_main_v1_apply, val_main_v0_apply]
  have e1 : ∀ k : Fin 4096, lidx_main_v0 (ix2 n d) k = ix2 n k := fun k => eq_ix2 _
  have e2 : ∀ k : Fin 4096, ridx_main_v0 (ix2 n d) k = ix2 k d := fun k => eq_ix2 _
  simp only [e1, e2]
  rfl

/-- A tile's element is the reference's at its place. -/
theorem tile_eq (t : Fin cfg0.N) (j : S1024x1024.Idx) :
    out0_3 (iblk m c 0 t) (iblk m c 1 t) (iblk m c 2 t) j = G m c (((cfg0.win 3).blk t).view.emb j) := by
  obtain ⟨a, b, rfl⟩ : ∃ (a b : Fin 1024), j = ix2 a b := ⟨j 0, j 1, eq_ix2 j⟩
  rw [emb3, G_at, tile_at]
  simp only [in0, in1, in2]

/-- A tile whose elements are those of an array at the tile's place is that array read there. -/
theorem cut3 (t : Fin cfg0.N) (Y : Vec Ideal S1024x1024 .f32) (Z : Vec Ideal S16384x4096 .f32)
    (h : ∀ j : S1024x1024.Idx, Y j = Z (((cfg0.win 3).blk t).view.emb j)) :
    (cfg0.win 3).cut (grid0.coords t) Y = ((cfg0.win 3).blk t).view.read (Elt Ideal) Z := by
  funext j
  exact h j

theorem covered3 (i : S16384x4096.Idx) :
    ∃ t : Fin cfg0.N, (cfg0.win 3).flush t = true ∧ i ∈ ((cfg0.win 3).blk t).view.set := by
  obtain ⟨t, a, b, h0, h1⟩ := tile_of (R := 16) (J := 4) (i 0).isLt (i 1).isLt
  let u : Fin cfg0.N := t
  refine ⟨u, flush0_3 u, ?_⟩
  have e := ((cfg0.win 3).blk u).view.emb_mem_set (ix2 a b)
  rw [emb3] at e
  rwa [ix2_ext (i := i) (a := row u a) (b := col u b) h0.symm h1.symm]

/-- The array after the run. -/
theorem final3 : (dats m 0 c).arrAt 3 cfg0.N = G m c :=
  (dats m 0 c).arrAt_eq_of_cover 3 (G m c) (fun t _ => (flushed3 m c t).trans (cut3 t _ _ (tile_eq m c t))) covered3

/-- The program runs and changes no argument, at words and at the extended reals. -/
theorem frame_words : Cert.quiescent_Residual := fun m ρ _ => Cert.Residual.Gen.frame (F := Bits) m ρ
theorem frame_ideal : Cert.quiescent_ResidualIdeal := fun m ρ _ => Cert.ResidualIdeal.Gen.frame (F := Ideal) m ρ
theorem preserved : Cert.preserves_Residual_ResidualIdeal := trivial

/-- The reference runs and changes no argument. -/
theorem frame_reference : Cert.quiescent_ResidualReferenceIdeal := fun m ρ _ =>
  (θ_run _ _ _).mono (fun r h => ⟨fun c => (h c).2, Idealize.ShloMosaic.sem_eq_zero_of_no_sems (by decide) r.2⟩)
    (Cert.ResidualReferenceIdeal.Value.run (F := Ideal) m ρ)

/-- The layer's input plus the output projection is the reference's. -/
theorem algebraic : Cert.algebraic_ResidualIdeal_ResidualReferenceIdeal := by
  intro m g m' g' _ he
  refine ⟨fun c => G m c, ?_, ?_⟩
  · exact (θ_run _ _ _).mono (fun r h c => ⟨(h c).1.trans (final3 m c), (h c).2⟩) (run_blocks (F := Ideal) m g)
  · refine (θ_run _ _ _).mono (fun r h c => ⟨(h c).1.trans ?_, (h c).2⟩) (Cert.ResidualReferenceIdeal.Value.run (F := Ideal) m' g')
    obtain ⟨e0, e1, e2⟩ := he c
    rw [Cert.ResidualReferenceIdeal.Read.val_main_v1_eq, e0, e1, e2]
    rfl

end Cert.ResidualCall
end
-- ==== Proof.Out.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Ring
public import Idealize.ShloMosaic.Lib.Tactic
public import Idealize.ShloMosaic.Lib.WordCmp

/-
What one grid point of the attention call writes, named piece by piece. The query block with its feature columns
(`qa0`, `qa1`, one per head), the scores against the memory block (`sm0`, `sm1`), the two candidates for the row bound
(`bound0`/`bound1`: the norm bound, `exact0`/`exact1`: the row maxima), the choice between them (`chosen`), the
accumulation over the earlier key blocks (`acc`), and the two stores into the output block (`outPieces`). The key
norms the scratch keeps are `keyPieces`. Everything here is over any reading of the floats.
-/
@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

section

variable (c : Dev nD) (i : grid0.Coords) (arg3 : Memref sig .tc .vmem S1024x256 .bf16) (harg3 : arg3.IsWhole) (arg4 : Memref sig .tc .vmem S1024x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S128x256 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1024x256 .bf16) (harg11 : arg11.IsWhole) (arg12 : Memref sig .tc .vmem S8x128 .f32) (harg12 : arg12.IsWhole)
variable (hc0 : k0_cond1 i = 1#1)
variable (x3 : Vec F S1024x256 .bf16) (x4 : Vec F S1024x256 .bf16) (x5 : Vec F S4096x256 .bf16) (x6 : Vec F S4096x256 .bf16) (x7 : Vec F S4096x256 .bf16) (x8 : Vec F S128x256 .bf16) (x9 : Vec F S128x256 .bf16) (x10 : Vec F S128x256 .bf16) (v69 v83 : Vec F S1x1 .f32) (mb0 mb1 : FVec F S1024x128 .f32)

/-- The grid coordinate of the query block, as a word. -/
def w2 : BitVec 32 := BitVec.ofNat 32 (i 2).val

/-- The number of whole key blocks before the query block, as the kernel computes it. -/
def w27 : BitVec 32 :=
  let v10 : BitVec 32 := Scalar.muli (w2 i) 1024#32
  let v11 : BitVec 32 := Scalar.divsi v10 1024#32
  let v16 : BitVec 32 := Scalar.subi (Scalar.extui (Scalar.cmpi .sgt v10 0#32)) (Scalar.extui (Scalar.cmpi .slt v10 0#32))
  let v21 : BitVec 32 := Scalar.subi (Scalar.extui (Scalar.cmpi .sgt 1024#32 0#32)) (Scalar.extui (Scalar.cmpi .slt 1024#32 0#32))
  Scalar.select (Scalar.andi (Scalar.cmpi .ne v16 v21) (Scalar.cmpi .ne (Scalar.remsi v10 1024#32) 0#32)) (Scalar.subi v11 1#32) v11

/-- The number of keys left over after the whole blocks, as the kernel computes it. -/
def w30 : BitVec 32 := Scalar.subi (Scalar.muli (w2 i) 1024#32) (Scalar.muli (w27 i) 1024#32)

/-- The number of small blocks left over, as the kernel computes it. -/
def w47 : BitVec 32 :=
  let v31 : BitVec 32 := Scalar.divsi (w30 i) 1024#32
  let v36 : BitVec 32 := Scalar.subi (Scalar.extui (Scalar.cmpi .sgt (w30 i) 0#32)) (Scalar.extui (Scalar.cmpi .slt (w30 i) 0#32))
  let v41 : BitVec 32 := Scalar.subi (Scalar.extui (Scalar.cmpi .sgt 1024#32 0#32)) (Scalar.extui (Scalar.cmpi .slt 1024#32 0#32))
  Scalar.select (Scalar.andi (Scalar.cmpi .ne v36 v41) (Scalar.cmpi .ne (Scalar.remsi (w30 i) 1024#32) 0#32)) (Scalar.subi v31 1#32) v31

/-- Head 0's queries beside their feature columns. -/
def qa0 : FVec F S1024x256 .bf16 := k0_pay129 (View.readAt (Elt F) arg3.view (Rect.unit (s := S1024x256) ![0, 0] S1024x128.size inb_S1024x256_S1024x128_0_0).toLoadRect (harg3.unread x3)) (View.readAt (Elt F) arg4.view (Rect.unit (s := S1024x256) ![0, 0] S1024x128.size inb_S1024x256_S1024x128_0_0).toLoadRect (harg4.unread x4))
/-- Head 1's queries beside their feature columns. -/
def qa1 : FVec F S1024x256 .bf16 := k0_pay130 (View.readAt (Elt F) arg3.view (Rect.unit (s := S1024x256) ![0, 128] S1024x128.size inb_S1024x256_S1024x128_0_128).toLoadRect (harg3.unread x3)) (View.readAt (Elt F) arg4.view (Rect.unit (s := S1024x256) ![0, 128] S1024x128.size inb_S1024x256_S1024x128_0_128).toLoadRect (harg4.unread x4))
/-- Head 0's scores against the memory block. -/
def sm0 : FVec F S1024x128 .f32 := k0_pay132 (qa0 arg3 harg3 arg4 harg4 x3 x4) (View.readAt (Elt F) arg8.view (Rect.unit (s := S128x256) ![0, 0] S128x128.size inb_S128x256_S128x128_0_0).toLoadRect (harg8.unread x8)) (View.readAt (Elt F) arg9.view (Rect.unit (s := S128x256) ![0, 0] S128x128.size inb_S128x256_S128x128_0_0).toLoadRect (harg9.unread x9))
/-- Head 1's scores against the memory block. -/
def sm1 : FVec F S1024x128 .f32 := k0_pay133 (qa1 arg3 harg3 arg4 harg4 x3 x4) (View.readAt (Elt F) arg8.view (Rect.unit (s := S128x256) ![0, 128] S128x128.size inb_S128x256_S128x128_0_128).toLoadRect (harg8.unread x8)) (View.readAt (Elt F) arg9.view (Rect.unit (s := S128x256) ![0, 128] S128x128.size inb_S128x256_S128x128_0_128).toLoadRect (harg9.unread x9))

/-- Head 0's norm part of the bound: the query norms times the largest key norm. -/
def norm0 : FVec F S1024x1 .f32 := k0_pay134 (View.readAt (Elt F) arg3.view (Rect.unit (s := S1024x256) ![0, 0] S1024x128.size inb_S1024x256_S1024x128_0_0).toLoadRect (harg3.unread x3)) v69
/-- The factor the norm part is stretched by. -/
def stretch : F .f32 := Scalar.ofBits .f32 0x3F8020C5#32
/-- Head 0's bound on its scores. -/
def bound0 : FVec F S1024x128 .f32 := k0_pay138 (norm0 arg3 harg3 x3 v69) (stretch (F := F))
/-- Head 1's bound on its scores. -/
def bound1 : FVec F S1024x128 .f32 := k0_pay139 (View.readAt (Elt F) arg3.view (Rect.unit (s := S1024x256) ![0, 128] S1024x128.size inb_S1024x256_S1024x128_0_128).toLoadRect (harg3.unread x3)) v83
/-- Whether the bound of every row of both heads is at most 40. -/
def small : BitVec 1 :=
  Scalar.cmpi .ne ((Scalar.extui (Scalar.cmpf .ole (k0_pay137 (norm0 arg3 harg3 x3 v69) (stretch (F := F)) (View.readAt (Elt F) arg3.view (Rect.unit (s := S1024x256) ![0, 128] S1024x128.size inb_S1024x256_S1024x128_0_128).toLoadRect (harg3.unread x3)) v83) (Scalar.ofBits .f32 0x42200000#32)) : BitVec 32)) 0#32

/-- The running row maxima after loop 1 of the exact branch. -/
def ex3 : FVec F S1024x128 .f32 × FVec F S1024x128 .f32 :=
  st_k0_t3 Variants.none c none i arg3 harg3 arg4 harg4 arg5 harg5 arg6 harg6 arg7 harg7 arg8 harg8 arg9 harg9 arg10 harg10 arg11 harg11 arg12 harg12 (w2 i) (qa0 arg3 harg3 arg4 harg4 x3 x4) (qa1 arg3 harg3 arg4 harg4 x3 x4) (w27 i) (w47 i) (sm0 arg3 harg3 arg4 harg4 arg8 harg8 arg9 harg9 x3 x4 x8 x9) (sm1 arg3 harg3 arg4 harg4 arg8 harg8 arg9 harg9 x3 x4 x8 x9) (harg5.unread x5) (harg6.unread x6)
    ((sm0 arg3 harg3 arg4 harg4 arg8 harg8 arg9 harg9 x3 x4 x8 x9), (sm1 arg3 harg3 arg4 harg4 arg8 harg8 arg9 harg9 x3 x4 x8 x9)) (k0_t3_loop i).trips

/-- The running row maxima after loop 2 of the exact branch. -/
def ex4 : FVec F S1024x128 .f32 × FVec F S1024x128 .f32 :=
  st_k0_t4 Variants.none c none i arg3 harg3 arg4 harg4 arg5 harg5 arg6 harg6 arg7 harg7 arg8 harg8 arg9 harg9 arg10 harg10 arg11 harg11 arg12 harg12 (w2 i) (qa0 arg3 harg3 arg4 harg4 x3 x4) (qa1 arg3 harg3 arg4 harg4 x3 x4) (w27 i) (w47 i) (sm0 arg3 harg3 arg4 harg4 arg8 harg8 arg9 harg9 x3 x4 x8 x9) (sm1 arg3 harg3 arg4 harg4 arg8 harg8 arg9 harg9 x3 x4 x8 x9) (harg5.unread x5) (harg6.unread x6)
    ((ex3 c i arg3 harg3 arg4 harg4 arg5 harg5 arg6 harg6 arg7 harg7 arg8 harg8 arg9 harg9 arg10 harg10 arg11 harg11 arg12 harg12 x3 x4 x5 x6 x8 x9).1, (ex3 c i arg3 harg3 arg4 harg4 arg5 harg5 arg6 harg6 arg7 harg7 arg8 harg8 arg9 harg9 arg10 harg10 arg11 harg11 arg12 harg12 x3 x4 x5 x6 x8 x9).2) (k0_t4_loop i).trips

/-- The running row maxima after loop 3 of the exact branch. -/
def ex5 : FVec F S1024x128 .f32 × FVec F S1024x128 .f32 :=
  st_k0_t5 Variants.none c none i arg3 harg3 arg4 harg4 arg5 harg5 arg6 harg6 arg7 harg7 arg8 harg8 arg9 harg9 arg10 harg10 arg11 harg11 arg12 harg12 (w2 i) (qa0 arg3 harg3 arg4 harg4 x3 x4) (qa1 arg3 harg3 arg4 harg4 x3 x4) (w27 i) (w47 i) (sm0 arg3 harg3 arg4 harg4 arg8 harg8 arg9 harg9 x3 x4 x8 x9) (sm1 arg3 harg3 arg4 harg4 arg8 harg8 arg9 harg9 x3 x4 x8 x9) (harg5.unread x5) (harg6.unread x6)
    ((ex4 c i arg3 harg3 arg4 harg4 arg5 harg5 arg6 harg6 arg7 harg7 arg8 harg8 arg9 harg9 arg10 harg10 arg11 harg11 arg12 harg12 x3 x4 x5 x6 x8 x9).1, (ex4 c i arg3 harg3 arg4 harg4 arg5 harg5 arg6 harg6 arg7 harg7 arg8 harg8 arg9 harg9 arg10 harg10 arg11 harg11 arg12 harg12 x3 x4 x5 x6 x8 x9).2) (k0_t5_loop i).trips

/-- The running row maxima after loop 4 of the exact branch. -/
def ex6 : FVec F S1024x128 .f32 × FVec F S1024x128 .f32 :=
  st_k0_t6 Variants.none c none i arg3 harg3 arg4 harg4 arg5 harg5 arg6 harg6 arg7 harg7 arg8 harg8 arg9 harg9 arg10 harg10 arg11 harg11 arg12 harg12 (w2 i) (qa0 arg3 harg3 arg4 harg4 x3 x4) (qa1 arg3 harg3 arg4 harg4 x3 x4) (w27 i) (w47 i) (sm0 arg3 harg3 arg4 harg4 arg8 harg8 arg9 harg9 x3 x4 x8 x9) (sm1 arg3 harg3 arg4 harg4 arg8 harg8 arg9 harg9 x3 x4 x8 x9) (Scalar.addi 0#32 (Scalar.muli (Scalar.divsi (Scalar.subi (w47 i) 0#32) 1#32) 1#32)) (harg5.unread x5) (harg6.unread x6)
    ((ex5 c i arg3 harg3 arg4 harg4 arg5 harg5 arg6 harg6 arg7 harg7 arg8 harg8 arg9 harg9 arg10 harg10 arg11 harg11 arg12 harg12 x3 x4 x5 x6 x8 x9).1, (ex5 c i arg3 harg3 arg4 harg4 arg5 harg5 arg6 harg6 arg7 harg7 arg8 harg8 arg9 harg9 arg10 harg10 arg11 harg11 arg12 harg12 x3 x4 x5 x6 x8 x9).2) (k0_t6_loop i).trips

/-- Head 0's row maxima. -/
def exact0 : FVec F S1024x128 .f32 := k0_pay140 (k0_pay24 (qa0 arg3 harg3 arg4 harg4 x3 x4) (ex6 c i arg3 harg3 arg4 harg4 arg5 harg5 arg6 harg6 arg7 harg7 arg8 harg8 arg9 harg9 arg10 harg10 arg11 harg11 arg12 harg12 x3 x4 x5 x6 x8 x9).1 (View.readAt (Elt F) arg5.view (Rect.unit (s := S4096x256) (k0_off11 i) S1024x128.size (k0_off11_inb i)).toLoadRect (harg5.unread x5)) (View.readAt (Elt F) arg6.view (Rect.unit (s := S4096x256) (k0_off11 i) S1024x128.size (k0_off11_inb i)).toLoadRect (harg6.unread x6)))
/-- Head 1's row maxima. -/
def exact1 : FVec F S1024x128 .f32 :=
  k0_pay141 (qa1 arg3 harg3 arg4 harg4 x3 x4) (ex6 c i arg3 harg3 arg4 harg4 arg5 harg5 arg6 harg6 arg7 harg7 arg8 harg8 arg9 harg9 arg10 harg10 arg11 harg11 arg12 harg12 x3 x4 x5 x6 x8 x9).2 (iota .tc S1024x1024 32 [0] iota_S1024x1024_d0_w32) (iota .tc S1024x1024 32 [1] iota_S1024x1024_d1_w32) (View.readAt (Elt F) arg5.view (Rect.unit (s := S4096x256) (k0_off12 i) S1024x128.size (k0_off12_inb i)).toLoadRect (harg5.unread x5)) (View.readAt (Elt F) arg6.view (Rect.unit (s := S4096x256) (k0_off12 i) S1024x128.size (k0_off12_inb i)).toLoadRect (harg6.unread x6))

/-- The pair of row bounds the kernel takes: the norm bounds where they are small, the row maxima otherwise. -/
def chosen : FVec F S1024x128 .f32 × FVec F S1024x128 .f32 :=
  if small arg3 harg3 x3 v69 v83 = 1#1 then (bound0 arg3 harg3 x3 v69, bound1 arg3 harg3 x3 v83) else (exact0 c i arg3 harg3 arg4 harg4 arg5 harg5 arg6 harg6 arg7 harg7 arg8 harg8 arg9 harg9 arg10 harg10 arg11 harg11 arg12 harg12 x3 x4 x5 x6 x8 x9, exact1 c i arg3 harg3 arg4 harg4 arg5 harg5 arg6 harg6 arg7 harg7 arg8 harg8 arg9 harg9 arg10 harg10 arg11 harg11 arg12 harg12 x3 x4 x5 x6 x8 x9)

/-- The zero block the first accumulation is added to. -/
def zeros : FVec F S1024x128 .f32 := constant S1024x128 .f32 0x00000000#32

/-- The two heads' weighted sums and sums of weights after loop 1 of the accumulation. -/
def ac7 : FVec F S1024x128 .f32 × FVec F S1024x128 .f32 × FVec F S1024x128 .f32 × FVec F S1024x128 .f32 :=
  st_k0_t7 Variants.none c none i arg3 harg3 arg4 harg4 arg5 harg5 arg6 harg6 arg7 harg7 arg8 harg8 arg9 harg9 arg10 harg10 arg11 harg11 arg12 harg12 (w2 i) (qa0 arg3 harg3 arg4 harg4 x3 x4) (qa1 arg3 harg3 arg4 harg4 x3 x4) (w27 i) (w47 i) mb0 mb1 (k0_pay142 (sm0 arg3 harg3 arg4 harg4 arg8 harg8 arg9 harg9 x3 x4 x8 x9) mb0) (k0_pay143 (sm0 arg3 harg3 arg4 harg4 arg8 harg8 arg9 harg9 x3 x4 x8 x9) mb0 (View.readAt (Elt F) arg10.view (Rect.unit (s := S128x256) ![0, 0] S128x128.size inb_S128x256_S128x128_0_0).toLoadRect (harg10.unread x10))) (k0_pay144 (View.readAt (Elt F) arg10.view (Rect.unit (s := S128x256) ![0, 128] S128x128.size inb_S128x256_S128x128_0_128).toLoadRect (harg10.unread x10))) (k0_pay145 (sm1 arg3 harg3 arg4 harg4 arg8 harg8 arg9 harg9 x3 x4 x8 x9) mb1) (k0_pay146 (sm1 arg3 harg3 arg4 harg4 arg8 harg8 arg9 harg9 x3 x4 x8 x9) mb1) zeros (harg5.unread x5) (harg6.unread x6) (harg7.unread x7)
    ((k0_pay143 (sm0 arg3 harg3 arg4 harg4 arg8 harg8 arg9 harg9 x3 x4 x8 x9) mb0 (View.readAt (Elt F) arg10.view (Rect.unit (s := S128x256) ![0, 0] S128x128.size inb_S128x256_S128x128_0_0).toLoadRect (harg10.unread x10))), (k0_pay142 (sm0 arg3 harg3 arg4 harg4 arg8 harg8 arg9 harg9 x3 x4 x8 x9) mb0), k0_pay147 (k0_pay144 (View.readAt (Elt F) arg10.view (Rect.unit (s := S128x256) ![0, 128] S128x128.size inb_S128x256_S128x128_0_128).toLoadRect (harg10.unread x10))) (k0_pay146 (sm1 arg3 harg3 arg4 harg4 arg8 harg8 arg9 harg9 x3 x4 x8 x9) mb1) zeros, (k0_pay145 (sm1 arg3 harg3 arg4 harg4 arg8 harg8 arg9 harg9 x3 x4 x8 x9) mb1)) (k0_t7_loop i).trips

/-- The two heads' weighted sums and sums of weights after loop 2 of the accumulation. -/
def ac8 : FVec F S1024x128 .f32 × FVec F S1024x128 .f32 × FVec F S1024x128 .f32 × FVec F S1024x128 .f32 :=
  st_k0_t8 Variants.none c none i arg3 harg3 arg4 harg4 arg5 harg5 arg6 harg6 arg7 harg7 arg8 harg8 arg9 harg9 arg10 harg10 arg11 harg11 arg12 harg12 (w2 i) (qa0 arg3 harg3 arg4 harg4 x3 x4) (qa1 arg3 harg3 arg4 harg4 x3 x4) (w27 i) (w47 i) mb0 mb1 (k0_pay142 (sm0 arg3 harg3 arg4 harg4 arg8 harg8 arg9 harg9 x3 x4 x8 x9) mb0) (k0_pay143 (sm0 arg3 harg3 arg4 harg4 arg8 harg8 arg9 harg9 x3 x4 x8 x9) mb0 (View.readAt (Elt F) arg10.view (Rect.unit (s := S128x256) ![0, 0] S128x128.size inb_S128x256_S128x128_0_0).toLoadRect (harg10.unread x10))) (k0_pay144 (View.readAt (Elt F) arg10.view (Rect.unit (s := S128x256) ![0, 128] S128x128.size inb_S128x256_S128x128_0_128).toLoadRect (harg10.unread x10))) (k0_pay145 (sm1 arg3 harg3 arg4 harg4 arg8 harg8 arg9 harg9 x3 x4 x8 x9) mb1) (k0_pay146 (sm1 arg3 harg3 arg4 harg4 arg8 harg8 arg9 harg9 x3 x4 x8 x9) mb1) zeros (Scalar.addi 0#32 (Scalar.muli (Scalar.divsi (Scalar.subi (w27 i) 0#32) 1#32) 1#32)) (harg5.unread x5) (harg6.unread x6) (harg7.unread x7)
    ((ac7 c i arg3 harg3 arg4 harg4 arg5 harg5 arg6 harg6 arg7 harg7 arg8 harg8 arg9 harg9 arg10 harg10 arg11 harg11 arg12 harg12 x3 x4 x5 x6 x7 x8 x9 x10 mb0 mb1).1, (ac7 c i arg3 harg3 arg4 harg4 arg5 harg5 arg6 harg6 arg7 harg7 arg8 harg8 arg9 harg9 arg10 harg10 arg11 harg11 arg12 harg12 x3 x4 x5 x6 x7 x8 x9 x10 mb0 mb1).2.1, (ac7 c i arg3 harg3 arg4 harg4 arg5 harg5 arg6 harg6 arg7 harg7 arg8 harg8 arg9 harg9 arg10 harg10 arg11 harg11 arg12 harg12 x3 x4 x5 x6 x7 x8 x9 x10 mb0 mb1).2.2.1, (ac7 c i arg3 harg3 arg4 harg4 arg5 harg5 arg6 harg6 arg7 harg7 arg8 harg8 arg9 harg9 arg10 harg10 arg11 harg11 arg12 harg12 x3 x4 x5 x6 x7 x8 x9 x10 mb0 mb1).2.2.2) (k0_t8_loop i).trips

/-- The two heads' weighted sums and sums of weights after loop 3 of the accumulation. -/
def ac9 : FVec F S1024x128 .f32 × FVec F S1024x128 .f32 × FVec F S1024x128 .f32 × FVec F S1024x128 .f32 :=
  st_k0_t9 Variants.none c none i arg3 harg3 arg4 harg4 arg5 harg5 arg6 harg6 arg7 harg7 arg8 harg8 arg9 harg9 arg10 harg10 arg11 harg11 arg12 harg12 (w2 i) (qa0 arg3 harg3 arg4 harg4 x3 x4) (qa1 arg3 harg3 arg4 harg4 x3 x4) (w27 i) (w47 i) mb0 mb1 (k0_pay142 (sm0 arg3 harg3 arg4 harg4 arg8 harg8 arg9 harg9 x3 x4 x8 x9) mb0) (k0_pay143 (sm0 arg3 harg3 arg4 harg4 arg8 harg8 arg9 harg9 x3 x4 x8 x9) mb0 (View.readAt (Elt F) arg10.view (Rect.unit (s := S128x256) ![0, 0] S128x128.size inb_S128x256_S128x128_0_0).toLoadRect (harg10.unread x10))) (k0_pay144 (View.readAt (Elt F) arg10.view (Rect.unit (s := S128x256) ![0, 128] S128x128.size inb_S128x256_S128x128_0_128).toLoadRect (harg10.unread x10))) (k0_pay145 (sm1 arg3 harg3 arg4 harg4 arg8 harg8 arg9 harg9 x3 x4 x8 x9) mb1) (k0_pay146 (sm1 arg3 harg3 arg4 harg4 arg8 harg8 arg9 harg9 x3 x4 x8 x9) mb1) zeros (harg5.unread x5) (harg6.unread x6) (harg7.unread x7)
    ((ac8 c i arg3 harg3 arg4 harg4 arg5 harg5 arg6 harg6 arg7 harg7 arg8 harg8 arg9 harg9 arg10 harg10 arg11 harg11 arg12 harg12 x3 x4 x5 x6 x7 x8 x9 x10 mb0 mb1).1, (ac8 c i arg3 harg3 arg4 harg4 arg5 harg5 arg6 harg6 arg7 harg7 arg8 harg8 arg9 harg9 arg10 harg10 arg11 harg11 arg12 harg12 x3 x4 x5 x6 x7 x8 x9 x10 mb0 mb1).2.1, (ac8 c i arg3 harg3 arg4 harg4 arg5 harg5 arg6 harg6 arg7 harg7 arg8 harg8 arg9 harg9 arg10 harg10 arg11 harg11 arg12 harg12 x3 x4 x5 x6 x7 x8 x9 x10 mb0 mb1).2.2.1, (ac8 c i arg3 harg3 arg4 harg4 arg5 harg5 arg6 harg6 arg7 harg7 arg8 harg8 arg9 harg9 arg10 harg10 arg11 harg11 arg12 harg12 x3 x4 x5 x6 x7 x8 x9 x10 mb0 mb1).2.2.2) (k0_t9_loop i).trips

/-- The two heads' weighted sums and sums of weights after loop 4 of the accumulation. -/
def ac10 : FVec F S1024x128 .f32 × FVec F S1024x128 .f32 × FVec F S1024x128 .f32 × FVec F S1024x128 .f32 :=
  st_k0_t10 Variants.none c none i arg3 harg3 arg4 harg4 arg5 harg5 arg6 harg6 arg7 harg7 arg8 harg8 arg9 harg9 arg10 harg10 arg11 harg11 arg12 harg12 (w2 i) (qa0 arg3 harg3 arg4 harg4 x3 x4) (qa1 arg3 harg3 arg4 harg4 x3 x4) (w27 i) (w47 i) mb0 mb1 (k0_pay142 (sm0 arg3 harg3 arg4 harg4 arg8 harg8 arg9 harg9 x3 x4 x8 x9) mb0) (k0_pay143 (sm0 arg3 harg3 arg4 harg4 arg8 harg8 arg9 harg9 x3 x4 x8 x9) mb0 (View.readAt (Elt F) arg10.view (Rect.unit (s := S128x256) ![0, 0] S128x128.size inb_S128x256_S128x128_0_0).toLoadRect (harg10.unread x10))) (k0_pay144 (View.readAt (Elt F) arg10.view (Rect.unit (s := S128x256) ![0, 128] S128x128.size inb_S128x256_S128x128_0_128).toLoadRect (harg10.unread x10))) (k0_pay145 (sm1 arg3 harg3 arg4 harg4 arg8 harg8 arg9 harg9 x3 x4 x8 x9) mb1) (k0_pay146 (sm1 arg3 harg3 arg4 harg4 arg8 harg8 arg9 harg9 x3 x4 x8 x9) mb1) zeros (Scalar.addi 0#32 (Scalar.muli (Scalar.divsi (Scalar.subi (w47 i) 0#32) 1#32) 1#32)) (harg5.unread x5) (harg6.unread x6) (harg7.unread x7)
    ((ac9 c i arg3 harg3 arg4 harg4 arg5 harg5 arg6 harg6 arg7 harg7 arg8 harg8 arg9 harg9 arg10 harg10 arg11 harg11 arg12 harg12 x3 x4 x5 x6 x7 x8 x9 x10 mb0 mb1).1, (ac9 c i arg3 harg3 arg4 harg4 arg5 harg5 arg6 harg6 arg7 harg7 arg8 harg8 arg9 harg9 arg10 harg10 arg11 harg11 arg12 harg12 x3 x4 x5 x6 x7 x8 x9 x10 mb0 mb1).2.1, (ac9 c i arg3 harg3 arg4 harg4 arg5 harg5 arg6 harg6 arg7 harg7 arg8 harg8 arg9 harg9 arg10 harg10 arg11 harg11 arg12 harg12 x3 x4 x5 x6 x7 x8 x9 x10 mb0 mb1).2.2.1, (ac9 c i arg3 harg3 arg4 harg4 arg5 harg5 arg6 harg6 arg7 harg7 arg8 harg8 arg9 harg9 arg10 harg10 arg11 harg11 arg12 harg12 x3 x4 x5 x6 x7 x8 x9 x10 mb0 mb1).2.2.2) (k0_t10_loop i).trips

/-- Head 0's half of the output block. -/
def out0 : FVec F S1024x128 .bf16 :=
  k0_pay166 mb0 (ac10 c i arg3 harg3 arg4 harg4 arg5 harg5 arg6 harg6 arg7 harg7 arg8 harg8 arg9 harg9 arg10 harg10 arg11 harg11 arg12 harg12 x3 x4 x5 x6 x7 x8 x9 x10 mb0 mb1).1 (ac10 c i arg3 harg3 arg4 harg4 arg5 harg5 arg6 harg6 arg7 harg7 arg8 harg8 arg9 harg9 arg10 harg10 arg11 harg11 arg12 harg12 x3 x4 x5 x6 x7 x8 x9 x10 mb0 mb1).2.1 (k0_pay157 (View.readAt (Elt F) arg7.view (Rect.unit (s := S4096x256) (k0_off21 i) S1024x128.size (k0_off21_inb i)).toLoadRect (harg7.unread x7))) (k0_pay158 (qa0 arg3 harg3 arg4 harg4 x3 x4) (View.readAt (Elt F) arg5.view (Rect.unit (s := S4096x256) (k0_off21 i) S1024x128.size (k0_off21_inb i)).toLoadRect (harg5.unread x5)) (View.readAt (Elt F) arg6.view (Rect.unit (s := S4096x256) (k0_off21 i) S1024x128.size (k0_off21_inb i)).toLoadRect (harg6.unread x6))) (k0_pay159 (qa0 arg3 harg3 arg4 harg4 x3 x4) (View.readAt (Elt F) arg5.view (Rect.unit (s := S4096x256) (k0_off21 i) S1024x128.size (k0_off21_inb i)).toLoadRect (harg5.unread x5)) (View.readAt (Elt F) arg6.view (Rect.unit (s := S4096x256) (k0_off21 i) S1024x128.size (k0_off21_inb i)).toLoadRect (harg6.unread x6))) (k0_pay160 (qa0 arg3 harg3 arg4 harg4 x3 x4) (View.readAt (Elt F) arg5.view (Rect.unit (s := S4096x256) (k0_off21 i) S1024x128.size (k0_off21_inb i)).toLoadRect (harg5.unread x5)) (View.readAt (Elt F) arg6.view (Rect.unit (s := S4096x256) (k0_off21 i) S1024x128.size (k0_off21_inb i)).toLoadRect (harg6.unread x6))) (k0_pay161 (qa0 arg3 harg3 arg4 harg4 x3 x4) (View.readAt (Elt F) arg5.view (Rect.unit (s := S4096x256) (k0_off21 i) S1024x128.size (k0_off21_inb i)).toLoadRect (harg5.unread x5)) (View.readAt (Elt F) arg6.view (Rect.unit (s := S4096x256) (k0_off21 i) S1024x128.size (k0_off21_inb i)).toLoadRect (harg6.unread x6))) (k0_pay162 (qa0 arg3 harg3 arg4 harg4 x3 x4) (View.readAt (Elt F) arg5.view (Rect.unit (s := S4096x256) (k0_off21 i) S1024x128.size (k0_off21_inb i)).toLoadRect (harg5.unread x5)) (View.readAt (Elt F) arg6.view (Rect.unit (s := S4096x256) (k0_off21 i) S1024x128.size (k0_off21_inb i)).toLoadRect (harg6.unread x6))) (k0_pay163 (qa0 arg3 harg3 arg4 harg4 x3 x4) (View.readAt (Elt F) arg5.view (Rect.unit (s := S4096x256) (k0_off21 i) S1024x128.size (k0_off21_inb i)).toLoadRect (harg5.unread x5)) (View.readAt (Elt F) arg6.view (Rect.unit (s := S4096x256) (k0_off21 i) S1024x128.size (k0_off21_inb i)).toLoadRect (harg6.unread x6))) (k0_pay164 (qa0 arg3 harg3 arg4 harg4 x3 x4) (View.readAt (Elt F) arg5.view (Rect.unit (s := S4096x256) (k0_off21 i) S1024x128.size (k0_off21_inb i)).toLoadRect (harg5.unread x5)) (View.readAt (Elt F) arg6.view (Rect.unit (s := S4096x256) (k0_off21 i) S1024x128.size (k0_off21_inb i)).toLoadRect (harg6.unread x6)))
    (k0_pay165 (qa0 arg3 harg3 arg4 harg4 x3 x4) mb0 (View.readAt (Elt F) arg5.view (Rect.unit (s := S4096x256) (k0_off21 i) S1024x128.size (k0_off21_inb i)).toLoadRect (harg5.unread x5)) (View.readAt (Elt F) arg6.view (Rect.unit (s := S4096x256) (k0_off21 i) S1024x128.size (k0_off21_inb i)).toLoadRect (harg6.unread x6)))
/-- Head 1's half of the output block. -/
def out1 : FVec F S1024x128 .bf16 :=
  k0_pay1 (k0_pay169 (qa1 arg3 harg3 arg4 harg4 x3 x4) mb1 (ac10 c i arg3 harg3 arg4 harg4 arg5 harg5 arg6 harg6 arg7 harg7 arg8 harg8 arg9 harg9 arg10 harg10 arg11 harg11 arg12 harg12 x3 x4 x5 x6 x7 x8 x9 x10 mb0 mb1).2.2.1 (ac10 c i arg3 harg3 arg4 harg4 arg5 harg5 arg6 harg6 arg7 harg7 arg8 harg8 arg9 harg9 arg10 harg10 arg11 harg11 arg12 harg12 x3 x4 x5 x6 x7 x8 x9 x10 mb0 mb1).2.2.2 k0_pay167 (k0_pay168 (View.readAt (Elt F) arg5.view (Rect.unit (s := S4096x256) (k0_off22 i) S1024x128.size (k0_off22_inb i)).toLoadRect (harg5.unread x5)) (View.readAt (Elt F) arg6.view (Rect.unit (s := S4096x256) (k0_off22 i) S1024x128.size (k0_off22_inb i)).toLoadRect (harg6.unread x6))) (constant S1024x1024 .f32 0x00000000#32) (View.readAt (Elt F) arg7.view (Rect.unit (s := S4096x256) (k0_off22 i) S1024x128.size (k0_off22_inb i)).toLoadRect (harg7.unread x7)))

/-- The output block's two stores, the later first. -/
def outPieces : List (View.Piece (Elt F) S1024x256 .bf16) :=
  [⟨Rect.unit ![0, 128] ![1024, 128] inb_S1024x256_S1024x128_0_128, out1 c i arg3 harg3 arg4 harg4 arg5 harg5 arg6 harg6 arg7 harg7 arg8 harg8 arg9 harg9 arg10 harg10 arg11 harg11 arg12 harg12 x3 x4 x5 x6 x7 x8 x9 x10 mb0 mb1⟩,
   ⟨Rect.unit ![0, 0] S1024x128.size inb_S1024x256_S1024x128_0_0, out0 c i arg3 harg3 arg4 harg4 arg5 harg5 arg6 harg6 arg7 harg7 arg8 harg8 arg9 harg9 arg10 harg10 arg11 harg11 arg12 harg12 x3 x4 x5 x6 x7 x8 x9 x10 mb0 mb1⟩]

/-- Head 0's largest squared key norm, along a row. -/
def key0 : FVec F S1x128 .f32 :=
  k0_pay4 (st_k0_t1 Variants.none c none i arg3 harg3 arg4 harg4 arg5 harg5 arg6 harg6 arg7 harg7 arg8 harg8 arg9 harg9 arg10 harg10 arg11 harg11 arg12 harg12 hc0 (harg5.unread x5) k0_pay2 k0_t1_loop.trips) (View.readAt (Elt F) arg8.view (Rect.unit (s := S128x256) ![0, 0] S128x128.size inb_S128x256_S128x128_0_0).toLoadRect (harg8.unread x8))
/-- Head 1's largest squared key norm, along a row. -/
def key1 : FVec F S1x128 .f32 :=
  k0_pay131 (k0_pay7 (st_k0_t2 Variants.none c none i arg3 harg3 arg4 harg4 arg5 harg5 arg6 harg6 arg7 harg7 arg8 harg8 arg9 harg9 arg10 harg10 arg11 harg11 arg12 harg12 hc0 (harg5.unread x5) k0_pay5 k0_t2_loop.trips) (View.readAt (Elt F) arg8.view (Rect.unit (s := S128x256) ![0, 128] S128x128.size inb_S128x256_S128x128_0_128).toLoadRect (harg8.unread x8)))

/-- The scratch's two stores, the later first. -/
def keyPieces : List (View.Piece (Elt F) S8x128 .f32) :=
  [⟨Rect.unit ![1, 0] S1x128.size inb_S8x128_S1x128_1_0, key1 c i arg3 harg3 arg4 harg4 arg5 harg5 arg6 harg6 arg7 harg7 arg8 harg8 arg9 harg9 arg10 harg10 arg11 harg11 arg12 harg12 hc0 x5 x8⟩,
   ⟨Rect.unit ![0, 0] S1x128.size inb_S8x128_S1x128_0_0, key0 c i arg3 harg3 arg4 harg4 arg5 harg5 arg6 harg6 arg7 harg7 arg8 harg8 arg9 harg9 arg10 harg10 arg11 harg11 arg12 harg12 hc0 x5 x8⟩]

/-- The scratch's entry at row 0, column 0, as the kernel loads it. -/
abbrev cell0 (G : BufTy.Contents (Elt F) arg12.view.ty) : Vec F S1x1 .f32 :=
  View.readAt (Elt F) arg12.view (Rect.unit (s := S8x128) ![0, 0] S1x1.size inb_S8x128_S1x1_0_0).toLoadRect G
/-- The scratch's entry at row 1, column 0, as the kernel loads it. -/
abbrev cell1 (G : BufTy.Contents (Elt F) arg12.view.ty) : Vec F S1x1 .f32 :=
  View.readAt (Elt F) arg12.view (Rect.unit (s := S8x128) ![1, 0] S1x1.size inb_S8x128_S1x1_1_0).toLoadRect G

end

end Cert.KernelIdeal.Body

end
-- ==== Proof.BodyFirst.lean ====
module

public import proofs.«01_k».proof.Proof.Out

/-
One grid point of the attention call, run from its windows' contents. The run splits on whether the point is the first
of its group (where the key norms are computed and kept in the scratch) and on the branch the kernel takes for the row
bound; in each of the four cases the memory operations are stepped through and the output block ends at the two stores
`outPieces` names.
-/
@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxRecDepth 200000 in
set_option maxHeartbeats 4000000 in
/-- The first point of a group: the scratch takes the key norms, which the bound is then computed from. -/
theorem run_first (c : Dev nD) (i : grid0.Coords) (arg3 : Memref sig .tc .vmem S1024x256 .bf16) (harg3 : arg3.IsWhole) (arg4 : Memref sig .tc .vmem S1024x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S128x256 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1024x256 .bf16) (harg11 : arg11.IsWhole) (arg12 : Memref sig .tc .vmem S8x128 .f32) (harg12 : arg12.IsWhole) (hc0 : k0_cond1 i = 1#1)
    (x3 : Vec F S1024x256 .bf16) (x4 : Vec F S1024x256 .bf16) (x5 : Vec F S4096x256 .bf16) (x6 : Vec F S4096x256 .bf16) (x7 : Vec F S4096x256 .bf16) (x8 : Vec F S128x256 .bf16) (x9 : Vec F S128x256 .bf16) (x10 : Vec F S128x256 .bf16) (G : BufTy.Contents (Elt F) arg12.view.ty) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (arg12.view.loc (c : Thread nD τ) ↦[arg12.view.set]{fullShare} G)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f (outPieces c i arg3 harg3 arg4 harg4 arg5 harg5 arg6 harg6 arg7 harg7 arg8 harg8 arg9 harg9 arg10 harg10 arg11 harg11 arg12 harg12 x3 x4 x5 x6 x7 x8 x9 x10 (chosen c i arg3 harg3 arg4 harg4 arg5 harg5 arg6 harg6 arg7 harg7 arg8 harg8 arg9 harg9 arg10 harg10 arg11 harg11 arg12 harg12 x3 x4 x5 x6 x8 x9 (arg12.view.readCov (keyPieces c i arg3 harg3 arg4 harg4 arg5 harg5 arg6 harg6 arg7 harg7 arg8 harg8 arg9 harg9 arg10 harg10 arg11 harg11 arg12 harg12 hc0 x5 x8) (Rect.unit (s := S8x128) ![0, 0] S1x1.size inb_S8x128_S1x1_0_0).toLoadRect) (arg12.view.readCov (keyPieces c i arg3 harg3 arg4 harg4 arg5 harg5 arg6 harg6 arg7 harg7 arg8 harg8 arg9 harg9 arg10 harg10 arg11 harg11 arg12 harg12 hc0 x5 x8) (Rect.unit (s := S8x128) ![1, 0] S1x1.size inb_S8x128_S1x1_1_0).toLoadRect)).1 (chosen c i arg3 harg3 arg4 harg4 arg5 harg5 arg6 harg6 arg7 harg7 arg8 harg8 arg9 harg9 arg10 harg10 arg11 harg11 arg12 harg12 x3 x4 x5 x6 x8 x9 (arg12.view.readCov (keyPieces c i arg3 harg3 arg4 harg4 arg5 harg5 arg6 harg6 arg7 harg7 arg8 harg8 arg9 harg9 arg10 harg10 arg11 harg11 arg12 harg12 hc0 x5 x8) (Rect.unit (s := S8x128) ![0, 0] S1x1.size inb_S8x128_S1x1_0_0).toLoadRect) (arg12.view.readCov (keyPieces c i arg3 harg3 arg4 harg4 arg5 harg5 arg6 harg6 arg7 harg7 arg8 harg8 arg9 harg9 arg10 harg10 arg11 harg11 arg12 harg12 hc0 x5 x8) (Rect.unit (s := S8x128) ![1, 0] S1x1.size inb_S8x128_S1x1_1_0).toLoadRect)).2)) ∗ (arg12.view.loc (c : Thread nD τ) ↦[arg12.view.set]{fullShare} arg12.view.writes (Elt F) G (keyPieces c i arg3 harg3 arg4 harg4 arg5 harg5 arg6 harg6 arg7 harg7 arg8 harg8 arg9 harg9 arg10 harg10 arg11 harg11 arg12 harg12 hc0 x5 x8))) -∗ K ⟨⟩))
      ⊢ wp frame (wpE (defs₀ (F := F)) Variants.none c none) E (cc0_fox_attention i arg3 harg3 arg4 harg4 arg5 harg5 arg6 harg6 arg7 harg7 arg8 harg8 arg9 harg9 arg10 harg10 arg11 harg11 arg12 harg12) K := by
  simp only [cc0_fox_attention_eq_skeleton]; unfold cc0_fox_attention_skel
  simp only [k0_part13_eq_skeleton, k0_part14_eq_skeleton, k0_part15_eq_skeleton, k0_part16_eq_skeleton, k0_part17_eq_skeleton, k0_part18_eq_skeleton]
  unfold k0_part14_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, H12, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  by_cases hC : small arg3 harg3 x3 (arg12.view.readCov (keyPieces c i arg3 harg3 arg4 harg4 arg5 harg5 arg6 harg6 arg7 harg7 arg8 harg8 arg9 harg9 arg10 harg10 arg11 harg11 arg12 harg12 hc0 x5 x8) (Rect.unit (s := S8x128) ![0, 0] S1x1.size inb_S8x128_S1x1_0_0).toLoadRect) (arg12.view.readCov (keyPieces c i arg3 harg3 arg4 harg4 arg5 harg5 arg6 harg6 arg7 harg7 arg8 harg8 arg9 harg9 arg10 harg10 arg11 harg11 arg12 harg12 hc0 x5 x8) (Rect.unit (s := S8x128) ![1, 0] S1x1.size inb_S8x128_S1x1_1_0).toLoadRect) = 1#1
  · have e : chosen c i arg3 harg3 arg4 harg4 arg5 harg5 arg6 harg6 arg7 harg7 arg8 harg8 arg9 harg9 arg10 harg10 arg11 harg11 arg12 harg12 x3 x4 x5 x6 x8 x9 (arg12.view.readCov (keyPieces c i arg3 harg3 arg4 harg4 arg5 harg5 arg6 harg6 arg7 harg7 arg8 harg8 arg9 harg9 arg10 harg10 arg11 harg11 arg12 harg12 hc0 x5 x8) (Rect.unit (s := S8x128) ![0, 0] S1x1.size inb_S8x128_S1x1_0_0).toLoadRect) (arg12.view.readCov (keyPieces c i arg3 harg3 arg4 harg4 arg5 harg5 arg6 harg6 arg7 harg7 arg8 harg8 arg9 harg9 arg10 harg10 arg11 harg11 arg12 harg12 hc0 x5 x8) (Rect.unit (s := S8x128) ![1, 0] S1x1.size inb_S8x128_S1x1_1_0).toLoadRect) = (bound0 arg3 harg3 x3 (arg12.view.readCov (keyPieces c i arg3 harg3 arg4 harg4 arg5 harg5 arg6 harg6 arg7 harg7 arg8 harg8 arg9 harg9 arg10 harg10 arg11 harg11 arg12 harg12 hc0 x5 x8) (Rect.unit (s := S8x128) ![0, 0] S1x1.size inb_S8x128_S1x1_0_0).toLoadRect), bound1 arg3 harg3 x3 (arg12.view.readCov (keyPieces c i arg3 harg3 arg4 harg4 arg5 harg5 arg6 harg6 arg7 harg7 arg8 harg8 arg9 harg9 arg10 harg10 arg11 harg11 arg12 harg12 hc0 x5 x8) (Rect.unit (s := S8x128) ![1, 0] S1x1.size inb_S8x128_S1x1_1_0).toLoadRect)) := if_pos hC
    rw [e]; clear e
    sl_exec (disch := first | sl_exact hc0 | sl_exact hC)
    sl_step
    iapply Hk
    isplitl [H3]
    · iexists harg3.unread x3
      isplitl []
      · ipureintro; exact harg3.read_unread _
      · iexact H3
    isplitl [H4]
    · iexists harg4.unread x4
      isplitl []
      · ipureintro; exact harg4.read_unread _
      · iexact H4
    isplitl [H5]
    · iexists harg5.unread x5
      isplitl []
      · ipureintro; exact harg5.read_unread _
      · iexact H5
    isplitl [H6]
    · iexists harg6.unread x6
      isplitl []
      · ipureintro; exact harg6.read_unread _
      · iexact H6
    isplitl [H7]
    · iexists harg7.unread x7
      isplitl []
      · ipureintro; exact harg7.read_unread _
      · iexact H7
    isplitl [H8]
    · iexists harg8.unread x8
      isplitl []
      · ipureintro; exact harg8.read_unread _
      · iexact H8
    isplitl [H9]
    · iexists harg9.unread x9
      isplitl []
      · ipureintro; exact harg9.read_unread _
      · iexact H9
    isplitl [H10]
    · iexists harg10.unread x10
      isplitl []
      · ipureintro; exact harg10.read_unread _
      · iexact H10
    isplitl [H11]
    · iexists f11; iexact H11
    iexact H12
  · have e : chosen c i arg3 harg3 arg4 harg4 arg5 harg5 arg6 harg6 arg7 harg7 arg8 harg8 arg9 harg9 arg10 harg10 arg11 harg11 arg12 harg12 x3 x4 x5 x6 x8 x9 (arg12.view.readCov (keyPieces c i arg3 harg3 arg4 harg4 arg5 harg5 arg6 harg6 arg7 harg7 arg8 harg8 arg9 harg9 arg10 harg10 arg11 harg11 arg12 harg12 hc0 x5 x8) (Rect.unit (s := S8x128) ![0, 0] S1x1.size inb_S8x128_S1x1_0_0).toLoadRect) (arg12.view.readCov (keyPieces c i arg3 harg3 arg4 harg4 arg5 harg5 arg6 harg6 arg7 harg7 arg8 harg8 arg9 harg9 arg10 harg10 arg11 harg11 arg12 harg12 hc0 x5 x8) (Rect.unit (s := S8x128) ![1, 0] S1x1.size inb_S8x128_S1x1_1_0).toLoadRect) = (exact0 c i arg3 harg3 arg4 harg4 arg5 harg5 arg6 harg6 arg7 harg7 arg8 harg8 arg9 harg9 arg10 harg10 arg11 harg11 arg12 harg12 x3 x4 x5 x6 x8 x9, exact1 c i arg3 harg3 arg4 harg4 arg5 harg5 arg6 harg6 arg7 harg7 arg8 harg8 arg9 harg9 arg10 harg10 arg11 harg11 arg12 harg12 x3 x4 x5 x6 x8 x9) := if_neg hC
    rw [e]; clear e
    sl_exec (disch := first | sl_exact hc0 | sl_exact hC)
    sl_step
    iapply Hk
    isplitl [H3]
    · iexists harg3.unread x3
      isplitl []
      · ipureintro; exact harg3.read_unread _
      · iexact H3
    isplitl [H4]
    · iexists harg4.unread x4
      isplitl []
      · ipureintro; exact harg4.read_unread _
      · iexact H4
    isplitl [H5]
    · iexists harg5.unread x5
      isplitl []
      · ipureintro; exact harg5.read_unread _
      · iexact H5
    isplitl [H6]
    · iexists harg6.unread x6
      isplitl []
      · ipureintro; exact harg6.read_unread _
      · iexact H6
    isplitl [H7]
    · iexists harg7.unread x7
      isplitl []
      · ipureintro; exact harg7.read_unread _
      · iexact H7
    isplitl [H8]
    · iexists harg8.unread x8
      isplitl []
      · ipureintro; exact harg8.read_unread _
      · iexact H8
    isplitl [H9]
    · iexists harg9.unread x9
      isplitl []
      · ipureintro; exact harg9.read_unread _
      · iexact H9
    isplitl [H10]
    · iexists harg10.unread x10
      isplitl []
      · ipureintro; exact harg10.read_unread _
      · iexact H10
    isplitl [H11]
    · iexists f11; iexact H11
    iexact H12

end Cert.KernelIdeal.Body

end
-- ==== Proof.BodyLater.lean ====
module

public import proofs.«01_k».proof.Proof.Out

/-
One grid point of the attention call, run from its windows' contents. The run splits on whether the point is the first
of its group (where the key norms are computed and kept in the scratch) and on the branch the kernel takes for the row
bound; in each of the four cases the memory operations are stepped through and the output block ends at the two stores
`outPieces` names.
-/
@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxRecDepth 200000 in
set_option maxHeartbeats 4000000 in
/-- A point after the first of its group: the scratch is read and left as it is. -/
theorem run_later (c : Dev nD) (i : grid0.Coords) (arg3 : Memref sig .tc .vmem S1024x256 .bf16) (harg3 : arg3.IsWhole) (arg4 : Memref sig .tc .vmem S1024x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S128x256 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1024x256 .bf16) (harg11 : arg11.IsWhole) (arg12 : Memref sig .tc .vmem S8x128 .f32) (harg12 : arg12.IsWhole) (hc0 : ¬ k0_cond1 i = 1#1)
    (x3 : Vec F S1024x256 .bf16) (x4 : Vec F S1024x256 .bf16) (x5 : Vec F S4096x256 .bf16) (x6 : Vec F S4096x256 .bf16) (x7 : Vec F S4096x256 .bf16) (x8 : Vec F S128x256 .bf16) (x9 : Vec F S128x256 .bf16) (x10 : Vec F S128x256 .bf16) (G : BufTy.Contents (Elt F) arg12.view.ty) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (arg12.view.loc (c : Thread nD τ) ↦[arg12.view.set]{fullShare} G)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f (outPieces c i arg3 harg3 arg4 harg4 arg5 harg5 arg6 harg6 arg7 harg7 arg8 harg8 arg9 harg9 arg10 harg10 arg11 harg11 arg12 harg12 x3 x4 x5 x6 x7 x8 x9 x10 (chosen c i arg3 harg3 arg4 harg4 arg5 harg5 arg6 harg6 arg7 harg7 arg8 harg8 arg9 harg9 arg10 harg10 arg11 harg11 arg12 harg12 x3 x4 x5 x6 x8 x9 (cell0 arg12 G) (cell1 arg12 G)).1 (chosen c i arg3 harg3 arg4 harg4 arg5 harg5 arg6 harg6 arg7 harg7 arg8 harg8 arg9 harg9 arg10 harg10 arg11 harg11 arg12 harg12 x3 x4 x5 x6 x8 x9 (cell0 arg12 G) (cell1 arg12 G)).2)) ∗ (arg12.view.loc (c : Thread nD τ) ↦[arg12.view.set]{fullShare} G)) -∗ K ⟨⟩))
      ⊢ wp frame (wpE (defs₀ (F := F)) Variants.none c none) E (cc0_fox_attention i arg3 harg3 arg4 harg4 arg5 harg5 arg6 harg6 arg7 harg7 arg8 harg8 arg9 harg9 arg10 harg10 arg11 harg11 arg12 harg12) K := by
  simp only [cc0_fox_attention_eq_skeleton]; unfold cc0_fox_attention_skel
  simp only [k0_part13_eq_skeleton, k0_part14_eq_skeleton, k0_part15_eq_skeleton, k0_part16_eq_skeleton, k0_part17_eq_skeleton, k0_part18_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, H12, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  by_cases hC : small arg3 harg3 x3 (cell0 arg12 G) (cell1 arg12 G) = 1#1
  · have e : chosen c i arg3 harg3 arg4 harg4 arg5 harg5 arg6 harg6 arg7 harg7 arg8 harg8 arg9 harg9 arg10 harg10 arg11 harg11 arg12 harg12 x3 x4 x5 x6 x8 x9 (cell0 arg12 G) (cell1 arg12 G) = (bound0 arg3 harg3 x3 (cell0 arg12 G), bound1 arg3 harg3 x3 (cell1 arg12 G)) := if_pos hC
    rw [e]; clear e
    sl_exec (disch := first | sl_exact hc0 | sl_exact hC)
    sl_step
    iapply Hk
    isplitl [H3]
    · iexists harg3.unread x3
      isplitl []
      · ipureintro; exact harg3.read_unread _
      · iexact H3
    isplitl [H4]
    · iexists harg4.unread x4
      isplitl []
      · ipureintro; exact harg4.read_unread _
      · iexact H4
    isplitl [H5]
    · iexists harg5.unread x5
      isplitl []
      · ipureintro; exact harg5.read_unread _
      · iexact H5
    isplitl [H6]
    · iexists harg6.unread x6
      isplitl []
      · ipureintro; exact harg6.read_unread _
      · iexact H6
    isplitl [H7]
    · iexists harg7.unread x7
      isplitl []
      · ipureintro; exact harg7.read_unread _
      · iexact H7
    isplitl [H8]
    · iexists harg8.unread x8
      isplitl []
      · ipureintro; exact harg8.read_unread _
      · iexact H8
    isplitl [H9]
    · iexists harg9.unread x9
      isplitl []
      · ipureintro; exact harg9.read_unread _
      · iexact H9
    isplitl [H10]
    · iexists harg10.unread x10
      isplitl []
      · ipureintro; exact harg10.read_unread _
      · iexact H10
    isplitl [H11]
    · iexists f11; iexact H11
    iexact H12
  · have e : chosen c i arg3 harg3 arg4 harg4 arg5 harg5 arg6 harg6 arg7 harg7 arg8 harg8 arg9 harg9 arg10 harg10 arg11 harg11 arg12 harg12 x3 x4 x5 x6 x8 x9 (cell0 arg12 G) (cell1 arg12 G) = (exact0 c i arg3 harg3 arg4 harg4 arg5 harg5 arg6 harg6 arg7 harg7 arg8 harg8 arg9 harg9 arg10 harg10 arg11 harg11 arg12 harg12 x3 x4 x5 x6 x8 x9, exact1 c i arg3 harg3 arg4 harg4 arg5 harg5 arg6 harg6 arg7 harg7 arg8 harg8 arg9 harg9 arg10 harg10 arg11 harg11 arg12 harg12 x3 x4 x5 x6 x8 x9) := if_neg hC
    rw [e]; clear e
    sl_exec (disch := first | sl_exact hc0 | sl_exact hC)
    sl_step
    iapply Hk
    isplitl [H3]
    · iexists harg3.unread x3
      isplitl []
      · ipureintro; exact harg3.read_unread _
      · iexact H3
    isplitl [H4]
    · iexists harg4.unread x4
      isplitl []
      · ipureintro; exact harg4.read_unread _
      · iexact H4
    isplitl [H5]
    · iexists harg5.unread x5
      isplitl []
      · ipureintro; exact harg5.read_unread _
      · iexact H5
    isplitl [H6]
    · iexists harg6.unread x6
      isplitl []
      · ipureintro; exact harg6.read_unread _
      · iexact H6
    isplitl [H7]
    · iexists harg7.unread x7
      isplitl []
      · ipureintro; exact harg7.read_unread _
      · iexact H7
    isplitl [H8]
    · iexists harg8.unread x8
      isplitl []
      · ipureintro; exact harg8.read_unread _
      · iexact H8
    isplitl [H9]
    · iexists harg9.unread x9
      isplitl []
      · ipureintro; exact harg9.read_unread _
      · iexact H9
    isplitl [H10]
    · iexists harg10.unread x10
      isplitl []
      · ipureintro; exact harg10.read_unread _
      · iexact H10
    isplitl [H11]
    · iexists f11; iexact H11
    iexact H12

end Cert.KernelIdeal.Body

end
-- ==== Proof.Frame.lean ====
module

public import proofs.«01_k».proof.Proof.BodyFirst
public import proofs.«01_k».proof.Proof.BodyLater
public import proofs.«01_k».proof.Proof.Gen.KernelIdeal.Points
public import Idealize.ShloMosaic.Lib.Pipeline.FrameBody
public import Idealize.ShloMosaic.Lib.Claim

/-
The run of the attention kernel's program. Between the grid's points the scratch keeps the two heads' largest squared
key norms; of its contents the kernel reads only the entries (0, 0) and (1, 0), and the invariant names these two
(`cellsAt`): they are set at the first of each group of four points and stay until the next group. Each point leaves its
output block at the two stores of the body's run (`outAt`). From the body's runs follow the obligation at every point,
the run of the whole program (`run_main`) and that it leaves its arguments and the semaphores as it found them.
-/
@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's operands at a point -/

/-- Window 0's staging buffer at point `t`, and that it is a whole buffer. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
/-- Window 1's staging buffer at point `t`, and that it is a whole buffer. -/
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
/-- Window 2's staging buffer at point `t`, and that it is a whole buffer. -/
abbrev ms2 (t : Fin cfg0.N) : Memref sig .tc .vmem S4096x256 .bf16 := win0_2.stage (cfg0.slots t 2)
abbrev hs2 (t : Fin cfg0.N) : (ms2 t).IsWhole := hstage0_2 ((cfg0.slots t 2).cast nbuf0_2)
/-- Window 3's staging buffer at point `t`, and that it is a whole buffer. -/
abbrev ms3 (t : Fin cfg0.N) : Memref sig .tc .vmem S4096x256 .bf16 := win0_3.stage (cfg0.slots t 3)
abbrev hs3 (t : Fin cfg0.N) : (ms3 t).IsWhole := hstage0_3 ((cfg0.slots t 3).cast nbuf0_3)
/-- Window 4's staging buffer at point `t`, and that it is a whole buffer. -/
abbrev ms4 (t : Fin cfg0.N) : Memref sig .tc .vmem S4096x256 .bf16 := win0_4.stage (cfg0.slots t 4)
abbrev hs4 (t : Fin cfg0.N) : (ms4 t).IsWhole := hstage0_4 ((cfg0.slots t 4).cast nbuf0_4)
/-- Window 5's staging buffer at point `t`, and that it is a whole buffer. -/
abbrev ms5 (t : Fin cfg0.N) : Memref sig .tc .vmem S128x256 .bf16 := win0_5.stage (cfg0.slots t 5)
abbrev hs5 (t : Fin cfg0.N) : (ms5 t).IsWhole := hstage0_5 ((cfg0.slots t 5).cast nbuf0_5)
/-- Window 6's staging buffer at point `t`, and that it is a whole buffer. -/
abbrev ms6 (t : Fin cfg0.N) : Memref sig .tc .vmem S128x256 .bf16 := win0_6.stage (cfg0.slots t 6)
abbrev hs6 (t : Fin cfg0.N) : (ms6 t).IsWhole := hstage0_6 ((cfg0.slots t 6).cast nbuf0_6)
/-- Window 7's staging buffer at point `t`, and that it is a whole buffer. -/
abbrev ms7 (t : Fin cfg0.N) : Memref sig .tc .vmem S128x256 .bf16 := win0_7.stage (cfg0.slots t 7)
abbrev hs7 (t : Fin cfg0.N) : (ms7 t).IsWhole := hstage0_7 ((cfg0.slots t 7).cast nbuf0_7)
/-- Window 8's staging buffer at point `t`, and that it is a whole buffer. -/
abbrev ms8 (t : Fin cfg0.N) : Memref sig .tc .vmem S1024x256 .bf16 := win0_8.stage (cfg0.slots t 8)
abbrev hs8 (t : Fin cfg0.N) : (ms8 t).IsWhole := hstage0_8 ((cfg0.slots t 8).cast nbuf0_8)
/-- The scratch the kernel keeps the key norms in. -/
abbrev scM : Memref sig .tc .vmem S8x128 .f32 := Memref.whole cc0_scratch0

/-- The body computes the key norms at the points divisible by four. -/
theorem first_iff : ∀ t : Fin cfg0.N, k0_cond1 (grid0.coords t) = 1#1 ↔ t.val % 4 = 0 := by decide +kernel

/-! ## What the scratch holds of the key norms, and what the body leaves in the output block -/

/-- The two entries the first point of a group writes. -/
def cellsNew (c : Dev nD) (t : Fin cfg0.N) (h : k0_cond1 (grid0.coords t) = 1#1) : Vec F S1x1 .f32 × Vec F S1x1 .f32 :=
  (scM.view.readCov (keyPieces c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h (iblk m c 2 t) (iblk m c 5 t)) (Rect.unit (s := S8x128) ![0, 0] S1x1.size inb_S8x128_S1x1_0_0).toLoadRect,
   scM.view.readCov (keyPieces c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h (iblk m c 2 t) (iblk m c 5 t)) (Rect.unit (s := S8x128) ![1, 0] S1x1.size inb_S8x128_S1x1_1_0).toLoadRect)

/-- The scratch's two entries after point `n`. -/
def cellsAt (c : Dev nD) : (n : ℕ) → n < cfg0.N → Vec F S1x1 .f32 × Vec F S1x1 .f32
  | 0, h => cellsNew m c ⟨0, h⟩ ((first_iff ⟨0, h⟩).mpr rfl)
  | n + 1, h => if h0 : (n + 1) % 4 = 0 then cellsNew m c ⟨n + 1, h⟩ ((first_iff ⟨n + 1, h⟩).mpr h0) else cellsAt c n (Nat.lt_of_succ_lt h)

theorem cellsAt_first (c : Dev nD) (t : Fin cfg0.N) (h0 : t.val % 4 = 0) :
    cellsAt m c t.val t.isLt = cellsNew m c t ((first_iff t).mpr h0) := by
  obtain ⟨n, hn⟩ := t
  cases n with
  | zero => rfl
  | succ n => exact dif_pos h0

theorem cellsAt_later (c : Dev nD) (t : Fin cfg0.N) (h0 : ¬ t.val % 4 = 0) :
    cellsAt m c t.val t.isLt = cellsAt m c (t.val - 1) (Nat.lt_of_le_of_lt (Nat.sub_le _ _) t.isLt) := by
  obtain ⟨n, hn⟩ := t
  cases n with
  | zero => exact absurd rfl h0
  | succ n => exact dif_neg h0

/-- The row bounds the body takes at a point, from the two entries. -/
def mbAt (c : Dev nD) (t : Fin cfg0.N) (v : Vec F S1x1 .f32 × Vec F S1x1 .f32) : FVec F S1024x128 .f32 × FVec F S1024x128 .f32 :=
  chosen c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (iblk m c 0 t) (iblk m c 1 t) (iblk m c 2 t) (iblk m c 3 t) (iblk m c 5 t) (iblk m c 6 t) v.1 v.2

/-- The stores of the body at a point. -/
def piecesAt (c : Dev nD) (t : Fin cfg0.N) : List (View.Piece (Elt F) S1024x256 .bf16) :=
  outPieces c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (iblk m c 0 t) (iblk m c 1 t) (iblk m c 2 t) (iblk m c 3 t) (iblk m c 4 t) (iblk m c 5 t) (iblk m c 6 t) (iblk m c 7 t) (mbAt m c t (cellsAt m c t.val t.isLt)).1 (mbAt m c t (cellsAt m c t.val t.isLt)).2

/-- What the body leaves in the output block at a point. -/
def outAt (c : Dev nD) (t : Fin cfg0.N) : Vec F S1024x256 .bf16 := View.canon (piecesAt m c t)

/-- The two stores cover the output block. -/
theorem covers (c : Dev nD) (t : Fin cfg0.N) : ∀ y : S1024x256.Idx, ∃ p ∈ piecesAt m c t, y ∈ p.1.set :=
  View.cover_of_tiledL (piecesAt m c t) ![1024, 128] (by sl_kernel_rfl)

/-- An entry of either row of the scratch, read after the two rows are stored, is the entry of the row's store. -/
theorem read_rows (k0 k1 : FVec F S1x128 .f32) (G : BufTy.Contents (Elt F) scM.view.ty) (B : LoadRect S8x128)
    (h : LoadRect.within (Rect.unit (s := S8x128) ![0, 0] S1x128.size inb_S8x128_S1x128_0_0) B = true
      ∨ LoadRect.within (Rect.unit (s := S8x128) ![1, 0] S1x128.size inb_S8x128_S1x128_1_0) B = true)
    (L : List (View.Piece (Elt F) S8x128 .f32))
    (hL : L = [⟨Rect.unit ![1, 0] S1x128.size inb_S8x128_S1x128_1_0, k1⟩, ⟨Rect.unit ![0, 0] S1x128.size inb_S8x128_S1x128_0_0, k0⟩]) :
    View.readAt (Elt F) scM.view B (scM.view.writes (Elt F) G L) = scM.view.readCov L B := by
  subst hL
  refine View.readAt_writes_of_cover _ _ _ _ fun j => ?_
  rcases h with h | h
  · exact ⟨_, List.mem_cons_of_mem _ (List.mem_cons_self ..), LoadRect.idx_mem_of_within h j⟩
  · exact ⟨_, List.mem_cons_self .., LoadRect.idx_mem_of_within h j⟩

/-- What the first point of a group leaves in the scratch, read at the two entries. -/
theorem cells_writes (c : Dev nD) (t : Fin cfg0.N) (h : k0_cond1 (grid0.coords t) = 1#1) (G : BufTy.Contents (Elt F) scM.view.ty) :
    cell0 scM (scM.view.writes (Elt F) G (keyPieces c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h (iblk m c 2 t) (iblk m c 5 t))) = (cellsNew m c t h).1
    ∧ cell1 scM (scM.view.writes (Elt F) G (keyPieces c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h (iblk m c 2 t) (iblk m c 5 t))) = (cellsNew m c t h).2 := by
  unfold cellsNew cell0 cell1
  dsimp only
  have hk := @keyPieces.eq_1 F _ _ c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h (iblk m c 2 t) (iblk m c 5 t)
  generalize keyPieces c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h (iblk m c 2 t) (iblk m c 5 t) = L at hk ⊢
  exact ⟨read_rows _ _ G _ (.inl (by decide +kernel)) L hk, read_rows _ _ G _ (.inr (by decide +kernel)) L hk⟩

/-! ## The invariant and the proof data -/

/-- The scratch at some contents whose two entries are `v`, and the generator register at some state. -/
def held (c : Dev nD) (v : Vec F S1x1 .f32 × Vec F S1x1 .f32) : sProp 𝕄 :=
  iprop((∃ G, ⌜cell0 scM G = v.1 ∧ cell1 scM G = v.2⌝ ∗ (scM.view.loc (c : Thread nD τ) ↦[scM.view.set]{fullShare} G)) ∗ (∃ r, prngReg c r))

/-- The invariant before position `n`: at first the scratch at anything, afterwards with its two entries named. -/
def PhiS (c : Dev nD) : (n : ℕ) → n ≤ cfg0.N → sProp 𝕄
  | 0, _ => Pipeline.ΦA spec0 c
  | n + 1, hn => held c (cellsAt m c n hn)

theorem PhiS_pos (c : Dev nD) (n : ℕ) (h : n ≤ cfg0.N) (hz : n ≠ 0) :
    PhiS m c n h = held c (cellsAt m c (n - 1) (by omega)) := by
  cases n with
  | zero => exact absurd rfl hz
  | succ n => rfl

/-- The scratch and the register at anything. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- At any position the scratch is held at some contents. -/
theorem PhiS_some (c : Dev nD) (n : ℕ) (h : n ≤ cfg0.N) :
    PhiS m c n h ⊢ iprop((∃ G, (scM.view.loc (c : Thread nD τ) ↦[scM.view.set]{fullShare} G)) ∗ (∃ r, prngReg c r)) := by
  cases n with
  | zero =>
    rw [show PhiS m c 0 h = Pipeline.ΦA spec0 c from rfl, PhiA_eq]
    unfold owns
    iintro ⟨⟨%d, %f, -, H⟩, Hg⟩
    isplitl [H]
    · iexists f; iexact H
    iexact Hg
  | succ n =>
    rw [PhiS_pos m c _ h (Nat.succ_ne_zero n)]
    unfold held
    iintro ⟨⟨%f, -, H⟩, Hg⟩
    isplitl [H]
    · iexists f; iexact H
    iexact Hg

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl,
    after0, after1, after2, after3, after4, after5, after6, after7, after8]
  rw [show (dats m 0 c).Φ t.succ = held c (cellsAt m c t.val t.isLt) from rfl, PhiS_castSucc m c t]
  by_cases h0 : t.val % 4 = 0
  · have hc := (first_iff t).mpr h0
    have hout : outAt m c t = View.canon (outPieces c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (iblk m c 0 t) (iblk m c 1 t) (iblk m c 2 t) (iblk m c 3 t) (iblk m c 4 t) (iblk m c 5 t) (iblk m c 6 t) (iblk m c 7 t)
        (mbAt m c t (cellsNew m c t hc)).1 (mbAt m c t (cellsNew m c t hc)).2) := by
      unfold outAt piecesAt; rw [cellsAt_first m c t h0]
    have hcov := covers m c t
    unfold piecesAt at hcov
    rw [cellsAt_first m c t h0] at hcov ⊢
    rw [hout]
    refine (sep_mono_left (PhiS_some m c t.val _)).trans ?_
    iintro ⟨⟨⟨%G, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc (iblk m c 0 t) (iblk m c 1 t) (iblk m c 2 t) (iblk m c 3 t) (iblk m c 4 t) (iblk m c 5 t) (iblk m c 6 t) (iblk m c 7 t) G Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%f8, H8⟩, HS⟩
    isplitl [HS Hg]
    · unfold held; isplitl [HS]
      · iexists _; isplitr
        swap; · iexact HS
        ipureintro; exact cells_writes m c t hc G
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_eq_canon _ _ _ hcov
  · have hz : t.val ≠ 0 := fun e => h0 (by rw [e])
    have hc : ¬ k0_cond1 (grid0.coords t) = 1#1 := fun h => h0 ((first_iff t).mp h)
    rw [PhiS_pos m c _ _ hz, cellsAt_later m c t h0]
    have hcov := covers m c t
    have hout : outAt m c t = View.canon (outPieces c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (iblk m c 0 t) (iblk m c 1 t) (iblk m c 2 t) (iblk m c 3 t) (iblk m c 4 t) (iblk m c 5 t) (iblk m c 6 t) (iblk m c 7 t)
        (mbAt m c t (cellsAt m c (t.val - 1) (Nat.lt_of_le_of_lt (Nat.sub_le _ _) t.isLt))).1 (mbAt m c t (cellsAt m c (t.val - 1) (Nat.lt_of_le_of_lt (Nat.sub_le _ _) t.isLt))).2) := by
      unfold outAt piecesAt; rw [cellsAt_later m c t h0]
    unfold piecesAt at hcov
    rw [cellsAt_later m c t h0] at hcov
    rw [hout]
    generalize cellsAt m c (t.val - 1) (Nat.lt_of_le_of_lt (Nat.sub_le _ _) t.isLt) = v at hcov ⊢
    obtain ⟨v0, v1⟩ := v
    unfold held
    iintro ⟨⟨⟨%G, %hG, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain ⟨hG0, hG1⟩ := hG
    dsimp only at hG0 hG1
    subst hG0 hG1
    iapply (run_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc (iblk m c 0 t) (iblk m c 1 t) (iblk m c 2 t) (iblk m c 3 t) (iblk m c 4 t) (iblk m c 5 t) (iblk m c 6 t) (iblk m c 7 t) G Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%f8, H8⟩, HS⟩
    isplitl [HS Hg]
    · isplitl [HS]
      · iexists _; isplitr
        swap; · iexact HS
        ipureintro; exact ⟨rfl, rfl⟩
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_eq_canon _ _ _ hcov

/-- The body table's row at point `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  refine (PhiS_some m c _ _).trans ?_
  rw [PhiA_eq]
  unfold owns
  iintro ⟨⟨%G, H⟩, Hg⟩
  isplitl [H]
  · iexists _; iexists G; isplitr
    swap; · iexact H
    ipureintro; rfl
  iexact Hg

/-! ## The run -/

set_option backward.isDefEq.respectTransparency.types false in
/-- Every fair execution of @main ends with the arrays at what the pipeline writes and every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The program leaves its arguments unchanged and its semaphores at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Frames.lean ====
module

public import proofs.«01_k».proof.Defs
public import proofs.«01_k».proof.Proof.Gen.Kernel
public import proofs.«01_k».proof.Proof.Frame
public import proofs.«01_k».proof.Proof.WordsFrame
public import proofs.«01_k».proof.Proof.Gen.ReferenceIdeal.Run

/-
The three programs' frames: each leaves its arguments as it found them and every semaphore at zero.
-/
@[expose] public section

set_option maxRecDepth 16384

noncomputable section

namespace Cert.Proof

open Idealize.ShloMosaic Idealize.SL.Sem

/-- The precondition's facts. -/
instance finiteFacts : Cert.Pre_finite.Facts where
  bcast_S_S16384x2048 := by decide
  reducesTo_S16384x2048_S_d0_1 := by decide
  h_S_ := by decide
  bcast_S_S16384x16 := by decide
  reducesTo_S16384x16_S_d0_1 := by decide
  bcast_S_S16x2048 := by decide
  reducesTo_S16x2048_S_d0_1 := by decide
  bcast_S_S16x16 := by decide
  reducesTo_S16x16_S_d0_1 := by decide

theorem frame_ideal : Cert.quiescent_KernelIdeal := fun m ρ _ =>
  (θ_run _ _ _).mono (fun _ h => h) (Cert.KernelIdeal.Body.frame_main (F := Ideal) m ρ)

theorem frame_ideal_finite : Cert.quiescent_KernelIdeal_pre_finite := fun m ρ _ =>
  (θ_run _ _ _).mono (fun _ h => h) (Cert.KernelIdeal.Body.frame_main (F := Ideal) m ρ)

theorem frame_kernel : Cert.quiescent_Kernel := fun m ρ _ =>
  (θ_run _ _ _).mono (fun _ h => h) (Cert.Kernel.Body.frame_main (F := Bits) m ρ)

/-- The reference's run at its arguments; it declares no semaphore. -/
theorem frame_reference : Cert.quiescent_ReferenceIdeal := fun m ρ _ =>
  (θ_run _ _ _).mono (fun r h => ⟨fun c => (h c).2, Idealize.ShloMosaic.sem_eq_zero_of_no_sems (by decide) r.2⟩) (Cert.ReferenceIdeal.Value.run (F := Ideal) m ρ)

theorem frame_reference_finite : Cert.quiescent_ReferenceIdeal_pre_finite := fun m ρ _ =>
  (θ_run _ _ _).mono (fun r h => ⟨fun c => (h c).2, Idealize.ShloMosaic.sem_eq_zero_of_no_sems (by decide) r.2⟩) (Cert.ReferenceIdeal.Value.run (F := Ideal) m ρ)

end Cert.Proof

end
-- ==== Proof.Trips.lean ====
module

public import proofs.«01_k».proof.Proof.Out

/-
How often the loops of the attention call run, and where its loads start, at each of the 128 grid points: grid point
`t` takes the query block `t % 4`, so there are `t % 4` key blocks before it, and no smaller blocks.
-/
@[expose] public section
set_option maxRecDepth 16384
namespace Cert.Attn
open Idealize.ShloMosaic
open Cert.KernelIdeal Cert.KernelIdeal.Gen

theorem trips3 : ∀ t : Fin grid0.N, (k0_t3_loop (grid0.coords t)).trips = t.val % 4 := by decide +kernel
theorem trips4 : ∀ t : Fin grid0.N, (k0_t4_loop (grid0.coords t)).trips = 0 := by decide +kernel
theorem trips5 : ∀ t : Fin grid0.N, (k0_t5_loop (grid0.coords t)).trips = 0 := by decide +kernel
theorem trips6 : ∀ t : Fin grid0.N, (k0_t6_loop (grid0.coords t)).trips = 0 := by decide +kernel
theorem trips7 : ∀ t : Fin grid0.N, (k0_t7_loop (grid0.coords t)).trips = t.val % 4 := by decide +kernel
theorem trips8 : ∀ t : Fin grid0.N, (k0_t8_loop (grid0.coords t)).trips = 0 := by decide +kernel
theorem trips9 : ∀ t : Fin grid0.N, (k0_t9_loop (grid0.coords t)).trips = 0 := by decide +kernel
theorem trips10 : ∀ t : Fin grid0.N, (k0_t10_loop (grid0.coords t)).trips = 0 := by decide +kernel
theorem off3 : ∀ t : Fin grid0.N, ∀ k : Fin (k0_t3_loop (grid0.coords t)).trips,
    k0_off3 (grid0.coords t) k 0 = 1024 * k.val ∧ k0_off3 (grid0.coords t) k 1 = 0 := by decide +kernel
theorem off4 : ∀ t : Fin grid0.N, ∀ k : Fin (k0_t3_loop (grid0.coords t)).trips,
    k0_off4 (grid0.coords t) k 0 = 1024 * k.val ∧ k0_off4 (grid0.coords t) k 1 = 128 := by decide +kernel
theorem off13 : ∀ t : Fin grid0.N, ∀ k : Fin (k0_t7_loop (grid0.coords t)).trips,
    k0_off13 (grid0.coords t) k 0 = 1024 * k.val ∧ k0_off13 (grid0.coords t) k 1 = 0 := by decide +kernel
theorem off14 : ∀ t : Fin grid0.N, ∀ k : Fin (k0_t7_loop (grid0.coords t)).trips,
    k0_off14 (grid0.coords t) k 0 = 1024 * k.val ∧ k0_off14 (grid0.coords t) k 1 = 128 := by decide +kernel
theorem off11 : ∀ t : Fin grid0.N,
    k0_off11 (grid0.coords t) 0 = 1024 * (t.val % 4) ∧ k0_off11 (grid0.coords t) 1 = 0 := by decide +kernel
theorem off12 : ∀ t : Fin grid0.N,
    k0_off12 (grid0.coords t) 0 = 1024 * (t.val % 4) ∧ k0_off12 (grid0.coords t) 1 = 128 := by decide +kernel
theorem off21 : ∀ t : Fin grid0.N,
    k0_off21 (grid0.coords t) 0 = 1024 * (t.val % 4) ∧ k0_off21 (grid0.coords t) 1 = 0 := by decide +kernel
theorem off22 : ∀ t : Fin grid0.N,
    k0_off22 (grid0.coords t) 0 = 1024 * (t.val % 4) ∧ k0_off22 (grid0.coords t) 1 = 128 := by decide +kernel

end Cert.Attn
end
-- ==== Proof.Reads.lean ====
module

public import proofs.«01_k».proof.Proof.Out
public import Idealize.ShloMosaic.Lib.Pointwise
public import Idealize.ShloMosaic.Lib.WholeRead

/-
What each step of the attention call's body computes over the extended reals, read at an index: the scores (`mat`), the
diagonal block's masked scores, the weights and the sums over a block of 1024 keys.
-/
@[expose] public section
set_option maxRecDepth 16384
noncomputable section
namespace Cert.Attn
open Idealize.ShloMosaic
open Cert.KernelIdeal Cert.KernelIdeal.Gen Cert.KernelIdeal.Body

/-- An entry of an array, by numbers. -/
def at2 {n m : ℕ} (x : (⟨2, ![n, m]⟩ : Shape).Idx → EReal) (a b : ℕ) : EReal :=
  if h : a < n ∧ b < m then x (ix2 ⟨a, h.1⟩ ⟨b, h.2⟩) else 0

theorem at2_eq {n m : ℕ} (x : (⟨2, ![n, m]⟩ : Shape).Idx → EReal) (a : Fin n) (b : Fin m) :
    x (ix2 a b) = at2 x a b := by
  unfold at2; rw [dif_pos ⟨a.isLt, b.isLt⟩]

/-- A load of part of a whole memref, by numbers. -/
theorem ld_at {n a b : ℕ} (m : Memref sig .tc .vmem ⟨2, ![n, 256]⟩ .bf16) (h : m.IsWhole)
    (x : Vec Ideal ⟨2, ![n, 256]⟩ .bf16) (off : Fin 2 → ℕ)
    (inb : ∀ i, off i + (⟨2, ![a, b]⟩ : Shape).size i ≤ (⟨2, ![n, 256]⟩ : Shape).size i) (r : Fin a) (l : Fin b) :
    View.readAt (Elt Ideal) m.view (Rect.unit (s := ⟨2, ![n, 256]⟩) off (⟨2, ![a, b]⟩ : Shape).size inb).toLoadRect
      (h.unread x) (ix2 r l) = at2 x (off 0 + r) (off 1 + l) := by
  have h0 : off 0 + a ≤ n := inb 0
  have h1 : off 1 + b ≤ 256 := inb 1
  rw [Memref.IsWhole.readAt_unread, LoadRect.idx_eq_norm]
  refine (congrArg x (?_ : _ = ix2 ⟨off 0 + r, by omega⟩ ⟨off 1 + l, by omega⟩)).trans (at2_eq x _ _)
  rw [eq_ix2 (Shape.Idx.norm _)]
  congr 1 <;> (apply Fin.ext; simp [Shape.Idx.norm])

variable (qa : FVec Ideal S1024x256 .bf16)

/-- A row of queries (128 query columns, then 128 feature columns) against a row of keys and their feature columns. -/
def mat {n : ℕ} (k ck : (⟨2, ![n, 128]⟩ : Shape).Idx → EReal) (r : Fin 1024) (s : Fin n) : EReal :=
  ∑ d : Fin 128, qa (ix2 r ⟨d.val, by omega⟩) * k (ix2 s d)
    + ∑ d : Fin 128, qa (ix2 r ⟨128 + d.val, by omega⟩) * ck (ix2 s d)

/-- A sum over 1024 keys, eight at a time. -/
theorem eight_sum (f : Fin 1024 → EReal) :
    ∑ l : Fin 128, (f ⟨l.val, by omega⟩ + f ⟨128 + l.val, by omega⟩ + f ⟨256 + l.val, by omega⟩
      + f ⟨384 + l.val, by omega⟩ + f ⟨512 + l.val, by omega⟩ + f ⟨640 + l.val, by omega⟩
      + f ⟨768 + l.val, by omega⟩ + f ⟨896 + l.val, by omega⟩) = ∑ s : Fin 1024, f s := by
  let g : ℕ → EReal := fun n => if h : n < 1024 then f ⟨n, h⟩ else 0
  have hg : ∀ n (h : n < 1024), f ⟨n, h⟩ = g n := fun n h => by simp only [g]; rw [dif_pos h]
  have e1 : ∑ s : Fin 1024, f s = ∑ s ∈ Finset.range 1024, g s := by
    rw [Finset.sum_range]; exact Finset.sum_congr rfl fun s _ => hg s.val s.isLt
  have e2 : ∑ s ∈ Finset.range (128 + 128 + 128 + 128 + 128 + 128 + 128 + 128), g s = ∑ s : Fin 1024, f s := e1.symm
  rw [← e2]
  simp only [Finset.sum_range_add]
  simp only [hg, Finset.sum_add_distrib, Finset.sum_range]

section memory

variable (sm mb : FVec Ideal S1024x128 .f32) (km ckm : Vec Ideal S128x128 .bf16) (r : Fin 1024) (s : Fin 128)

theorem pay132_at : k0_pay132 qa km ckm (ix2 r s) = mat qa km ckm r s := by
  unfold mat; pointwise [k0_pay132]
theorem pay133_at : k0_pay133 qa km ckm (ix2 r s) = mat qa km ckm r s := by
  unfold mat; pointwise [k0_pay133]
theorem pay142_at : k0_pay142 sm mb (ix2 r s) = Ideal.exp (sm (ix2 r s) - mb (ix2 r s)) := by
  pointwise [k0_pay142]
theorem pay145_at : k0_pay145 sm mb (ix2 r s) = Ideal.exp (sm (ix2 r s) - mb (ix2 r s)) := by
  pointwise [k0_pay145]
theorem pay143_at (vm : Vec Ideal S128x128 .bf16) (j : Fin 128) :
    k0_pay143 sm mb vm (ix2 r j) = ∑ s : Fin 128, Ideal.exp (sm (ix2 r s) - mb (ix2 r s)) * vm (ix2 s j) := by
  pointwise [k0_pay143, k0_pay142]
theorem pay147_at (vm : Vec Ideal S128x128 .bf16) (j : Fin 128) :
    k0_pay147 (k0_pay144 vm) (k0_pay146 sm mb) zeros (ix2 r j)
      = ∑ s : Fin 128, Ideal.exp (sm (ix2 r s) - mb (ix2 r s)) * vm (ix2 s j) := by
  pointwise [k0_pay147, k0_pay146, k0_pay145, k0_pay144, zeros]

end memory

section block

variable (mb : FVec Ideal S1024x128 .f32) (M : EReal) (k ck : Vec Ideal S1024x128 .bf16) (r : Fin 1024)
  (hM : ∀ l : Fin 128, mb (ix2 r l) = M)

theorem pay25_at (s : Fin 1024) : k0_pay25 qa k ck (ix2 r s) = mat qa k ck r s := by
  unfold mat; pointwise [k0_pay25]
theorem pay39_at (s : Fin 1024) : k0_pay39 qa k ck (ix2 r s) = mat qa k ck r s := by
  unfold mat; pointwise [k0_pay39]
theorem pay9_at (s : Fin 1024) : k0_pay9 qa k ck (ix2 r s) = mat qa k ck r s := by
  unfold mat; pointwise [k0_pay9]

include hM

theorem pay35_at (s : Fin 1024) : k0_pay35 qa mb k ck (ix2 r s) = Ideal.exp (mat qa k ck r s - M) := by
  pointwise [k0_pay35, k0_pay27, k0_pay28, k0_pay29, k0_pay30, k0_pay31, k0_pay32, k0_pay33, k0_pay34]
  simp only [hM, pay25_at]
  split_ifs <;> (congr 3; try (apply Fin.ext; simp only []; omega))
theorem pay36_at : ∑ l : Fin 128, k0_pay36 qa mb k ck (ix2 r l) = ∑ s : Fin 1024, Ideal.exp (mat qa k ck r s - M) := by
  rw [← eight_sum]
  refine Finset.sum_congr rfl fun l _ => ?_
  pointwise [k0_pay36, k0_pay27, k0_pay28, k0_pay29, k0_pay30, k0_pay31, k0_pay32, k0_pay33, k0_pay34]
  simp only [hM, pay25_at]
theorem pay49_at (s : Fin 1024) : k0_pay49 qa mb k ck (ix2 r s) = Ideal.exp (mat qa k ck r s - M) := by
  pointwise [k0_pay49, k0_pay41, k0_pay42, k0_pay43, k0_pay44, k0_pay45, k0_pay46, k0_pay47, k0_pay48]
  simp only [hM, pay39_at]
  split_ifs <;> (congr 3; try (apply Fin.ext; simp only []; omega))
theorem pay50_at : ∑ l : Fin 128, (k0_pay50 qa mb k ck (ix2 r l) + k0_pay48 qa mb k ck (ix2 r l))
    = ∑ s : Fin 1024, Ideal.exp (mat qa k ck r s - M) := by
  rw [← eight_sum]
  refine Finset.sum_congr rfl fun l _ => ?_
  pointwise [k0_pay50, k0_pay41, k0_pay42, k0_pay43, k0_pay44, k0_pay45, k0_pay46, k0_pay47, k0_pay48]
  simp only [hM, pay39_at]

omit hM

theorem pay37_at (acc : FVec Ideal S1024x128 .f32) (p : FVec Ideal S1024x1024 .bf16) (v : Vec Ideal S1024x128 .bf16) (j : Fin 128) :
    k0_pay37 acc (k0_pay26 v) p (ix2 r j) = acc (ix2 r j) + ∑ s : Fin 1024, p (ix2 r s) * v (ix2 s j) := by
  pointwise [k0_pay37, k0_pay26]
theorem pay148_at (acc : FVec Ideal S1024x128 .f32) (p : FVec Ideal S1024x1024 .bf16) (v : Vec Ideal S1024x128 .bf16) (j : Fin 128) :
    k0_pay148 acc (k0_pay40 v) p (ix2 r j) = acc (ix2 r j) + ∑ s : Fin 1024, p (ix2 r s) * v (ix2 s j) := by
  pointwise [k0_pay148, k0_pay40]
theorem pay38_at (l x : FVec Ideal S1024x128 .f32) (j : Fin 128) :
    k0_pay38 l x (ix2 r j) = l (ix2 r j) + x (ix2 r j) := by
  pointwise [k0_pay38]
theorem pay149_at (l x y : FVec Ideal S1024x128 .f32) (j : Fin 128) :
    k0_pay149 l x y (ix2 r j) = l (ix2 r j) + (y (ix2 r j) + x (ix2 r j)) := by
  pointwise [k0_pay149]

end block

end Cert.Attn
end
-- ==== Proof.Diag.lean ====
module

public import proofs.«01_k».proof.Proof.Reads
public import Idealize.ShloMosaic.Lib.WordCmp

/-
The diagonal block of keys: its scores, −∞ where the key comes after the query, and the two stores of the output block,
the weighted sum of the values over the sum of the weights.
-/
@[expose] public section
set_option maxRecDepth 16384
noncomputable section
namespace Cert.Attn
open Idealize.ShloMosaic
open Cert.KernelIdeal Cert.KernelIdeal.Gen Cert.KernelIdeal.Body

variable (qa : FVec Ideal S1024x256 .bf16)

/-- A score of the diagonal block: −∞ where the key comes after the query. -/
def diag (k ck : (⟨2, ![1024, 128]⟩ : Shape).Idx → EReal) (r s : Fin 1024) : EReal :=
  if s.val ≤ r.val then mat qa k ck r s else ⊥

theorem mask_eq : (Named.named (F := Ideal) κ "mask" 0xF149F2CA#32 : Ideal .f32) = (⊥ : EReal) := by
  have h := IdealRules.named_const.statement Cert.KernelIdeal.κ "mask" .f32 0xF149F2CA#32 ⊥ rfl
  unfold IdealRules.named_const.Statement at h
  exact h.2.2

variable (mb : FVec Ideal S1024x128 .f32) (M : EReal) (k ck : Vec Ideal S1024x128 .bf16) (r : Fin 1024)
  (hM : ∀ l : Fin 128, mb (ix2 r l) = M)

theorem sge_eq (r s : Fin 1024) : IntOp.cmpi CmpIPredicate.sge (BitVec.ofNat 32 r.val) (BitVec.ofNat 32 s.val)
    = BitVec.ofBool (decide (s.val ≤ r.val)) :=
  WordCmp.cmpi_sge_ofNat (by have := r.isLt; norm_num; omega) (by have := s.isLt; norm_num; omega)

theorem pay156_at (s : Fin 1024) : k0_pay156 qa k ck (ix2 r s) = diag qa k ck r s := by
  unfold diag mat; pointwise [k0_pay156]
  rw [sge_eq, mask_eq]
  by_cases h : s.val ≤ r.val
  · rw [if_pos h, decide_eq_true h]; rfl
  · rw [if_neg h, decide_eq_false h]; rfl

theorem pay169_diag (s : Fin 1024) :
    Scalar.select (k0_pay167 (ix2 r s)) (∑ d : Fin 256, qa (ix2 r d) * k0_pay168 k ck (ix2 s d))
      (Named.named (F := Ideal) κ "mask" 0xF149F2CA#32 : Ideal .f32) = diag qa k ck r s := by
  rw [← pay156_at]
  pointwise [k0_pay156, k0_pay167, k0_pay168]

include hM

theorem pay166_at (acc lp : FVec Ideal S1024x128 .f32) (v : Vec Ideal S1024x128 .bf16) (j : Fin 128) :
    k0_pay166 mb acc lp (k0_pay157 v) (k0_pay158 qa k ck) (k0_pay159 qa k ck) (k0_pay160 qa k ck) (k0_pay161 qa k ck)
      (k0_pay162 qa k ck) (k0_pay163 qa k ck) (k0_pay164 qa k ck) (k0_pay165 qa mb k ck) (ix2 r j)
      = Ideal.div (acc (ix2 r j) + ∑ s : Fin 1024, Ideal.exp (diag qa k ck r s - M) * v (ix2 s j))
        (∑ l : Fin 128, lp (ix2 r l) + ∑ s : Fin 1024, Ideal.exp (diag qa k ck r s - M)) := by
  rw [← eight_sum (fun s => Ideal.exp (diag qa k ck r s - M)), ← Finset.sum_add_distrib]
  pointwise [k0_pay166, k0_pay157, k0_pay158, k0_pay159, k0_pay160, k0_pay161, k0_pay162, k0_pay163, k0_pay164, k0_pay165]
  simp only [hM, pay156_at]
  refine congrArg₂ Ideal.div (congrArg (acc (ix2 r j) + ·) (Finset.sum_congr rfl fun s _ => ?_)) rfl
  split_ifs <;> (congr 4; try (apply Fin.ext; simp only []; omega))

theorem pay1_at (acc lp : FVec Ideal S1024x128 .f32) (v : Vec Ideal S1024x128 .bf16) (j : Fin 128) :
    k0_pay1 (k0_pay169 qa mb acc lp k0_pay167 (k0_pay168 k ck) (constant S1024x1024 .f32 0x00000000#32) v) (ix2 r j)
      = Ideal.div (acc (ix2 r j) + ∑ s : Fin 1024, Ideal.exp (diag qa k ck r s - M) * v (ix2 s j))
        (∑ l : Fin 128, lp (ix2 r l) + ∑ s : Fin 1024, Ideal.exp (diag qa k ck r s - M)) := by
  rw [← eight_sum (fun s => Ideal.exp (diag qa k ck r s - M)), ← Finset.sum_add_distrib]
  pointwise [k0_pay1, k0_pay169]
  simp only [hM, pay169_diag]
  refine congrArg₂ Ideal.div (congrArg (acc (ix2 r j) + ·) (Finset.sum_congr rfl fun s _ => ?_)) rfl
  split_ifs <;> (congr 4; try (apply Fin.ext; simp only []; omega))

end Cert.Attn
end
-- ==== Proof.Reals.lean ====
module

public import Idealize.ShloMosaic.Lib.Pointwise

/-
Extended reals that are real numbers: closed under the operations the scores and the norm bounds are made of.
-/
@[expose] public section
noncomputable section
namespace Cert.Attn
open Idealize.ShloMosaic

/-- A real number. -/
def Fine (x : EReal) : Prop := ∃ r : ℝ, x = r
/-- A real number that is not negative. -/
def Pos0 (x : EReal) : Prop := ∃ r : ℝ, 0 ≤ r ∧ x = r

theorem Pos0.fine {x : EReal} (h : Pos0 x) : Fine x := h.imp fun _ h => h.2
theorem Fine.lt_top {x : EReal} (h : Fine x) : x < ⊤ := by obtain ⟨r, rfl⟩ := h; exact EReal.coe_lt_top r
theorem Fine.bot_lt {x : EReal} (h : Fine x) : ⊥ < x := by obtain ⟨r, rfl⟩ := h; exact EReal.bot_lt_coe r
theorem fine_of_lt {x : EReal} (h : x < ⊤) (h' : ⊥ < x) : Fine x :=
  ⟨x.toReal, (EReal.coe_toReal h.ne h'.ne').symm⟩
theorem Fine.add {x y : EReal} (hx : Fine x) (hy : Fine y) : Fine (x + y) := by
  obtain ⟨a, rfl⟩ := hx; obtain ⟨b, rfl⟩ := hy; exact ⟨a + b, (EReal.coe_add a b).symm⟩
theorem Fine.sub {x y : EReal} (hx : Fine x) (hy : Fine y) : Fine (x - y) := by
  obtain ⟨a, rfl⟩ := hx; obtain ⟨b, rfl⟩ := hy; exact ⟨a - b, (EReal.coe_sub a b).symm⟩
theorem Fine.neg {x : EReal} (hx : Fine x) : Fine (-x) := by
  obtain ⟨a, rfl⟩ := hx; exact ⟨-a, (EReal.coe_neg a).symm⟩
theorem Fine.mul {x y : EReal} (hx : Fine x) (hy : Fine y) : Fine (x * y) := by
  obtain ⟨a, rfl⟩ := hx; obtain ⟨b, rfl⟩ := hy; exact ⟨a * b, (EReal.coe_mul a b).symm⟩
theorem Fine.zero : Fine 0 := ⟨0, rfl⟩
theorem Fine.one : Fine 1 := ⟨1, rfl⟩
theorem Fine.sum {ι : Type*} (s : Finset ι) {f : ι → EReal} (h : ∀ i, Fine (f i)) : Fine (∑ i ∈ s, f i) := by
  classical
  induction s using Finset.induction_on with
  | empty => exact Fine.zero
  | insert a s ha ih => rw [Finset.sum_insert ha]; exact (h a).add ih
theorem Fine.sq {x : EReal} (hx : Fine x) : Pos0 (x * x) := by
  obtain ⟨a, rfl⟩ := hx; exact ⟨a * a, mul_self_nonneg a, (EReal.coe_mul a a).symm⟩
theorem Pos0.add {x y : EReal} (hx : Pos0 x) (hy : Pos0 y) : Pos0 (x + y) := by
  obtain ⟨a, ha, rfl⟩ := hx; obtain ⟨b, hb, rfl⟩ := hy; exact ⟨a + b, add_nonneg ha hb, (EReal.coe_add a b).symm⟩
theorem Pos0.mul {x y : EReal} (hx : Pos0 x) (hy : Pos0 y) : Pos0 (x * y) := by
  obtain ⟨a, ha, rfl⟩ := hx; obtain ⟨b, hb, rfl⟩ := hy; exact ⟨a * b, mul_nonneg ha hb, (EReal.coe_mul a b).symm⟩
theorem Pos0.zero : Pos0 0 := ⟨0, le_refl _, rfl⟩
theorem Pos0.sum {ι : Type*} (s : Finset ι) {f : ι → EReal} (h : ∀ i, Pos0 (f i)) : Pos0 (∑ i ∈ s, f i) := by
  classical
  induction s using Finset.induction_on with
  | empty => exact Pos0.zero
  | insert a s ha ih => rw [Finset.sum_insert ha]; exact (h a).add ih
theorem Pos0.max {x y : EReal} (hx : Pos0 x) (hy : Pos0 y) : Pos0 (max x y) := by
  rcases max_choice x y with h | h <;> rw [h] <;> assumption
theorem Pos0.sqrt {x : EReal} (hx : Pos0 x) : Fine (Ideal.sqrt x) := by
  obtain ⟨a, ha, rfl⟩ := hx
  exact ⟨Real.sqrt a, by rw [Ideal.sqrt_coe, if_neg (not_lt.mpr ha)]⟩

theorem neg_inf : Ideal.ofBits .f32 0xFF800000#32 = ⊥ := by simp [Ideal.ofBits, Ideal.ieee]
theorem stretch_fine : Fine (Ideal.ofBits .f32 0x3F8020C5#32) := by
  unfold Fine; simp [Ideal.ofBits, Ideal.ieee]; exact ⟨_, rfl⟩
theorem slack_fine : Fine (Ideal.ofBits .f32 0x3C23D70A#32) := by
  unfold Fine; simp [Ideal.ofBits, Ideal.ieee]; exact ⟨_, rfl⟩
theorem scale_fine : Fine (Ideal.ofBits .f32 0x3DB504F3#32) := by
  unfold Fine; simp [Ideal.ofBits, Ideal.ieee]; exact ⟨_, rfl⟩

/-- A maximum over an index set that is not empty, of numbers below +∞, one of them above −∞. -/
theorem fold_fine {n : ℕ} (f : Fin n → EReal) (h : ∀ i, f i < ⊤) (i : Fin n) (hi : ⊥ < f i) :
    Fine (Finset.fold max (⊥ : EReal) f Finset.univ) := by
  refine fine_of_lt ?_ ?_
  · rw [Finset.fold_max_lt]; exact ⟨bot_lt_top, fun i _ => h i⟩
  · rw [Finset.lt_fold_max]; exact Or.inr ⟨i, Finset.mem_univ _, hi⟩

theorem fold_pos0 {n : ℕ} (f : Fin n → EReal) (h : ∀ i, Pos0 (f i)) (i : Fin n) :
    Pos0 (Finset.fold max (⊥ : EReal) f Finset.univ) := by
  obtain ⟨r, hr⟩ := fold_fine f (fun i => (h i).fine.lt_top) i (h i).fine.bot_lt
  refine ⟨r, ?_, hr⟩
  obtain ⟨a, ha, e⟩ := h i
  have : f i ≤ Finset.fold max (⊥ : EReal) f Finset.univ := by
    rw [Finset.le_fold_max]; exact Or.inr ⟨i, Finset.mem_univ _, le_refl _⟩
  rw [hr, e] at this
  exact ha.trans (by exact_mod_cast this)

end Cert.Attn
end
-- ==== Proof.Maxes.lean ====
module

public import proofs.«01_k».proof.Proof.Diag
public import proofs.«01_k».proof.Proof.Reals

/-
The two candidates for the number a row's scores are shifted by, the norm bound and the row maximum: both are real when
the queries and keys are. Only that is needed of them, since the result does not depend on the shift.
-/
@[expose] public section
set_option maxRecDepth 16384
noncomputable section
namespace Cert.Attn
open Idealize.ShloMosaic
open Cert.KernelIdeal Cert.KernelIdeal.Gen Cert.KernelIdeal.Body

variable (qa : FVec Ideal S1024x256 .bf16) (mp : FVec Ideal S1024x128 .f32) (k ck : Vec Ideal S1024x128 .bf16) (r : Fin 1024) (l : Fin 128)

theorem pay8_le : mp (ix2 r l) ≤ k0_pay8 qa mp k ck (ix2 r l) := by
  pointwise [k0_pay8]
  simp only [le_max_iff, le_refl, true_or]
theorem pay8_lt (h : ∀ s, mat qa k ck r s < ⊤) (h0 : mp (ix2 r l) < ⊤) : k0_pay8 qa mp k ck (ix2 r l) < ⊤ := by
  unfold mat at h
  pointwise [k0_pay8]
  simp only [max_lt_iff]
  exact ⟨⟨⟨⟨⟨⟨⟨⟨h0, h _⟩, h _⟩, h _⟩, h _⟩, h _⟩, h _⟩, h _⟩, h _⟩
theorem pay22_le : mp (ix2 r l) ≤ k0_pay22 (k0_pay10 qa k ck) (k0_pay11 qa k ck) (k0_pay12 qa mp k ck) (ix2 r l) := by
  pointwise [k0_pay22, k0_pay10, k0_pay11, k0_pay12]
  simp only [le_max_iff, le_refl, true_or]
theorem pay22_lt (h : ∀ s, mat qa k ck r s < ⊤) (h0 : mp (ix2 r l) < ⊤) :
    k0_pay22 (k0_pay10 qa k ck) (k0_pay11 qa k ck) (k0_pay12 qa mp k ck) (ix2 r l) < ⊤ := by
  pointwise [k0_pay22, k0_pay10, k0_pay11, k0_pay12]
  simp only [pay9_at, max_lt_iff]
  exact ⟨⟨⟨⟨⟨⟨⟨⟨h0, h _⟩, h _⟩, h _⟩, h _⟩, h _⟩, h _⟩, h _⟩, h _⟩

theorem select_lt (b : BitVec 1) (x : EReal) (h : x < ⊤) :
    Scalar.select b x (Named.named (F := Ideal) κ "mask" 0xF149F2CA#32 : Ideal .f32) < (⊤ : EReal) := by
  unfold Scalar.select
  split
  · exact h
  · rw [mask_eq]; exact bot_lt_top

theorem pay24_le : mp (ix2 r l) ≤ k0_pay24 qa mp k ck (ix2 r l) := by
  pointwise [k0_pay24]
  simp only [le_max_iff, le_refl, true_or]
theorem pay24_lt (h : ∀ s, mat qa k ck r s < ⊤) (h0 : mp (ix2 r l) < ⊤) : k0_pay24 qa mp k ck (ix2 r l) < ⊤ := by
  unfold mat at h
  pointwise [k0_pay24]
  simp only [max_lt_iff]
  refine ⟨⟨⟨⟨⟨⟨⟨⟨h0, ?_⟩, ?_⟩, ?_⟩, ?_⟩, ?_⟩, ?_⟩, ?_⟩, ?_⟩ <;> exact select_lt _ _ (h _)

theorem pay140_at : k0_pay140 mp (ix2 r l) = Finset.fold max (⊥ : EReal) (fun x => mp (ix2 r x)) Finset.univ := by
  rw [← neg_inf]; pointwise [k0_pay140]

/-- Head 0's row maximum is real. -/
theorem exact0_fine (h : ∀ s, mat qa k ck r s < ⊤) (h0 : ∀ l, mp (ix2 r l) < ⊤) (l0 : Fin 128) (h1 : ⊥ < mp (ix2 r l0)) :
    ∃ M : ℝ, ∀ l : Fin 128, k0_pay140 (k0_pay24 qa mp k ck) (ix2 r l) = (M : EReal) := by
  obtain ⟨M, hM⟩ := fold_fine (fun x => k0_pay24 qa mp k ck (ix2 r x)) (fun x => pay24_lt qa mp k ck r x h (h0 x)) l0
    (h1.trans_le (pay24_le qa mp k ck r l0))
  exact ⟨M, fun l => (pay140_at _ r l).trans hM⟩

/-- Head 1's row maximum is real. -/
theorem exact1_fine (h : ∀ s, mat qa k ck r s < ⊤) (h0 : ∀ l, mp (ix2 r l) < ⊤) (l0 : Fin 128) (h1 : ⊥ < mp (ix2 r l0)) :
    ∃ M : ℝ, ∀ l : Fin 128, k0_pay141 qa mp (iota .tc S1024x1024 32 [0] iota_S1024x1024_d0_w32)
      (iota .tc S1024x1024 32 [1] iota_S1024x1024_d1_w32) k ck (ix2 r l) = (M : EReal) := by
  obtain ⟨M, hM⟩ := fold_fine (fun x => k0_pay24 qa mp k ck (ix2 r x)) (fun x => pay24_lt qa mp k ck r x h (h0 x)) l0
    (h1.trans_le (pay24_le qa mp k ck r l0))
  refine ⟨M, fun l => Eq.trans ?_ hM⟩
  rw [← neg_inf]; pointwise [k0_pay141, k0_pay24]

/-- Head 0's norm bound is real. -/
theorem bound0_fine (w : Vec Ideal S1x1 .f32) (hk : ∀ d, Fine (k (ix2 r d))) (hw : Pos0 (w (ix2 0 0))) :
    ∃ M : ℝ, ∀ l : Fin 128, k0_pay138 (k0_pay134 k w) stretch (ix2 r l) = (M : EReal) := by
  obtain ⟨M, hM⟩ := ((((Pos0.sum Finset.univ fun d => (hk d).sq).mul hw).sqrt.mul stretch_fine).add slack_fine)
  refine ⟨M, fun l => Eq.trans ?_ hM⟩
  pointwise [k0_pay134, k0_pay138, k0_pay135, stretch]

/-- Head 1's norm bound is real. -/
theorem bound1_fine (w : Vec Ideal S1x1 .f32) (hk : ∀ d, Fine (k (ix2 r d))) (hw : Pos0 (w (ix2 0 0))) :
    ∃ M : ℝ, ∀ l : Fin 128, k0_pay139 k w (ix2 r l) = (M : EReal) := by
  obtain ⟨M, hM⟩ := ((((Pos0.sum Finset.univ fun d => (hk d).sq).mul hw).sqrt.mul stretch_fine).add slack_fine)
  refine ⟨M, fun l => Eq.trans ?_ hM⟩
  pointwise [k0_pay139, k0_pay136]

/-- The squared norms of a block of keys, folded into the running maxima, are not negative. -/
theorem pay3_pos (w : FVec Ideal S1024x1 .f32) (hw : ∀ r, Pos0 (w (ix2 r 0))) (hk : ∀ r d, Fine (k (ix2 r d))) :
    Pos0 (k0_pay3 w k (ix2 r 0)) := by
  have h := (hw r).max (Pos0.sum Finset.univ fun d => (hk r d).sq)
  revert h; pointwise [k0_pay3]; exact id
theorem pay6_pos (w : FVec Ideal S1024x1 .f32) (hw : ∀ r, Pos0 (w (ix2 r 0))) (hk : ∀ r d, Fine (k (ix2 r d))) :
    Pos0 (k0_pay6 w k (ix2 r 0)) := by
  have h := (hw r).max (Pos0.sum Finset.univ fun d => (hk r d).sq)
  revert h; pointwise [k0_pay6]; exact id
theorem pay2_pos : Pos0 ((k0_pay2 : FVec Ideal S1024x1 .f32) (ix2 r 0)) := by
  have h := Pos0.zero
  revert h; pointwise [k0_pay2]; exact id
theorem pay5_pos : Pos0 ((k0_pay5 : FVec Ideal S1024x1 .f32) (ix2 r 0)) := by
  have h := Pos0.zero
  revert h; pointwise [k0_pay5]; exact id
theorem pay4_pos (w : FVec Ideal S1024x1 .f32) (km : Vec Ideal S128x128 .bf16) (hw : ∀ r, Pos0 (w (ix2 r 0)))
    (hk : ∀ r d, Fine (km (ix2 r d))) : Pos0 (k0_pay4 w km (ix2 0 l)) := by
  have h := (fold_pos0 (fun x => w (ix2 x 0)) hw 0).max
    (fold_pos0 (fun x => ∑ y : Fin 128, km (ix2 x y) * km (ix2 x y)) (fun x => Pos0.sum Finset.univ fun d => (hk x d).sq) 0)
  rw [← neg_inf] at h
  revert h; pointwise [k0_pay4]; exact id
theorem pay131_pos (w : FVec Ideal S1024x1 .f32) (km : Vec Ideal S128x128 .bf16) (hw : ∀ r, Pos0 (w (ix2 r 0)))
    (hk : ∀ r d, Fine (km (ix2 r d))) : Pos0 (k0_pay131 (k0_pay7 w km) (ix2 0 l)) := by
  have h := (fold_pos0 (fun x => w (ix2 x 0)) hw 0).max
    (fold_pos0 (fun x => ∑ y : Fin 128, km (ix2 x y) * km (ix2 x y)) (fun x => Pos0.sum Finset.univ fun d => (hk x d).sq) 0)
  rw [← neg_inf] at h
  revert h; pointwise [k0_pay131, k0_pay7]; exact id
end Cert.Attn
end
-- ==== Proof.Block.lean ====
module

public import proofs.«01_k».proof.Proof.Trips
public import proofs.«01_k».proof.Proof.Maxes

/-
The loops over the key blocks before the query block, after any number of trips: the accumulators are the sums over
the keys passed so far (`acc_after`), the running maxima stay below +∞ and do not decrease (`max_after`).
-/
@[expose] public section
set_option maxRecDepth 16384
noncomputable section
namespace Cert.Attn
open Idealize.ShloMosaic
open Cert.KernelIdeal Cert.KernelIdeal.Gen Cert.KernelIdeal.Body

/-- The score of a query row against key `s` of a head whose columns start at `o`. -/
def keyN (qa : FVec Ideal S1024x256 .bf16) (x5 x6 : Vec Ideal S4096x256 .bf16) (o : ℕ) (r : Fin 1024) (s : ℕ) : EReal :=
  ∑ d : Fin 128, qa (ix2 r ⟨d.val, by omega⟩) * at2 x5 s (o + d)
    + ∑ d : Fin 128, qa (ix2 r ⟨128 + d.val, by omega⟩) * at2 x6 s (o + d)

variable (c : Dev nD) (t : Fin grid0.N) (arg3 : Memref sig .tc .vmem S1024x256 .bf16) (harg3 : arg3.IsWhole) (arg4 : Memref sig .tc .vmem S1024x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S128x256 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1024x256 .bf16) (harg11 : arg11.IsWhole) (arg12 : Memref sig .tc .vmem S8x128 .f32) (harg12 : arg12.IsWhole)
variable (x5 x6 x7 : Vec Ideal S4096x256 .bf16)

theorem load_mat (qa : FVec Ideal S1024x256 .bf16) (off : Fin 2 → ℕ)
    (inb : ∀ i, off i + S1024x128.size i ≤ S4096x256.size i) (a o : ℕ) (h0 : off 0 = a) (h1 : off 1 = o) (r s : Fin 1024) :
    mat qa (View.readAt (Elt Ideal) arg5.view (Rect.unit (s := S4096x256) (off) S1024x128.size (inb)).toLoadRect (harg5.unread x5)) (View.readAt (Elt Ideal) arg6.view (Rect.unit (s := S4096x256) (off) S1024x128.size (inb)).toLoadRect (harg6.unread x6)) r s
      = keyN qa x5 x6 o r (a + s) := by
  unfold mat keyN
  refine congrArg₂ (· + ·) (Finset.sum_congr rfl fun d _ => ?_) (Finset.sum_congr rfl fun d _ => ?_)
  · rw [ld_at arg5 harg5 x5 off inb s d, h0, h1]
  · rw [ld_at arg6 harg6 x6 off inb s d, h0, h1]

theorem sum_block (f : ℕ → EReal) (n : ℕ) :
    ∑ s ∈ Finset.range (1024 * (n + 1)), f s = ∑ s ∈ Finset.range (1024 * n), f s + ∑ s : Fin 1024, f (1024 * n + s) := by
  rw [Nat.mul_succ, Finset.sum_range_add, Finset.sum_range (fun x => f (1024 * n + x))]

section accumulate

variable (arg2 : BitVec 32) (v4 v9 : FVec Ideal S1024x256 .bf16) (v27 v47 : BitVec 32) (mb0 mb1 v107 v109 : FVec Ideal S1024x128 .f32)
  (v111 : FVec Ideal S128x128 .bf16) (v113 : FVec Ideal S1024x128 .f32) (v114 : FVec Ideal S1024x128 .bf16) (cst : FVec Ideal S1024x128 .f32)
  (init : FVec Ideal S1024x128 .f32 × FVec Ideal S1024x128 .f32 × FVec Ideal S1024x128 .f32 × FVec Ideal S1024x128 .f32)
  (r : Fin 1024) (M0 M1 : EReal) (h0 : ∀ l : Fin 128, mb0 (ix2 r l) = M0) (h1 : ∀ l : Fin 128, mb1 (ix2 r l) = M1)

theorem trip7_eq (k : Fin (k0_t7_loop (grid0.coords t)).trips) (acc : FVec Ideal S1024x128 .f32 × FVec Ideal S1024x128 .f32 × FVec Ideal S1024x128 .f32 × FVec Ideal S1024x128 .f32) :
    tripR_k0_t7 (F := Ideal) Variants.none c none (grid0.coords t) arg3 harg3 arg4 harg4 arg5 harg5 arg6 harg6 arg7 harg7 arg8 harg8 arg9 harg9 arg10 harg10 arg11 harg11 arg12 harg12 arg2 v4 v9 v27 v47 mb0 mb1 v107 v109 v111 v113 v114 cst (harg5.unread x5) (harg6.unread x6) (harg7.unread x7) k acc
      = (k0_pay37 acc.1 (k0_pay26 (View.readAt (Elt Ideal) arg7.view (Rect.unit (s := S4096x256) (k0_off13 (grid0.coords t) k) S1024x128.size (k0_off13_inb (grid0.coords t) k)).toLoadRect (harg7.unread x7))) (k0_pay35 v4 mb0 (View.readAt (Elt Ideal) arg5.view (Rect.unit (s := S4096x256) (k0_off13 (grid0.coords t) k) S1024x128.size (k0_off13_inb (grid0.coords t) k)).toLoadRect (harg5.unread x5)) (View.readAt (Elt Ideal) arg6.view (Rect.unit (s := S4096x256) (k0_off13 (grid0.coords t) k) S1024x128.size (k0_off13_inb (grid0.coords t) k)).toLoadRect (harg6.unread x6))),
        k0_pay38 acc.2.1 (k0_pay36 v4 mb0 (View.readAt (Elt Ideal) arg5.view (Rect.unit (s := S4096x256) (k0_off13 (grid0.coords t) k) S1024x128.size (k0_off13_inb (grid0.coords t) k)).toLoadRect (harg5.unread x5)) (View.readAt (Elt Ideal) arg6.view (Rect.unit (s := S4096x256) (k0_off13 (grid0.coords t) k) S1024x128.size (k0_off13_inb (grid0.coords t) k)).toLoadRect (harg6.unread x6))),
        k0_pay148 acc.2.2.1 (k0_pay40 (View.readAt (Elt Ideal) arg7.view (Rect.unit (s := S4096x256) (k0_off14 (grid0.coords t) k) S1024x128.size (k0_off14_inb (grid0.coords t) k)).toLoadRect (harg7.unread x7))) (k0_pay49 v9 mb1 (View.readAt (Elt Ideal) arg5.view (Rect.unit (s := S4096x256) (k0_off14 (grid0.coords t) k) S1024x128.size (k0_off14_inb (grid0.coords t) k)).toLoadRect (harg5.unread x5)) (View.readAt (Elt Ideal) arg6.view (Rect.unit (s := S4096x256) (k0_off14 (grid0.coords t) k) S1024x128.size (k0_off14_inb (grid0.coords t) k)).toLoadRect (harg6.unread x6))),
        k0_pay149 acc.2.2.2 (k0_pay48 v9 mb1 (View.readAt (Elt Ideal) arg5.view (Rect.unit (s := S4096x256) (k0_off14 (grid0.coords t) k) S1024x128.size (k0_off14_inb (grid0.coords t) k)).toLoadRect (harg5.unread x5)) (View.readAt (Elt Ideal) arg6.view (Rect.unit (s := S4096x256) (k0_off14 (grid0.coords t) k) S1024x128.size (k0_off14_inb (grid0.coords t) k)).toLoadRect (harg6.unread x6))) (k0_pay50 v9 mb1 (View.readAt (Elt Ideal) arg5.view (Rect.unit (s := S4096x256) (k0_off14 (grid0.coords t) k) S1024x128.size (k0_off14_inb (grid0.coords t) k)).toLoadRect (harg5.unread x5)) (View.readAt (Elt Ideal) arg6.view (Rect.unit (s := S4096x256) (k0_off14 (grid0.coords t) k) S1024x128.size (k0_off14_inb (grid0.coords t) k)).toLoadRect (harg6.unread x6)))) := by
  unfold tripR_k0_t7 trip_k0_t7; rfl

include h0 h1

/-- The accumulators after `n` trips. -/
theorem acc_after (n : ℕ) (hn : n ≤ (k0_t7_loop (grid0.coords t)).trips) (j : Fin 128) :
    (st_k0_t7 (F := Ideal) Variants.none c none (grid0.coords t) arg3 harg3 arg4 harg4 arg5 harg5 arg6 harg6 arg7 harg7 arg8 harg8 arg9 harg9 arg10 harg10 arg11 harg11 arg12 harg12 arg2 v4 v9 v27 v47 mb0 mb1 v107 v109 v111 v113 v114 cst (harg5.unread x5) (harg6.unread x6) (harg7.unread x7) init n).1 (ix2 r j) = init.1 (ix2 r j)
        + ∑ s ∈ Finset.range (1024 * n), Ideal.exp (keyN v4 x5 x6 0 r s - M0) * at2 x7 s (0 + j)
    ∧ ∑ l : Fin 128, (st_k0_t7 (F := Ideal) Variants.none c none (grid0.coords t) arg3 harg3 arg4 harg4 arg5 harg5 arg6 harg6 arg7 harg7 arg8 harg8 arg9 harg9 arg10 harg10 arg11 harg11 arg12 harg12 arg2 v4 v9 v27 v47 mb0 mb1 v107 v109 v111 v113 v114 cst (harg5.unread x5) (harg6.unread x6) (harg7.unread x7) init n).2.1 (ix2 r l) = ∑ l : Fin 128, init.2.1 (ix2 r l)
        + ∑ s ∈ Finset.range (1024 * n), Ideal.exp (keyN v4 x5 x6 0 r s - M0)
    ∧ (st_k0_t7 (F := Ideal) Variants.none c none (grid0.coords t) arg3 harg3 arg4 harg4 arg5 harg5 arg6 harg6 arg7 harg7 arg8 harg8 arg9 harg9 arg10 harg10 arg11 harg11 arg12 harg12 arg2 v4 v9 v27 v47 mb0 mb1 v107 v109 v111 v113 v114 cst (harg5.unread x5) (harg6.unread x6) (harg7.unread x7) init n).2.2.1 (ix2 r j) = init.2.2.1 (ix2 r j)
        + ∑ s ∈ Finset.range (1024 * n), Ideal.exp (keyN v9 x5 x6 128 r s - M1) * at2 x7 s (128 + j)
    ∧ ∑ l : Fin 128, (st_k0_t7 (F := Ideal) Variants.none c none (grid0.coords t) arg3 harg3 arg4 harg4 arg5 harg5 arg6 harg6 arg7 harg7 arg8 harg8 arg9 harg9 arg10 harg10 arg11 harg11 arg12 harg12 arg2 v4 v9 v27 v47 mb0 mb1 v107 v109 v111 v113 v114 cst (harg5.unread x5) (harg6.unread x6) (harg7.unread x7) init n).2.2.2 (ix2 r l) = ∑ l : Fin 128, init.2.2.2 (ix2 r l)
        + ∑ s ∈ Finset.range (1024 * n), Ideal.exp (keyN v9 x5 x6 128 r s - M1) := by
  induction n with
  | zero => simp [st_k0_t7_zero]
  | succ n ih =>
    obtain ⟨i1, i2, i3, i4⟩ := ih (by omega)
    obtain ⟨k, rfl⟩ : ∃ k : Fin (k0_t7_loop (grid0.coords t)).trips, k.val = n := ⟨⟨n, hn⟩, rfl⟩
    have e := st_k0_t7_succ (F := Ideal) Variants.none c none (grid0.coords t) arg3 harg3 arg4 harg4 arg5 harg5 arg6 harg6 arg7 harg7 arg8 harg8 arg9 harg9 arg10 harg10 arg11 harg11 arg12 harg12 arg2 v4 v9 v27 v47 mb0 mb1 v107 v109 v111 v113 v114 cst (harg5.unread x5) (harg6.unread x6) (harg7.unread x7) init k
    rw [trip7_eq] at e
    obtain ⟨a0, a1⟩ := off13 t k
    obtain ⟨b0, b1⟩ := off14 t k
    have m0 := load_mat arg5 harg5 arg6 harg6 x5 x6 v4 (k0_off13 (grid0.coords t) k) (k0_off13_inb (grid0.coords t) k) _ _ a0 a1 r
    have m1 := load_mat arg5 harg5 arg6 harg6 x5 x6 v9 (k0_off14 (grid0.coords t) k) (k0_off14_inb (grid0.coords t) k) _ _ b0 b1 r
    have w0 := fun s : Fin 1024 => ld_at arg7 harg7 x7 (k0_off13 (grid0.coords t) k) (k0_off13_inb (grid0.coords t) k) s j
    have w1 := fun s : Fin 1024 => ld_at arg7 harg7 x7 (k0_off14 (grid0.coords t) k) (k0_off14_inb (grid0.coords t) k) s j
    simp only [a0, a1] at w0
    simp only [b0, b1] at w1
    simp only [e]
    refine ⟨?_, ?_, ?_, ?_⟩
    · rw [pay37_at, i1, sum_block, add_assoc]
      refine congrArg (_ + ·) (congrArg (_ + ·) (Finset.sum_congr rfl fun s _ => ?_))
      rw [pay35_at _ _ _ _ _ _ h0, m0, w0]
    · simp only [pay38_at, Finset.sum_add_distrib]
      rw [pay36_at _ _ _ _ _ _ h0, i2, sum_block, add_assoc]
      refine congrArg (_ + ·) (congrArg (_ + ·) (Finset.sum_congr rfl fun s _ => ?_))
      rw [m0]
    · rw [pay148_at, i3, sum_block, add_assoc]
      refine congrArg (_ + ·) (congrArg (_ + ·) (Finset.sum_congr rfl fun s _ => ?_))
      rw [pay49_at _ _ _ _ _ _ h1, m1, w1]
    · simp only [pay149_at]
      rw [Finset.sum_add_distrib, pay50_at _ _ _ _ _ _ h1, i4, sum_block, add_assoc]
      refine congrArg (_ + ·) (congrArg (_ + ·) (Finset.sum_congr rfl fun s _ => ?_))
      rw [m1]

end accumulate

section maxima

variable (arg2 : BitVec 32) (v4 v9 : FVec Ideal S1024x256 .bf16) (v27 v47 : BitVec 32) (v48 v49 : FVec Ideal S1024x128 .f32)
  (init : FVec Ideal S1024x128 .f32 × FVec Ideal S1024x128 .f32) (r : Fin 1024)

theorem trip3_eq (k : Fin (k0_t3_loop (grid0.coords t)).trips) (acc : FVec Ideal S1024x128 .f32 × FVec Ideal S1024x128 .f32) :
    tripR_k0_t3 (F := Ideal) Variants.none c none (grid0.coords t) arg3 harg3 arg4 harg4 arg5 harg5 arg6 harg6 arg7 harg7 arg8 harg8 arg9 harg9 arg10 harg10 arg11 harg11 arg12 harg12 arg2 v4 v9 v27 v47 v48 v49 (harg5.unread x5) (harg6.unread x6) k acc
      = (k0_pay8 v4 acc.1 (View.readAt (Elt Ideal) arg5.view (Rect.unit (s := S4096x256) (k0_off3 (grid0.coords t) k) S1024x128.size (k0_off3_inb (grid0.coords t) k)).toLoadRect (harg5.unread x5)) (View.readAt (Elt Ideal) arg6.view (Rect.unit (s := S4096x256) (k0_off3 (grid0.coords t) k) S1024x128.size (k0_off3_inb (grid0.coords t) k)).toLoadRect (harg6.unread x6)),
        k0_pay22 (k0_pay10 v9 (View.readAt (Elt Ideal) arg5.view (Rect.unit (s := S4096x256) (k0_off4 (grid0.coords t) k) S1024x128.size (k0_off4_inb (grid0.coords t) k)).toLoadRect (harg5.unread x5)) (View.readAt (Elt Ideal) arg6.view (Rect.unit (s := S4096x256) (k0_off4 (grid0.coords t) k) S1024x128.size (k0_off4_inb (grid0.coords t) k)).toLoadRect (harg6.unread x6))) (k0_pay11 v9 (View.readAt (Elt Ideal) arg5.view (Rect.unit (s := S4096x256) (k0_off4 (grid0.coords t) k) S1024x128.size (k0_off4_inb (grid0.coords t) k)).toLoadRect (harg5.unread x5)) (View.readAt (Elt Ideal) arg6.view (Rect.unit (s := S4096x256) (k0_off4 (grid0.coords t) k) S1024x128.size (k0_off4_inb (grid0.coords t) k)).toLoadRect (harg6.unread x6))) (k0_pay12 v9 acc.2 (View.readAt (Elt Ideal) arg5.view (Rect.unit (s := S4096x256) (k0_off4 (grid0.coords t) k) S1024x128.size (k0_off4_inb (grid0.coords t) k)).toLoadRect (harg5.unread x5)) (View.readAt (Elt Ideal) arg6.view (Rect.unit (s := S4096x256) (k0_off4 (grid0.coords t) k) S1024x128.size (k0_off4_inb (grid0.coords t) k)).toLoadRect (harg6.unread x6)))) := by
  unfold tripR_k0_t3 trip_k0_t3; rfl

/-- The running maxima after `n` trips. -/
theorem max_after (hk0 : ∀ s, keyN v4 x5 x6 0 r s < ⊤) (hk1 : ∀ s, keyN v9 x5 x6 128 r s < ⊤)
    (hi : ∀ l : Fin 128, init.1 (ix2 r l) < ⊤ ∧ init.2 (ix2 r l) < ⊤)
    (n : ℕ) (hn : n ≤ (k0_t3_loop (grid0.coords t)).trips) (l : Fin 128) :
    (init.1 (ix2 r l) ≤ (st_k0_t3 (F := Ideal) Variants.none c none (grid0.coords t) arg3 harg3 arg4 harg4 arg5 harg5 arg6 harg6 arg7 harg7 arg8 harg8 arg9 harg9 arg10 harg10 arg11 harg11 arg12 harg12 arg2 v4 v9 v27 v47 v48 v49 (harg5.unread x5) (harg6.unread x6) init n).1 (ix2 r l) ∧ (st_k0_t3 (F := Ideal) Variants.none c none (grid0.coords t) arg3 harg3 arg4 harg4 arg5 harg5 arg6 harg6 arg7 harg7 arg8 harg8 arg9 harg9 arg10 harg10 arg11 harg11 arg12 harg12 arg2 v4 v9 v27 v47 v48 v49 (harg5.unread x5) (harg6.unread x6) init n).1 (ix2 r l) < ⊤)
    ∧ (init.2 (ix2 r l) ≤ (st_k0_t3 (F := Ideal) Variants.none c none (grid0.coords t) arg3 harg3 arg4 harg4 arg5 harg5 arg6 harg6 arg7 harg7 arg8 harg8 arg9 harg9 arg10 harg10 arg11 harg11 arg12 harg12 arg2 v4 v9 v27 v47 v48 v49 (harg5.unread x5) (harg6.unread x6) init n).2 (ix2 r l) ∧ (st_k0_t3 (F := Ideal) Variants.none c none (grid0.coords t) arg3 harg3 arg4 harg4 arg5 harg5 arg6 harg6 arg7 harg7 arg8 harg8 arg9 harg9 arg10 harg10 arg11 harg11 arg12 harg12 arg2 v4 v9 v27 v47 v48 v49 (harg5.unread x5) (harg6.unread x6) init n).2 (ix2 r l) < ⊤) := by
  induction n with
  | zero => exact ⟨⟨le_refl _, (hi l).1⟩, ⟨le_refl _, (hi l).2⟩⟩
  | succ n ih =>
    obtain ⟨⟨i1, i2⟩, ⟨i3, i4⟩⟩ := ih (by omega)
    obtain ⟨k, rfl⟩ : ∃ k : Fin (k0_t3_loop (grid0.coords t)).trips, k.val = n := ⟨⟨n, hn⟩, rfl⟩
    have e := st_k0_t3_succ (F := Ideal) Variants.none c none (grid0.coords t) arg3 harg3 arg4 harg4 arg5 harg5 arg6 harg6 arg7 harg7 arg8 harg8 arg9 harg9 arg10 harg10 arg11 harg11 arg12 harg12 arg2 v4 v9 v27 v47 v48 v49 (harg5.unread x5) (harg6.unread x6) init k
    rw [trip3_eq] at e
    obtain ⟨a0, a1⟩ := off3 t k
    obtain ⟨b0, b1⟩ := off4 t k
    have m0 := load_mat arg5 harg5 arg6 harg6 x5 x6 v4 (k0_off3 (grid0.coords t) k) (k0_off3_inb (grid0.coords t) k) _ _ a0 a1 r
    have m1 := load_mat arg5 harg5 arg6 harg6 x5 x6 v9 (k0_off4 (grid0.coords t) k) (k0_off4_inb (grid0.coords t) k) _ _ b0 b1 r
    simp only [e]
    refine ⟨⟨i1.trans (pay8_le _ _ _ _ _ _), pay8_lt _ _ _ _ _ _ (fun s => ?_) i2⟩,
      ⟨i3.trans (pay22_le _ _ _ _ _ _), pay22_lt _ _ _ _ _ _ (fun s => ?_) i4⟩⟩
    · rw [m0]; exact hk0 _
    · rw [m1]; exact hk1 _

end maxima

end Cert.Attn
end
-- ==== Proof.Softmax.lean ====
module

public import Idealize.ShloMosaic.Lib.Pointwise

/-
A softmax-weighted sum of values over the extended reals. The scores are real or −∞, at least one is real; the values
are arbitrary. Whatever real number the scores are shifted by before the exponential, dividing the weighted sum of the
values by the sum of the weights gives one and the same result (`mean_eq`).
-/
@[expose] public section

noncomputable section

namespace Cert.Attn

open Idealize.ShloMosaic

/-- A sum times a nonnegative real number is the sum of the products. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- A sum of real numbers, read in the extended reals. -/
theorem coe_sum' {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of a score, as a real number. -/
def wt (x : EReal) : ℝ := (Ideal.exp x).toReal

theorem wt_nonneg (x : EReal) : 0 ≤ wt x := by
  unfold wt
  induction x using EReal.rec with
  | bot => simp
  | top => simp
  | coe r => rw [Ideal.exp_coe, EReal.toReal_coe]; exact (Real.exp_pos r).le

theorem wt_pos (r : ℝ) : 0 < wt (r : EReal) := by
  unfold wt; rw [Ideal.exp_coe, EReal.toReal_coe]; exact Real.exp_pos r

theorem exp_shift (x : EReal) (hx : x ≠ ⊤) (M : ℝ) :
    Ideal.exp (x - (M : EReal)) = ((wt x * Real.exp (-M) : ℝ) : EReal) := by
  unfold wt
  induction x using EReal.rec with
  | bot => rw [show (⊥ : EReal) - (M : EReal) = ⊥ from EReal.bot_sub _]; simp
  | top => exact absurd rfl hx
  | coe r =>
    rw [show ((r : EReal) - (M : EReal)) = ((r - M : ℝ) : EReal) from (EReal.coe_sub r M).symm, Ideal.exp_coe,
      Ideal.exp_coe, EReal.toReal_coe, sub_eq_add_neg, Real.exp_add]

variable {ι : Type*} (s : Finset ι) (x v : ι → EReal)

/-- The weighted sum of the values over the sum of the weights, the scores shifted by `M`. -/
def mean (M : EReal) : EReal :=
  Ideal.div (∑ i ∈ s, Ideal.exp (x i - M) * v i) (∑ i ∈ s, Ideal.exp (x i - M))

/-- The sum of the values, each times its normalized weight. -/
def softmax : EReal := ∑ i ∈ s, v i * ((wt (x i) / ∑ j ∈ s, wt (x j) : ℝ) : EReal)

variable {s x v}

theorem total_pos (hr : ∃ i ∈ s, ∃ r : ℝ, x i = r) : 0 < ∑ j ∈ s, wt (x j) := by
  obtain ⟨i, hi, r, h⟩ := hr
  exact Finset.sum_pos' (fun j _ => wt_nonneg _) ⟨i, hi, by rw [h]; exact wt_pos r⟩

theorem sum_exp (hx : ∀ i ∈ s, x i ≠ ⊤) (M : ℝ) :
    ∑ i ∈ s, Ideal.exp (x i - (M : EReal)) = (((∑ j ∈ s, wt (x j)) * Real.exp (-M) : ℝ) : EReal) := by
  rw [Finset.sum_mul, coe_sum']
  exact Finset.sum_congr rfl fun i hi => exp_shift _ (hx i hi) M

/-- The mean does not depend on the shift. -/
theorem mean_eq (hx : ∀ i ∈ s, x i ≠ ⊤) (hr : ∃ i ∈ s, ∃ r : ℝ, x i = r) (M : ℝ) :
    mean s x v (M : EReal) = softmax s x v := by
  have hW := total_pos hr
  have hE := Real.exp_pos (-M)
  unfold mean softmax
  rw [sum_exp hx M, Ideal.div_coe (mul_pos hW hE).ne', sum_mul_coe _ _ _ (by positivity)]
  refine Finset.sum_congr rfl fun i hi => ?_
  rw [exp_shift _ (hx i hi) M, mul_comm _ (v i), mul_assoc, ← EReal.coe_mul]
  congr 2
  field_simp

/-- A value times its weight over the sum of the weights, as the reference takes it. -/
theorem div_weight (hx : ∀ i ∈ s, x i ≠ ⊤) (hr : ∃ i ∈ s, ∃ r : ℝ, x i = r) (M : ℝ) :
    ∑ i ∈ s, v i * Ideal.div (Ideal.exp (x i - (M : EReal))) (∑ j ∈ s, Ideal.exp (x j - (M : EReal)))
      = softmax s x v := by
  have hW := total_pos hr
  have hE := Real.exp_pos (-M)
  unfold softmax
  refine Finset.sum_congr rfl fun i hi => ?_
  rw [sum_exp hx M, Ideal.div_coe (mul_pos hW hE).ne', exp_shift _ (hx i hi) M, ← EReal.coe_mul]
  congr 2
  field_simp

end Cert.Attn

end
-- ==== Proof.Point.lean ====
module

public import proofs.«01_k».proof.Proof.Block
public import proofs.«01_k».proof.Proof.Softmax

/-
One grid point of the attention call: whichever number a row is shifted by, its two stores are the softmax-weighted sum
of the values over the 128 memory rows and the 4096 keys, a key after the query weighing nothing.
-/
@[expose] public section
set_option maxRecDepth 16384
noncomputable section
namespace Cert.Attn
open Idealize.ShloMosaic
open Cert.KernelIdeal Cert.KernelIdeal.Gen Cert.KernelIdeal.Body

/-- A query row against a key row, and their feature columns, in the head whose columns start at `o`. -/
def score {n : ℕ} (x3 x4 : Vec Ideal S1024x256 .bf16) (k ck : (⟨2, ![n, 256]⟩ : Shape).Idx → EReal) (o r s : ℕ) : EReal :=
  ∑ d : Fin 128, at2 x3 r (o + d) * at2 k s (o + d) + ∑ d : Fin 128, at2 x4 r (o + d) * at2 ck s (o + d)

/-- Earlier keys, then the diagonal block: together all 4096 keys, those after the query at −∞. -/
theorem all_keys (G : ℕ → EReal → EReal) (hG : ∀ s, G s ⊥ = 0) (f : ℕ → EReal) (n : ℕ) (hn : n < 4) (r : Fin 1024) :
    ∑ s ∈ Finset.range (1024 * n), G s (f s)
        + ∑ s : Fin 1024, G (1024 * n + s) (if s.val ≤ r.val then f (1024 * n + s) else ⊥)
      = ∑ s : Fin 4096, G s (if s.val ≤ 1024 * n + r.val then f s else ⊥) := by
  have hr := r.isLt
  have e1 : ∑ s ∈ Finset.range (1024 * n), G s (f s)
      = ∑ s ∈ Finset.range (1024 * n), G s (if s ≤ 1024 * n + r.val then f s else ⊥) :=
    Finset.sum_congr rfl fun s hs => by
      rw [Finset.mem_range] at hs
      rw [if_pos (by omega)]
  have e2 : ∑ s : Fin 1024, G (1024 * n + s) (if s.val ≤ r.val then f (1024 * n + s) else ⊥)
      = ∑ s : Fin 1024, G (1024 * n + s) (if 1024 * n + s.val ≤ 1024 * n + r.val then f (1024 * n + s) else ⊥) :=
    Finset.sum_congr rfl fun s _ => by simp only [Nat.add_le_add_iff_left]
  rw [e1, e2, ← sum_block (fun s => G s (if s ≤ 1024 * n + r.val then f s else ⊥)) n,
    ← Finset.sum_range (fun s => G s (if s ≤ 1024 * n + r.val then f s else ⊥))]
  refine Finset.sum_subset (fun s hs => ?_) fun s _ hs => ?_
  · rw [Finset.mem_range] at hs ⊢; omega
  · rw [Finset.mem_range] at hs
    rw [if_neg (by omega), hG]

theorem weight_bot (M : EReal) : Ideal.exp (⊥ - M) = 0 := by
  rw [show (⊥ : EReal) - M = ⊥ from EReal.bot_sub _]; simp

variable (c : Dev nD) (t : Fin grid0.N) (arg3 : Memref sig .tc .vmem S1024x256 .bf16) (harg3 : arg3.IsWhole) (arg4 : Memref sig .tc .vmem S1024x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S128x256 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1024x256 .bf16) (harg11 : arg11.IsWhole) (arg12 : Memref sig .tc .vmem S8x128 .f32) (harg12 : arg12.IsWhole)
variable (x3 : Vec Ideal S1024x256 .bf16) (x4 : Vec Ideal S1024x256 .bf16) (x5 : Vec Ideal S4096x256 .bf16) (x6 : Vec Ideal S4096x256 .bf16) (x7 : Vec Ideal S4096x256 .bf16) (x8 : Vec Ideal S128x256 .bf16) (x9 : Vec Ideal S128x256 .bf16) (x10 : Vec Ideal S128x256 .bf16) (v69 v83 : Vec Ideal S1x1 .f32) (mb0 mb1 : FVec Ideal S1024x128 .f32)
  (r : Fin 1024)

/-- The scores a query row is weighed by: the memory rows, then the keys, −∞ after the query. -/
def xs (o : ℕ) : Fin 128 ⊕ Fin 4096 → EReal :=
  Sum.elim (fun s => score x3 x4 x8 x9 o r s) (fun s => if s.val ≤ 1024 * (t.val % 4) + r.val then score x3 x4 x5 x6 o r s else ⊥)
/-- The values beside them. -/
def vs (o : ℕ) (j : Fin 128) : Fin 128 ⊕ Fin 4096 → EReal :=
  Sum.elim (fun s => at2 x10 s (o + j)) (fun s => at2 x7 s (o + j))

theorem ac10_eq : (ac10 c (grid0.coords t) arg3 harg3 arg4 harg4 arg5 harg5 arg6 harg6 arg7 harg7 arg8 harg8 arg9 harg9 arg10 harg10 arg11 harg11 arg12 harg12 x3 x4 x5 x6 x7 x8 x9 x10 mb0 mb1) = (ac7 c (grid0.coords t) arg3 harg3 arg4 harg4 arg5 harg5 arg6 harg6 arg7 harg7 arg8 harg8 arg9 harg9 arg10 harg10 arg11 harg11 arg12 harg12 x3 x4 x5 x6 x7 x8 x9 x10 mb0 mb1) := by
  unfold ac10; rw [trips10 t, st_k0_t10_zero]
  unfold ac9; rw [trips9 t, st_k0_t9_zero]
  unfold ac8; rw [trips8 t, st_k0_t8_zero]
theorem ex6_eq : (ex6 c (grid0.coords t) arg3 harg3 arg4 harg4 arg5 harg5 arg6 harg6 arg7 harg7 arg8 harg8 arg9 harg9 arg10 harg10 arg11 harg11 arg12 harg12 x3 x4 x5 x6 x8 x9) = (ex3 c (grid0.coords t) arg3 harg3 arg4 harg4 arg5 harg5 arg6 harg6 arg7 harg7 arg8 harg8 arg9 harg9 arg10 harg10 arg11 harg11 arg12 harg12 x3 x4 x5 x6 x8 x9) := by
  unfold ex6; rw [trips6 t, st_k0_t6_zero]
  unfold ex5; rw [trips5 t, st_k0_t5_zero]
  unfold ex4; rw [trips4 t, st_k0_t4_zero]

theorem qa0_left (d : Fin 128) : (qa0 arg3 harg3 arg4 harg4 x3 x4) (ix2 r ⟨d.val, by omega⟩) = at2 x3 r (0 + d) := by
  refine Eq.trans ?_ (ld_at arg3 harg3 x3 ![0, 0] inb_S1024x256_S1024x128_0_0 r d |>.trans (by simp))
  unfold qa0; pointwise [k0_pay129]
theorem qa0_right (d : Fin 128) : (qa0 arg3 harg3 arg4 harg4 x3 x4) (ix2 r ⟨128 + d.val, by omega⟩) = at2 x4 r (0 + d) := by
  refine Eq.trans ?_ (ld_at arg4 harg4 x4 ![0, 0] inb_S1024x256_S1024x128_0_0 r d |>.trans (by simp))
  unfold qa0; pointwise [k0_pay129]
theorem keyN0_eq (s : ℕ) : keyN (qa0 arg3 harg3 arg4 harg4 x3 x4) x5 x6 0 r s = score x3 x4 x5 x6 0 r s := by
  unfold keyN score
  simp only [qa0_left, qa0_right]
theorem sm0_at (s : Fin 128) : (sm0 arg3 harg3 arg4 harg4 arg8 harg8 arg9 harg9 x3 x4 x8 x9) (ix2 r s) = score x3 x4 x8 x9 0 r s := by
  unfold sm0 score; rw [pay132_at]; unfold mat
  simp only [qa0_left, qa0_right]
  refine congrArg₂ (· + ·) (Finset.sum_congr rfl fun d _ => congrArg (_ * ·) ?_) (Finset.sum_congr rfl fun d _ => congrArg (_ * ·) ?_)
  · exact ld_at arg8 harg8 x8 ![0, 0] inb_S128x256_S128x128_0_0 s d |>.trans (by simp)
  · exact ld_at arg9 harg9 x9 ![0, 0] inb_S128x256_S128x128_0_0 s d |>.trans (by simp)
theorem vm0_at (s j : Fin 128) : (View.readAt (Elt Ideal) arg10.view (Rect.unit (s := S128x256) ![0, 0] S128x128.size inb_S128x256_S128x128_0_0).toLoadRect (harg10.unread x10)) (ix2 s j) = at2 x10 s (0 + j) :=
  ld_at arg10 harg10 x10 ![0, 0] inb_S128x256_S128x128_0_0 s j |>.trans (by simp)

theorem qa1_left (d : Fin 128) : (qa1 arg3 harg3 arg4 harg4 x3 x4) (ix2 r ⟨d.val, by omega⟩) = at2 x3 r (128 + d) := by
  refine Eq.trans ?_ (ld_at arg3 harg3 x3 ![0, 128] inb_S1024x256_S1024x128_0_128 r d |>.trans (by simp))
  unfold qa1; pointwise [k0_pay130]
theorem qa1_right (d : Fin 128) : (qa1 arg3 harg3 arg4 harg4 x3 x4) (ix2 r ⟨128 + d.val, by omega⟩) = at2 x4 r (128 + d) := by
  refine Eq.trans ?_ (ld_at arg4 harg4 x4 ![0, 128] inb_S1024x256_S1024x128_0_128 r d |>.trans (by simp))
  unfold qa1; pointwise [k0_pay130]
theorem keyN1_eq (s : ℕ) : keyN (qa1 arg3 harg3 arg4 harg4 x3 x4) x5 x6 128 r s = score x3 x4 x5 x6 128 r s := by
  unfold keyN score
  simp only [qa1_left, qa1_right]
theorem sm1_at (s : Fin 128) : (sm1 arg3 harg3 arg4 harg4 arg8 harg8 arg9 harg9 x3 x4 x8 x9) (ix2 r s) = score x3 x4 x8 x9 128 r s := by
  unfold sm1 score; rw [pay133_at]; unfold mat
  simp only [qa1_left, qa1_right]
  refine congrArg₂ (· + ·) (Finset.sum_congr rfl fun d _ => congrArg (_ * ·) ?_) (Finset.sum_congr rfl fun d _ => congrArg (_ * ·) ?_)
  · exact ld_at arg8 harg8 x8 ![0, 128] inb_S128x256_S128x128_0_128 s d |>.trans (by simp)
  · exact ld_at arg9 harg9 x9 ![0, 128] inb_S128x256_S128x128_0_128 s d |>.trans (by simp)
theorem vm1_at (s j : Fin 128) : (View.readAt (Elt Ideal) arg10.view (Rect.unit (s := S128x256) ![0, 128] S128x128.size inb_S128x256_S128x128_0_128).toLoadRect (harg10.unread x10)) (ix2 s j) = at2 x10 s (128 + j) :=
  ld_at arg10 harg10 x10 ![0, 128] inb_S128x256_S128x128_0_128 s j |>.trans (by simp)

/-- Head 0's half of the output block. -/
theorem out0_at (M0 M1 : EReal) (h0 : ∀ l : Fin 128, mb0 (ix2 r l) = M0) (h1 : ∀ l : Fin 128, mb1 (ix2 r l) = M1) (j : Fin 128) :
    out0 c (grid0.coords t) arg3 harg3 arg4 harg4 arg5 harg5 arg6 harg6 arg7 harg7 arg8 harg8 arg9 harg9 arg10 harg10 arg11 harg11 arg12 harg12 x3 x4 x5 x6 x7 x8 x9 x10 mb0 mb1 (ix2 r j)
      = mean Finset.univ (xs t x3 x4 x5 x6 x8 x9 r 0) (vs x7 x10 0 j) M0 := by
  have ht : t.val % 4 < 4 := Nat.mod_lt _ (by norm_num)
  obtain ⟨o0, o1⟩ := off21 t
  unfold out0
  rw [pay166_at _ mb0 M0 _ _ r h0, ac10_eq]
  unfold ac7
  rw [trips7 t]
  obtain ⟨i1, i2, i3, i4⟩ := acc_after c t arg3 harg3 arg4 harg4 arg5 harg5 arg6 harg6 arg7 harg7 arg8 harg8 arg9 harg9 arg10 harg10 arg11 harg11 arg12 harg12 x5 x6 x7 (w2 (grid0.coords t)) (qa0 arg3 harg3 arg4 harg4 x3 x4) (qa1 arg3 harg3 arg4 harg4 x3 x4) (w27 (grid0.coords t)) (w47 (grid0.coords t)) mb0 mb1
    (k0_pay142 (sm0 arg3 harg3 arg4 harg4 arg8 harg8 arg9 harg9 x3 x4 x8 x9) mb0) (k0_pay143 (sm0 arg3 harg3 arg4 harg4 arg8 harg8 arg9 harg9 x3 x4 x8 x9) mb0 (View.readAt (Elt Ideal) arg10.view (Rect.unit (s := S128x256) ![0, 0] S128x128.size inb_S128x256_S128x128_0_0).toLoadRect (harg10.unread x10)))
    (k0_pay144 (View.readAt (Elt Ideal) arg10.view (Rect.unit (s := S128x256) ![0, 128] S128x128.size inb_S128x256_S128x128_0_128).toLoadRect (harg10.unread x10))) (k0_pay145 (sm1 arg3 harg3 arg4 harg4 arg8 harg8 arg9 harg9 x3 x4 x8 x9) mb1) (k0_pay146 (sm1 arg3 harg3 arg4 harg4 arg8 harg8 arg9 harg9 x3 x4 x8 x9) mb1) zeros
    (k0_pay143 (sm0 arg3 harg3 arg4 harg4 arg8 harg8 arg9 harg9 x3 x4 x8 x9) mb0 (View.readAt (Elt Ideal) arg10.view (Rect.unit (s := S128x256) ![0, 0] S128x128.size inb_S128x256_S128x128_0_0).toLoadRect (harg10.unread x10)), k0_pay142 (sm0 arg3 harg3 arg4 harg4 arg8 harg8 arg9 harg9 x3 x4 x8 x9) mb0,
      k0_pay147 (k0_pay144 (View.readAt (Elt Ideal) arg10.view (Rect.unit (s := S128x256) ![0, 128] S128x128.size inb_S128x256_S128x128_0_128).toLoadRect (harg10.unread x10))) (k0_pay146 (sm1 arg3 harg3 arg4 harg4 arg8 harg8 arg9 harg9 x3 x4 x8 x9) mb1) zeros, k0_pay145 (sm1 arg3 harg3 arg4 harg4 arg8 harg8 arg9 harg9 x3 x4 x8 x9) mb1)
    r M0 M1 h0 h1 (t.val % 4) (trips7 t).ge j
  rw [i1, i2]
  simp only [pay143_at, pay142_at, h0, sm0_at, keyN0_eq]
  have hd : ∀ s : Fin 1024, diag (qa0 arg3 harg3 arg4 harg4 x3 x4) (View.readAt (Elt Ideal) arg5.view (Rect.unit (s := S4096x256) (k0_off21 (grid0.coords t)) S1024x128.size (k0_off21_inb (grid0.coords t))).toLoadRect (harg5.unread x5)) (View.readAt (Elt Ideal) arg6.view (Rect.unit (s := S4096x256) (k0_off21 (grid0.coords t)) S1024x128.size (k0_off21_inb (grid0.coords t))).toLoadRect (harg6.unread x6)) r s
      = if s.val ≤ r.val then score x3 x4 x5 x6 0 r (1024 * (t.val % 4) + s) else ⊥ := fun s => by
    unfold diag
    rw [load_mat arg5 harg5 arg6 harg6 x5 x6 _ _ _ _ _ o0 o1, keyN0_eq]
  have hv : ∀ s : Fin 1024, (View.readAt (Elt Ideal) arg7.view (Rect.unit (s := S4096x256) (k0_off21 (grid0.coords t)) S1024x128.size (k0_off21_inb (grid0.coords t))).toLoadRect (harg7.unread x7)) (ix2 s j) = at2 x7 (1024 * (t.val % 4) + s) (0 + j) := fun s => by
    have := ld_at arg7 harg7 x7 (k0_off21 (grid0.coords t)) (k0_off21_inb (grid0.coords t)) s j
    rw [o0, o1] at this
    exact this
  simp only [hd, hv]
  rw [add_assoc, add_assoc,
    all_keys (fun s x => Ideal.exp (x - M0) * at2 x7 s (0 + j)) (fun s => by rw [weight_bot, zero_mul]) (score x3 x4 x5 x6 0 r) _ ht r,
    all_keys (fun s x => Ideal.exp (x - M0)) (fun s => weight_bot _) (score x3 x4 x5 x6 0 r) _ ht r]
  unfold mean xs vs
  simp only [Fintype.sum_sum_type, Sum.elim_inl, Sum.elim_inr]
  exact congrArg₂ Ideal.div (congrArg (· + _) (Finset.sum_congr rfl fun s _ => congrArg (_ * ·) (vm0_at arg10 harg10 x10 s j))) rfl

/-- Head 1's half of the output block. -/
theorem out1_at (M0 M1 : EReal) (h0 : ∀ l : Fin 128, mb0 (ix2 r l) = M0) (h1 : ∀ l : Fin 128, mb1 (ix2 r l) = M1) (j : Fin 128) :
    out1 c (grid0.coords t) arg3 harg3 arg4 harg4 arg5 harg5 arg6 harg6 arg7 harg7 arg8 harg8 arg9 harg9 arg10 harg10 arg11 harg11 arg12 harg12 x3 x4 x5 x6 x7 x8 x9 x10 mb0 mb1 (ix2 r j)
      = mean Finset.univ (xs t x3 x4 x5 x6 x8 x9 r 128) (vs x7 x10 128 j) M1 := by
  have ht : t.val % 4 < 4 := Nat.mod_lt _ (by norm_num)
  obtain ⟨o0, o1⟩ := off22 t
  unfold out1
  rw [pay1_at _ mb1 M1 _ _ r h1, ac10_eq]
  unfold ac7
  rw [trips7 t]
  obtain ⟨i1, i2, i3, i4⟩ := acc_after c t arg3 harg3 arg4 harg4 arg5 harg5 arg6 harg6 arg7 harg7 arg8 harg8 arg9 harg9 arg10 harg10 arg11 harg11 arg12 harg12 x5 x6 x7 (w2 (grid0.coords t)) (qa0 arg3 harg3 arg4 harg4 x3 x4) (qa1 arg3 harg3 arg4 harg4 x3 x4) (w27 (grid0.coords t)) (w47 (grid0.coords t)) mb0 mb1
    (k0_pay142 (sm0 arg3 harg3 arg4 harg4 arg8 harg8 arg9 harg9 x3 x4 x8 x9) mb0) (k0_pay143 (sm0 arg3 harg3 arg4 harg4 arg8 harg8 arg9 harg9 x3 x4 x8 x9) mb0 (View.readAt (Elt Ideal) arg10.view (Rect.unit (s := S128x256) ![0, 0] S128x128.size inb_S128x256_S128x128_0_0).toLoadRect (harg10.unread x10)))
    (k0_pay144 (View.readAt (Elt Ideal) arg10.view (Rect.unit (s := S128x256) ![0, 128] S128x128.size inb_S128x256_S128x128_0_128).toLoadRect (harg10.unread x10))) (k0_pay145 (sm1 arg3 harg3 arg4 harg4 arg8 harg8 arg9 harg9 x3 x4 x8 x9) mb1) (k0_pay146 (sm1 arg3 harg3 arg4 harg4 arg8 harg8 arg9 harg9 x3 x4 x8 x9) mb1) zeros
    (k0_pay143 (sm0 arg3 harg3 arg4 harg4 arg8 harg8 arg9 harg9 x3 x4 x8 x9) mb0 (View.readAt (Elt Ideal) arg10.view (Rect.unit (s := S128x256) ![0, 0] S128x128.size inb_S128x256_S128x128_0_0).toLoadRect (harg10.unread x10)), k0_pay142 (sm0 arg3 harg3 arg4 harg4 arg8 harg8 arg9 harg9 x3 x4 x8 x9) mb0,
      k0_pay147 (k0_pay144 (View.readAt (Elt Ideal) arg10.view (Rect.unit (s := S128x256) ![0, 128] S128x128.size inb_S128x256_S128x128_0_128).toLoadRect (harg10.unread x10))) (k0_pay146 (sm1 arg3 harg3 arg4 harg4 arg8 harg8 arg9 harg9 x3 x4 x8 x9) mb1) zeros, k0_pay145 (sm1 arg3 harg3 arg4 harg4 arg8 harg8 arg9 harg9 x3 x4 x8 x9) mb1)
    r M0 M1 h0 h1 (t.val % 4) (trips7 t).ge j
  rw [i3, i4]
  simp only [pay147_at, pay145_at, h1, sm1_at, keyN1_eq]
  have hd : ∀ s : Fin 1024, diag (qa1 arg3 harg3 arg4 harg4 x3 x4) (View.readAt (Elt Ideal) arg5.view (Rect.unit (s := S4096x256) (k0_off22 (grid0.coords t)) S1024x128.size (k0_off22_inb (grid0.coords t))).toLoadRect (harg5.unread x5)) (View.readAt (Elt Ideal) arg6.view (Rect.unit (s := S4096x256) (k0_off22 (grid0.coords t)) S1024x128.size (k0_off22_inb (grid0.coords t))).toLoadRect (harg6.unread x6)) r s
      = if s.val ≤ r.val then score x3 x4 x5 x6 128 r (1024 * (t.val % 4) + s) else ⊥ := fun s => by
    unfold diag
    rw [load_mat arg5 harg5 arg6 harg6 x5 x6 _ _ _ _ _ o0 o1, keyN1_eq]
  have hv : ∀ s : Fin 1024, (View.readAt (Elt Ideal) arg7.view (Rect.unit (s := S4096x256) (k0_off22 (grid0.coords t)) S1024x128.size (k0_off22_inb (grid0.coords t))).toLoadRect (harg7.unread x7)) (ix2 s j) = at2 x7 (1024 * (t.val % 4) + s) (128 + j) := fun s => by
    have := ld_at arg7 harg7 x7 (k0_off22 (grid0.coords t)) (k0_off22_inb (grid0.coords t)) s j
    rw [o0, o1] at this
    exact this
  simp only [hd, hv]
  rw [add_assoc, add_assoc,
    all_keys (fun s x => Ideal.exp (x - M1) * at2 x7 s (128 + j)) (fun s => by rw [weight_bot, zero_mul]) (score x3 x4 x5 x6 128 r) _ ht r,
    all_keys (fun s x => Ideal.exp (x - M1)) (fun s => weight_bot _) (score x3 x4 x5 x6 128 r) _ ht r]
  unfold mean xs vs
  simp only [Fintype.sum_sum_type, Sum.elim_inl, Sum.elim_inr]
  exact congrArg₂ Ideal.div (congrArg (· + _) (Finset.sum_congr rfl fun s _ => congrArg (_ * ·) (vm1_at arg10 harg10 x10 s j))) rfl

section chosen

variable (hq : ∀ d : Fin 256, Fine (x3 (ix2 r d))) (hw0 : Pos0 (v69 (ix2 0 0))) (hw1 : Pos0 (v83 (ix2 0 0)))
  (hm0 : ∀ s : Fin 128, score x3 x4 x8 x9 0 r s < ⊤) (hm1 : ∀ s : Fin 128, score x3 x4 x8 x9 128 r s < ⊤)
  (hz0 : ⊥ < score x3 x4 x8 x9 0 r (0 : Fin 128)) (hz1 : ⊥ < score x3 x4 x8 x9 128 r (0 : Fin 128))
  (hk0 : ∀ s : ℕ, score x3 x4 x5 x6 0 r s < ⊤) (hk1 : ∀ s : ℕ, score x3 x4 x5 x6 128 r s < ⊤)

include hm0 hm1 hz0 hz1 hk0 hk1

theorem ex3_row (l : Fin 128) :
    ((sm0 arg3 harg3 arg4 harg4 arg8 harg8 arg9 harg9 x3 x4 x8 x9) (ix2 r l) ≤ (ex3 c (grid0.coords t) arg3 harg3 arg4 harg4 arg5 harg5 arg6 harg6 arg7 harg7 arg8 harg8 arg9 harg9 arg10 harg10 arg11 harg11 arg12 harg12 x3 x4 x5 x6 x8 x9).1 (ix2 r l) ∧ (ex3 c (grid0.coords t) arg3 harg3 arg4 harg4 arg5 harg5 arg6 harg6 arg7 harg7 arg8 harg8 arg9 harg9 arg10 harg10 arg11 harg11 arg12 harg12 x3 x4 x5 x6 x8 x9).1 (ix2 r l) < ⊤)
    ∧ ((sm1 arg3 harg3 arg4 harg4 arg8 harg8 arg9 harg9 x3 x4 x8 x9) (ix2 r l) ≤ (ex3 c (grid0.coords t) arg3 harg3 arg4 harg4 arg5 harg5 arg6 harg6 arg7 harg7 arg8 harg8 arg9 harg9 arg10 harg10 arg11 harg11 arg12 harg12 x3 x4 x5 x6 x8 x9).2 (ix2 r l) ∧ (ex3 c (grid0.coords t) arg3 harg3 arg4 harg4 arg5 harg5 arg6 harg6 arg7 harg7 arg8 harg8 arg9 harg9 arg10 harg10 arg11 harg11 arg12 harg12 x3 x4 x5 x6 x8 x9).2 (ix2 r l) < ⊤) := by
  unfold ex3
  rw [trips3 t]
  refine max_after c t arg3 harg3 arg4 harg4 arg5 harg5 arg6 harg6 arg7 harg7 arg8 harg8 arg9 harg9 arg10 harg10 arg11 harg11 arg12 harg12 x5 x6 (w2 (grid0.coords t)) (qa0 arg3 harg3 arg4 harg4 x3 x4) (qa1 arg3 harg3 arg4 harg4 x3 x4) (w27 (grid0.coords t)) (w47 (grid0.coords t)) (sm0 arg3 harg3 arg4 harg4 arg8 harg8 arg9 harg9 x3 x4 x8 x9) (sm1 arg3 harg3 arg4 harg4 arg8 harg8 arg9 harg9 x3 x4 x8 x9) ((sm0 arg3 harg3 arg4 harg4 arg8 harg8 arg9 harg9 x3 x4 x8 x9), (sm1 arg3 harg3 arg4 harg4 arg8 harg8 arg9 harg9 x3 x4 x8 x9)) r
    (fun s => ?_) (fun s => ?_) (fun l => ⟨?_, ?_⟩) (t.val % 4) (trips3 t).ge l
  · rw [keyN0_eq]; exact hk0 s
  · rw [keyN1_eq]; exact hk1 s
  · exact (sm0_at arg3 harg3 arg4 harg4 arg8 harg8 arg9 harg9 x3 x4 x8 x9 r l).trans_lt (hm0 l)
  · exact (sm1_at arg3 harg3 arg4 harg4 arg8 harg8 arg9 harg9 x3 x4 x8 x9 r l).trans_lt (hm1 l)

theorem exact0_row : ∃ M : ℝ, ∀ l : Fin 128, exact0 c (grid0.coords t) arg3 harg3 arg4 harg4 arg5 harg5 arg6 harg6 arg7 harg7 arg8 harg8 arg9 harg9 arg10 harg10 arg11 harg11 arg12 harg12 x3 x4 x5 x6 x8 x9 (ix2 r l) = (M : EReal) := by
  have hrow := ex3_row c t arg3 harg3 arg4 harg4 arg5 harg5 arg6 harg6 arg7 harg7 arg8 harg8 arg9 harg9 arg10 harg10 arg11 harg11 arg12 harg12 x3 x4 x5 x6 x8 x9 r hm0 hm1 hz0 hz1 hk0 hk1
  obtain ⟨o0, o1⟩ := off11 t
  have hb : ⊥ < (ex3 c (grid0.coords t) arg3 harg3 arg4 harg4 arg5 harg5 arg6 harg6 arg7 harg7 arg8 harg8 arg9 harg9 arg10 harg10 arg11 harg11 arg12 harg12 x3 x4 x5 x6 x8 x9).1 (ix2 r (0 : Fin 128)) := lt_of_lt_of_le (by rw [sm0_at]; exact hz0) (hrow 0).1.1
  have hk : ∀ s, mat (qa0 arg3 harg3 arg4 harg4 x3 x4) (View.readAt (Elt Ideal) arg5.view (Rect.unit (s := S4096x256) (k0_off11 (grid0.coords t)) S1024x128.size (k0_off11_inb (grid0.coords t))).toLoadRect (harg5.unread x5)) (View.readAt (Elt Ideal) arg6.view (Rect.unit (s := S4096x256) (k0_off11 (grid0.coords t)) S1024x128.size (k0_off11_inb (grid0.coords t))).toLoadRect (harg6.unread x6)) r s < ⊤ := fun s => by
    rw [load_mat arg5 harg5 arg6 harg6 x5 x6 _ _ _ _ _ o0 o1, keyN0_eq]; exact hk0 _
  unfold exact0
  rw [ex6_eq]
  exact exact0_fine _ _ _ _ r hk (fun l => (hrow l).1.2) (0 : Fin 128) hb

theorem exact1_row : ∃ M : ℝ, ∀ l : Fin 128, exact1 c (grid0.coords t) arg3 harg3 arg4 harg4 arg5 harg5 arg6 harg6 arg7 harg7 arg8 harg8 arg9 harg9 arg10 harg10 arg11 harg11 arg12 harg12 x3 x4 x5 x6 x8 x9 (ix2 r l) = (M : EReal) := by
  have hrow := ex3_row c t arg3 harg3 arg4 harg4 arg5 harg5 arg6 harg6 arg7 harg7 arg8 harg8 arg9 harg9 arg10 harg10 arg11 harg11 arg12 harg12 x3 x4 x5 x6 x8 x9 r hm0 hm1 hz0 hz1 hk0 hk1
  obtain ⟨o0, o1⟩ := off12 t
  have hb : ⊥ < (ex3 c (grid0.coords t) arg3 harg3 arg4 harg4 arg5 harg5 arg6 harg6 arg7 harg7 arg8 harg8 arg9 harg9 arg10 harg10 arg11 harg11 arg12 harg12 x3 x4 x5 x6 x8 x9).2 (ix2 r (0 : Fin 128)) := lt_of_lt_of_le (by rw [sm1_at]; exact hz1) (hrow 0).2.1
  have hk : ∀ s, mat (qa1 arg3 harg3 arg4 harg4 x3 x4) (View.readAt (Elt Ideal) arg5.view (Rect.unit (s := S4096x256) (k0_off12 (grid0.coords t)) S1024x128.size (k0_off12_inb (grid0.coords t))).toLoadRect (harg5.unread x5)) (View.readAt (Elt Ideal) arg6.view (Rect.unit (s := S4096x256) (k0_off12 (grid0.coords t)) S1024x128.size (k0_off12_inb (grid0.coords t))).toLoadRect (harg6.unread x6)) r s < ⊤ := fun s => by
    rw [load_mat arg5 harg5 arg6 harg6 x5 x6 _ _ _ _ _ o0 o1, keyN1_eq]; exact hk1 _
  unfold exact1
  rw [ex6_eq]
  exact exact1_fine _ _ _ _ r hk (fun l => (hrow l).2.2) (0 : Fin 128) hb

include hq hw0 hw1

/-- The numbers the two heads' rows are shifted by are real. -/
theorem chosen_fine :
    (∃ M : ℝ, ∀ l : Fin 128, (chosen c (grid0.coords t) arg3 harg3 arg4 harg4 arg5 harg5 arg6 harg6 arg7 harg7 arg8 harg8 arg9 harg9 arg10 harg10 arg11 harg11 arg12 harg12 x3 x4 x5 x6 x8 x9 v69 v83).1 (ix2 r l) = (M : EReal))
    ∧ (∃ M : ℝ, ∀ l : Fin 128, (chosen c (grid0.coords t) arg3 harg3 arg4 harg4 arg5 harg5 arg6 harg6 arg7 harg7 arg8 harg8 arg9 harg9 arg10 harg10 arg11 harg11 arg12 harg12 x3 x4 x5 x6 x8 x9 v69 v83).2 (ix2 r l) = (M : EReal)) := by
  unfold chosen
  split
  · refine ⟨?_, ?_⟩
    · unfold bound0 norm0
      refine bound0_fine _ r v69 (fun d => ?_) hw0
      rw [ld_at arg3 harg3 x3 ![0, 0] inb_S1024x256_S1024x128_0_0 r d]
      simp only [Matrix.cons_val_zero, Matrix.cons_val_one, Nat.zero_add]
      rw [← at2_eq x3 r ⟨d.val, by omega⟩]; exact hq _
    · unfold bound1
      refine bound1_fine _ r v83 (fun d => ?_) hw1
      rw [ld_at arg3 harg3 x3 ![0, 128] inb_S1024x256_S1024x128_0_128 r d]
      simp only [Matrix.cons_val_zero, Matrix.cons_val_one, Nat.zero_add]
      rw [← at2_eq x3 r ⟨128 + d.val, by omega⟩]; exact hq _
  · dsimp only
    exact ⟨exact0_row c t arg3 harg3 arg4 harg4 arg5 harg5 arg6 harg6 arg7 harg7 arg8 harg8 arg9 harg9 arg10 harg10 arg11 harg11 arg12 harg12 x3 x4 x5 x6 x8 x9 r hm0 hm1 hz0 hz1 hk0 hk1, exact1_row c t arg3 harg3 arg4 harg4 arg5 harg5 arg6 harg6 arg7 harg7 arg8 harg8 arg9 harg9 arg10 harg10 arg11 harg11 arg12 harg12 x3 x4 x5 x6 x8 x9 r hm0 hm1 hz0 hz1 hk0 hk1⟩

end chosen

end Cert.Attn
end
-- ==== Proof.Cells.lean ====
module

public import proofs.«01_k».proof.Proof.Point
public import proofs.«01_k».proof.Proof.Frame

/-
The scratch's two entries, the largest squared key norms of the two heads: real and not negative once the keys are real.
-/
@[expose] public section
set_option maxRecDepth 16384
noncomputable section
namespace Cert.Attn
open Idealize.ShloMosaic
open Cert.KernelIdeal Cert.KernelIdeal.Gen Cert.KernelIdeal.Body

theorem at2_fine {n m : ℕ} (x : (⟨2, ![n, m]⟩ : Shape).Idx → EReal) (h : ∀ a b, Fine (x (ix2 a b))) (a b : ℕ) : Fine (at2 x a b) := by
  unfold at2
  split
  · exact h _ _
  · exact Fine.zero

section loops

variable (c : Dev nD) (i : grid0.Coords) (arg3 : Memref sig .tc .vmem S1024x256 .bf16) (harg3 : arg3.IsWhole) (arg4 : Memref sig .tc .vmem S1024x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S128x256 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S1024x256 .bf16) (harg11 : arg11.IsWhole) (arg12 : Memref sig .tc .vmem S8x128 .f32) (harg12 : arg12.IsWhole)
  (hc0 : k0_cond1 i = 1#1) (x5 : Vec Ideal S4096x256 .bf16) (x8 : Vec Ideal S128x256 .bf16)
  (hk : ∀ a b, Fine (x5 (ix2 a b))) (hm : ∀ a b, Fine (x8 (ix2 a b)))

theorem trip1_eq (k : Fin k0_t1_loop.trips) (acc : FVec Ideal S1024x1 .f32) :
    tripR_k0_t1 (F := Ideal) Variants.none c none i arg3 harg3 arg4 harg4 arg5 harg5 arg6 harg6 arg7 harg7 arg8 harg8 arg9 harg9 arg10 harg10 arg11 harg11 arg12 harg12 hc0 (harg5.unread x5) k acc
      = k0_pay3 acc (View.readAt (Elt Ideal) arg5.view (Rect.unit (s := S4096x256) (k0_off1 k) S1024x128.size (k0_off1_inb i k hc0)).toLoadRect (harg5.unread x5)) := by
  unfold tripR_k0_t1 trip_k0_t1; rfl

include hk in
theorem norms1 (init : FVec Ideal S1024x1 .f32) (h : ∀ r, Pos0 (init (ix2 r 0))) (n : ℕ) (hn : n ≤ k0_t1_loop.trips) (r : Fin 1024) :
    Pos0 (st_k0_t1 (F := Ideal) Variants.none c none i arg3 harg3 arg4 harg4 arg5 harg5 arg6 harg6 arg7 harg7 arg8 harg8 arg9 harg9 arg10 harg10 arg11 harg11 arg12 harg12 hc0 (harg5.unread x5) init n (ix2 r 0)) := by
  induction n generalizing r with
  | zero => rw [st_k0_t1_zero]; exact h r
  | succ n ih =>
    obtain ⟨k, rfl⟩ : ∃ k : Fin k0_t1_loop.trips, k.val = n := ⟨⟨n, hn⟩, rfl⟩
    rw [st_k0_t1_succ Variants.none c none i arg3 harg3 arg4 harg4 arg5 harg5 arg6 harg6 arg7 harg7 arg8 harg8 arg9 harg9 arg10 harg10 arg11 harg11 arg12 harg12 hc0 (harg5.unread x5) init k, trip1_eq]
    refine pay3_pos _ _ _ (fun r => ih (Nat.le_of_lt hn) r) fun r d => ?_
    have e := ld_at arg5 harg5 x5 (k0_off1 k) (k0_off1_inb i k hc0) r d
    exact e ▸ at2_fine x5 hk _ _

theorem trip2_eq (k : Fin k0_t2_loop.trips) (acc : FVec Ideal S1024x1 .f32) :
    tripR_k0_t2 (F := Ideal) Variants.none c none i arg3 harg3 arg4 harg4 arg5 harg5 arg6 harg6 arg7 harg7 arg8 harg8 arg9 harg9 arg10 harg10 arg11 harg11 arg12 harg12 hc0 (harg5.unread x5) k acc
      = k0_pay6 acc (View.readAt (Elt Ideal) arg5.view (Rect.unit (s := S4096x256) (k0_off2 k) S1024x128.size (k0_off2_inb i k hc0)).toLoadRect (harg5.unread x5)) := by
  unfold tripR_k0_t2 trip_k0_t2; rfl

include hk in
theorem norms2 (init : FVec Ideal S1024x1 .f32) (h : ∀ r, Pos0 (init (ix2 r 0))) (n : ℕ) (hn : n ≤ k0_t2_loop.trips) (r : Fin 1024) :
    Pos0 (st_k0_t2 (F := Ideal) Variants.none c none i arg3 harg3 arg4 harg4 arg5 harg5 arg6 harg6 arg7 harg7 arg8 harg8 arg9 harg9 arg10 harg10 arg11 harg11 arg12 harg12 hc0 (harg5.unread x5) init n (ix2 r 0)) := by
  induction n generalizing r with
  | zero => rw [st_k0_t2_zero]; exact h r
  | succ n ih =>
    obtain ⟨k, rfl⟩ : ∃ k : Fin k0_t2_loop.trips, k.val = n := ⟨⟨n, hn⟩, rfl⟩
    rw [st_k0_t2_succ Variants.none c none i arg3 harg3 arg4 harg4 arg5 harg5 arg6 harg6 arg7 harg7 arg8 harg8 arg9 harg9 arg10 harg10 arg11 harg11 arg12 harg12 hc0 (harg5.unread x5) init k, trip2_eq]
    refine pay6_pos _ _ _ (fun r => ih (Nat.le_of_lt hn) r) fun r d => ?_
    have e := ld_at arg5 harg5 x5 (k0_off2 k) (k0_off2_inb i k hc0) r d
    exact e ▸ at2_fine x5 hk _ _

include hk hm in
theorem key0_pos : Pos0 (key0 c i arg3 harg3 arg4 harg4 arg5 harg5 arg6 harg6 arg7 harg7 arg8 harg8 arg9 harg9 arg10 harg10 arg11 harg11 arg12 harg12 hc0 x5 x8 (ix2 0 0)) := by
  unfold key0
  refine pay4_pos _ _ _ (fun r => norms1 c i arg3 harg3 arg4 harg4 arg5 harg5 arg6 harg6 arg7 harg7 arg8 harg8 arg9 harg9 arg10 harg10 arg11 harg11 arg12 harg12 hc0 x5 hk _ (fun r => pay2_pos r) _ le_rfl r) fun r d => ?_
  have e := ld_at arg8 harg8 x8 ![0, 0] inb_S128x256_S128x128_0_0 r d
  exact e ▸ at2_fine x8 hm _ _

include hk hm in
theorem key1_pos : Pos0 (key1 c i arg3 harg3 arg4 harg4 arg5 harg5 arg6 harg6 arg7 harg7 arg8 harg8 arg9 harg9 arg10 harg10 arg11 harg11 arg12 harg12 hc0 x5 x8 (ix2 0 0)) := by
  unfold key1
  refine pay131_pos _ _ _ (fun r => norms2 c i arg3 harg3 arg4 harg4 arg5 harg5 arg6 harg6 arg7 harg7 arg8 harg8 arg9 harg9 arg10 harg10 arg11 harg11 arg12 harg12 hc0 x5 hk _ (fun r => pay5_pos r) _ le_rfl r) fun r d => ?_
  have e := ld_at arg8 harg8 x8 ![0, 128] inb_S128x256_S128x128_0_128 r d
  exact e ▸ at2_fine x8 hm _ _

end loops

theorem rows_read (k0 k1 : FVec Ideal S1x128 .f32) (L : List (View.Piece (Elt Ideal) S8x128 .f32))
    (hL : L = [⟨Rect.unit ![1, 0] S1x128.size inb_S8x128_S1x128_1_0, k1⟩, ⟨Rect.unit ![0, 0] S1x128.size inb_S8x128_S1x128_0_0, k0⟩]) :
    scM.view.readCov L (Rect.unit (s := S8x128) ![0, 0] S1x1.size inb_S8x128_S1x1_0_0).toLoadRect (ix2 0 0) = k0 (ix2 0 0)
    ∧ scM.view.readCov L (Rect.unit (s := S8x128) ![1, 0] S1x1.size inb_S8x128_S1x1_1_0).toLoadRect (ix2 0 0) = k1 (ix2 0 0) := by
  subst hL
  refine ⟨?_, ?_⟩
  · refine (congrFun (View.readCov_eq_canon' scM.view _ (Rect.unit (s := S8x128) ![0, 0] S1x1.size inb_S8x128_S1x1_0_0).toLoadRect) (ix2 0 0)).trans ?_
    refine (View.canon_cons_of_not_mem _ _ ?_).trans ?_
    · rw [Rect.mem_set_unit]; intro h; exact absurd (h 0).1 (by decide)
    · exact View.canon_cons_emb (Val := Elt Ideal) (e := .f32) (Rect.unit (s := S8x128) ![0, 0] S1x128.size inb_S8x128_S1x128_0_0) k0 [] (ix2 0 0)
  · refine (congrFun (View.readCov_eq_canon' scM.view _ (Rect.unit (s := S8x128) ![1, 0] S1x1.size inb_S8x128_S1x1_1_0).toLoadRect) (ix2 0 0)).trans ?_
    exact View.canon_cons_emb (Val := Elt Ideal) (e := .f32) (Rect.unit (s := S8x128) ![1, 0] S1x128.size inb_S8x128_S1x128_1_0) k1 [⟨Rect.unit ![0, 0] S1x128.size inb_S8x128_S1x128_0_0, k0⟩] (ix2 0 0)

variable (m : (ℓ : Loc nD τ sig) → Buf (Elt Ideal) ℓ)

theorem cellsNew_pos (c : Dev nD) (t : Fin cfg0.N) (h : k0_cond1 (grid0.coords t) = 1#1)
    (hk : ∀ a b, Fine ((iblk m c 2 t : Vec Ideal S4096x256 .bf16) (ix2 a b))) (hm : ∀ a b, Fine ((iblk m c 5 t : Vec Ideal S128x256 .bf16) (ix2 a b))) :
    Pos0 ((cellsNew m c t h).1 (ix2 0 0)) ∧ Pos0 ((cellsNew m c t h).2 (ix2 0 0)) := by
  unfold cellsNew
  dsimp only
  have hr := rows_read _ _ _ (@keyPieces.eq_1 Ideal _ _ c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h (iblk m c 2 t) (iblk m c 5 t))
  rw [hr.1, hr.2]
  exact ⟨key0_pos c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h _ _ hk hm, key1_pos c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h _ _ hk hm⟩

/-- The scratch's entries at every point. -/
theorem cellsAt_pos (c : Dev nD) (hk : ∀ t a b, Fine ((iblk m c 2 t : Vec Ideal S4096x256 .bf16) (ix2 a b)))
    (hm : ∀ t a b, Fine ((iblk m c 5 t : Vec Ideal S128x256 .bf16) (ix2 a b))) (n : ℕ) (hn : n < cfg0.N) :
    Pos0 ((cellsAt m c n hn).1 (ix2 0 0)) ∧ Pos0 ((cellsAt m c n hn).2 (ix2 0 0)) := by
  induction n with
  | zero => exact cellsNew_pos m c _ _ (hk _) (hm _)
  | succ n ih =>
    unfold cellsAt
    split
    · exact cellsNew_pos m c _ _ (hk _) (hm _)
    · exact ih _

end Cert.Attn
end
-- ==== Proof.AtPoint.lean ====
module

public import proofs.«01_k».proof.Proof.Cells

/-
The output block a grid point leaves, from the blocks it reads: each row and column of a head is the softmax-weighted
sum of the head's values, the scores being real or −∞.
-/
@[expose] public section
set_option maxRecDepth 16384
noncomputable section
namespace Cert.Attn
open Idealize.ShloMosaic
open Cert.KernelIdeal Cert.KernelIdeal.Gen Cert.KernelIdeal.Body

variable (m : (ℓ : Loc nD τ sig) → Buf (Elt Ideal) ℓ) (c : Dev nD) (t : Fin cfg0.N) (r : Fin 1024)

/-- The scores at a point: the memory rows' and the keys'. -/
def memAt (o s : ℕ) : EReal := score (iblk m c 0 t) (iblk m c 1 t) (n := 128) (iblk m c 5 t) (iblk m c 6 t) o r s
def keyAt (o s : ℕ) : EReal := score (iblk m c 0 t) (iblk m c 1 t) (n := 4096) (iblk m c 2 t) (iblk m c 3 t) o r s

/-- What is asked of the blocks: real queries and keys, real scores, the memory rows past the sixteenth at −∞. -/
structure Good : Prop where
  q : ∀ t r d, Fine ((iblk m c 0 t : Vec Ideal S1024x256 .bf16) (ix2 r d))
  k : ∀ t a b, Fine ((iblk m c 2 t : Vec Ideal S4096x256 .bf16) (ix2 a b))
  km : ∀ t a b, Fine ((iblk m c 5 t : Vec Ideal S128x256 .bf16) (ix2 a b))
  mem : ∀ t r o s, o = 0 ∨ o = 128 → s < 16 → Fine (memAt m c t r o s)
  pad : ∀ t r o s, o = 0 ∨ o = 128 → 16 ≤ s → s < 128 → memAt m c t r o s = ⊥
  key : ∀ t r o s, o = 0 ∨ o = 128 → s < 4096 → Fine (keyAt m c t r o s)

variable {m c} (hg : Good m c)
include hg

theorem Good.mem_lt (o s : ℕ) (ho : o = 0 ∨ o = 128) (hs : s < 128) : memAt m c t r o s < ⊤ := by
  rcases Nat.lt_or_ge s 16 with h | h
  · exact (hg.mem t r o s ho h).lt_top
  · rw [hg.pad t r o s ho h hs]; exact bot_lt_top

theorem Good.key_lt (o s : ℕ) (ho : o = 0 ∨ o = 128) : keyAt m c t r o s < ⊤ := by
  rcases Nat.lt_or_ge s 4096 with h | h
  · exact (hg.key t r o s ho h).lt_top
  · have e : ∀ (x : Vec Ideal S4096x256 .bf16) b, at2 x s b = 0 := fun x b => by
      unfold at2; rw [dif_neg]; omega
    unfold keyAt score
    simp only [e, mul_zero, Finset.sum_const_zero, add_zero]
    exact Fine.zero.lt_top

set_option maxHeartbeats 2000000 in
/-- The numbers the rows are shifted by. -/
theorem Good.shift :
    (∃ M : ℝ, ∀ l : Fin 128, (mbAt m c t (cellsAt m c t.val t.isLt)).1 (ix2 r l) = (M : EReal))
    ∧ (∃ M : ℝ, ∀ l : Fin 128, (mbAt m c t (cellsAt m c t.val t.isLt)).2 (ix2 r l) = (M : EReal)) := by
  obtain ⟨w0, w1⟩ := cellsAt_pos m c hg.k hg.km t.val t.isLt
  unfold mbAt
  generalize cellsAt m c t.val t.isLt = w at w0 w1 ⊢
  have a0 : ∀ s : Fin 128, score (iblk m c 0 t) (iblk m c 1 t) (n := 128) (iblk m c 5 t) (iblk m c 6 t) 0 r s < ⊤ := fun s => hg.mem_lt t r 0 s (.inl rfl) s.isLt
  have a1 : ∀ s : Fin 128, score (iblk m c 0 t) (iblk m c 1 t) (n := 128) (iblk m c 5 t) (iblk m c 6 t) 128 r s < ⊤ := fun s => hg.mem_lt t r 128 s (.inr rfl) s.isLt
  have b0 : ⊥ < score (iblk m c 0 t) (iblk m c 1 t) (n := 128) (iblk m c 5 t) (iblk m c 6 t) 0 r (0 : Fin 128) := (hg.mem t r 0 0 (.inl rfl) (by norm_num)).bot_lt
  have b1 : ⊥ < score (iblk m c 0 t) (iblk m c 1 t) (n := 128) (iblk m c 5 t) (iblk m c 6 t) 128 r (0 : Fin 128) := (hg.mem t r 128 0 (.inr rfl) (by norm_num)).bot_lt
  have c0 : ∀ s : ℕ, score (iblk m c 0 t) (iblk m c 1 t) (n := 4096) (iblk m c 2 t) (iblk m c 3 t) 0 r s < ⊤ := fun s => hg.key_lt t r 0 s (.inl rfl)
  have c1 : ∀ s : ℕ, score (iblk m c 0 t) (iblk m c 1 t) (n := 4096) (iblk m c 2 t) (iblk m c 3 t) 128 r s < ⊤ := fun s => hg.key_lt t r 128 s (.inr rfl)
  exact chosen_fine c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (iblk m c 0 t) (iblk m c 1 t) (iblk m c 2 t) (iblk m c 3 t) (iblk m c 5 t) (iblk m c 6 t) w.1 w.2 r (hg.q t r) w0 w1 a0 a1 b0 b1 c0 c1

omit hg in
theorem pieces_left (y0 y1 : FVec Ideal S1024x128 .bf16) (L : List (View.Piece (Elt Ideal) S1024x256 .bf16))
    (hL : L = [⟨Rect.unit ![0, 128] ![1024, 128] inb_S1024x256_S1024x128_0_128, y1⟩,
      ⟨Rect.unit ![0, 0] S1024x128.size inb_S1024x256_S1024x128_0_0, y0⟩]) (j : Fin 128) :
    View.canon L (ix2 r ⟨j.val, by omega⟩) = y0 (ix2 r j) ∧ View.canon L (ix2 r ⟨128 + j.val, by omega⟩) = y1 (ix2 r j) := by
  subst hL
  refine ⟨?_, ?_⟩
  · refine (View.canon_cons_of_not_mem _ _ ?_).trans ?_
    · rw [Rect.mem_set_unit]; intro h
      have := (h 1).1
      simp at this; omega
    · refine Eq.trans (congrArg _ ?_) (View.canon_cons_emb (Val := Elt Ideal) (e := .bf16) (Rect.unit (s := S1024x256) ![0, 0] S1024x128.size inb_S1024x256_S1024x128_0_0) y0 [] (ix2 r j))
      funext a; apply Fin.ext; fin_cases a <;> simp [Rect.emb_apply]
  · refine Eq.trans (congrArg _ ?_) (View.canon_cons_emb (Val := Elt Ideal) (e := .bf16) (Rect.unit (s := S1024x256) ![0, 128] ![1024, 128] inb_S1024x256_S1024x128_0_128) y1 [⟨Rect.unit ![0, 0] S1024x128.size inb_S1024x256_S1024x128_0_0, y0⟩] (ix2 r j))
    funext a; apply Fin.ext; fin_cases a <;> simp [Rect.emb_apply]

theorem Good.xs_ne (o : ℕ) (ho : o = 0 ∨ o = 128) (i) : xs t (iblk m c 0 t) (iblk m c 1 t) (iblk m c 2 t) (iblk m c 3 t) (iblk m c 5 t) (iblk m c 6 t) r o i ≠ ⊤ := by
  rcases i with s | s
  · exact (hg.mem_lt t r o s ho s.isLt).ne
  · show (if _ then _ else _) ≠ _
    split
    · exact (hg.key_lt t r o s ho).ne
    · exact bot_ne_top

theorem Good.xs_real (o : ℕ) (ho : o = 0 ∨ o = 128) : ∃ i ∈ Finset.univ, ∃ a : ℝ, xs t (iblk m c 0 t) (iblk m c 1 t) (iblk m c 2 t) (iblk m c 3 t) (iblk m c 5 t) (iblk m c 6 t) r o i = a :=
  ⟨.inl 0, Finset.mem_univ _, hg.mem t r o 0 ho (by norm_num)⟩

/-- Head 0's half of the block. -/
theorem Good.out0 (j : Fin 128) :
    outAt m c t (ix2 r ⟨j.val, by omega⟩) = softmax Finset.univ (xs t (iblk m c 0 t) (iblk m c 1 t) (iblk m c 2 t) (iblk m c 3 t) (iblk m c 5 t) (iblk m c 6 t) r 0) (vs (iblk m c 4 t) (iblk m c 7 t) 0 j) := by
  obtain ⟨⟨M0, h0⟩, ⟨M1, h1⟩⟩ := hg.shift t r
  have hp := pieces_left r _ _ _ (@outPieces.eq_1 Ideal _ _ c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (iblk m c 0 t) (iblk m c 1 t) (iblk m c 2 t) (iblk m c 3 t) (iblk m c 4 t) (iblk m c 5 t) (iblk m c 6 t) (iblk m c 7 t) (mbAt m c t (cellsAt m c t.val t.isLt)).1 (mbAt m c t (cellsAt m c t.val t.isLt)).2) j
  refine (hp.1).trans ?_
  rw [out0_at c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (iblk m c 0 t) (iblk m c 1 t) (iblk m c 2 t) (iblk m c 3 t) (iblk m c 4 t) (iblk m c 5 t) (iblk m c 6 t) (iblk m c 7 t) _ _ r M0 M1 h0 h1 j]
  exact mean_eq (fun i _ => hg.xs_ne t r 0 (.inl rfl) i) (hg.xs_real t r 0 (.inl rfl)) M0

/-- Head 1's half of the block. -/
theorem Good.out1 (j : Fin 128) :
    outAt m c t (ix2 r ⟨128 + j.val, by omega⟩) = softmax Finset.univ (xs t (iblk m c 0 t) (iblk m c 1 t) (iblk m c 2 t) (iblk m c 3 t) (iblk m c 5 t) (iblk m c 6 t) r 128) (vs (iblk m c 4 t) (iblk m c 7 t) 128 j) := by
  obtain ⟨⟨M0, h0⟩, ⟨M1, h1⟩⟩ := hg.shift t r
  have hp := pieces_left r _ _ _ (@outPieces.eq_1 Ideal _ _ c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (iblk m c 0 t) (iblk m c 1 t) (iblk m c 2 t) (iblk m c 3 t) (iblk m c 4 t) (iblk m c 5 t) (iblk m c 6 t) (iblk m c 7 t) (mbAt m c t (cellsAt m c t.val t.isLt)).1 (mbAt m c t (cellsAt m c t.val t.isLt)).2) j
  refine (hp.2).trans ?_
  rw [out1_at c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (iblk m c 0 t) (iblk m c 1 t) (iblk m c 2 t) (iblk m c 3 t) (iblk m c 4 t) (iblk m c 5 t) (iblk m c 6 t) (iblk m c 7 t) _ _ r M0 M1 h0 h1 j]
  exact mean_eq (fun i _ => hg.xs_ne t r 128 (.inr rfl) i) (hg.xs_real t r 128 (.inr rfl)) M1

end Cert.Attn
end
-- ==== Proof.Host.lean ====
module

public import proofs.«01_k».proof.Proof.AtPoint
public import Idealize.ShloMosaic.Lib.StableHlo.ReadAt

/-
The arrays the attention call is given, over the extended reals, from the program's arguments.
-/
@[expose] public section
set_option maxRecDepth 16384
noncomputable section
namespace Cert.Attn
open Idealize.ShloMosaic
open Cert.KernelIdeal Cert.KernelIdeal.Gen Cert.KernelIdeal.Body

variable (m : (ℓ : Loc nD τ sig) → Buf (Elt Ideal) ℓ) (c : Dev nD)

/-- The arguments by their coordinates. -/
def argQ (n : Fin 16384) (d : Fin 2048) : EReal := (m (c.tc.loc main_arg0) : Vec Ideal S16384x2048 .f32) (ix2 n d)
def argK (n : Fin 16384) (d : Fin 2048) : EReal := (m (c.tc.loc main_arg1) : Vec Ideal S16384x2048 .f32) (ix2 n d)
def argV (n : Fin 16384) (d : Fin 2048) : EReal := (m (c.tc.loc main_arg2) : Vec Ideal S16384x2048 .f32) (ix2 n d)
def argC (n : Fin 16384) (h : Fin 16) : EReal := (m (c.tc.loc main_arg3) : Vec Ideal S16384x16 .f32) (ix2 n h)
def argKm (n : Fin 16) (d : Fin 2048) : EReal := (m (c.tc.loc main_arg4) : Vec Ideal S16x2048 .f32) (ix2 n d)
def argVm (n : Fin 16) (d : Fin 2048) : EReal := (m (c.tc.loc main_arg5) : Vec Ideal S16x2048 .f32) (ix2 n d)
def argCm (n : Fin 16) (h : Fin 16) : EReal := (m (c.tc.loc main_arg6) : Vec Ideal S16x16 .f32) (ix2 n h)

theorem V63_at (n : Fin 16384) (d : Fin 2048) : (V m c main_v63 : Vec Ideal S16384x2048 .bf16) (ix2 n d) = argV m c n d := by
  unfold V argV
  after_reads_at

theorem V4_left (n : Fin 16384) (d : Fin 2048) : (V m c main_v4 : Vec Ideal S16384x4096 .bf16) (ix2 n ⟨d.val, by omega⟩) = argQ m c n d * Ideal.ofBits .f32 0x3DB504F3#32 := by
  unfold V argQ
  after_reads_at
theorem V4_right (n : Fin 16384) (d : Fin 2048) : (V m c main_v4 : Vec Ideal S16384x4096 .bf16) (ix2 n ⟨2048 + d.val, by omega⟩) = argK m c n d := by
  unfold V argK
  after_reads_at

theorem V60_at (n : Fin 128) (d : Fin 2048) : (V m c main_v60 : Vec Ideal S128x2048 .bf16) (ix2 n d) = if h : n.val < 16 then argKm m c ⟨n, h⟩ d else (0 : EReal) := by
  unfold V argKm
  after_reads_at
  rw [show (FloatOps.sitofp FTy.bf16 0#32 : Ideal .bf16) = (0 : EReal) by simp [FloatOps.sitofp]]
theorem V62_at (n : Fin 128) (d : Fin 2048) : (V m c main_v62 : Vec Ideal S128x2048 .bf16) (ix2 n d) = if h : n.val < 16 then argVm m c ⟨n, h⟩ d else (0 : EReal) := by
  unfold V argVm
  after_reads_at
  rw [show (FloatOps.sitofp FTy.bf16 0#32 : Ideal .bf16) = (0 : EReal) by simp [FloatOps.sitofp]]

/-- The feature lanes beside a query whose cumulative log forget gate is `x`. -/
def qFeat (x : EReal) (l : ℕ) : EReal := if l = 0 then x else if l < 3 then 0 else if l < 6 then 1 else 0
/-- The feature lanes beside a key whose cumulative log forget gate is `x`. -/
def kFeat (x : EReal) (l : ℕ) : EReal := if l < 3 then 1 else if l = 3 then -x else 0

theorem sub_self_fine {x : EReal} (h : Fine x) : x - x = 0 := by
  obtain ⟨r, rfl⟩ := h
  rw [← EReal.coe_sub, sub_self, EReal.coe_zero]

theorem pad_word : ∀ x : Fin 2048, (IntOp.cmpi CmpIPredicate.eq (Scalar.select (IntOp.andi (IntOp.cmpi CmpIPredicate.ne (IntOp.cmpi CmpIPredicate.slt (IntOp.remsi ArithUnit.host (BitVec.ofNat 32 x.val) (Scalar.select (IntOp.cmpi CmpIPredicate.eq 128#32 0#32) (1#32) 128#32)) 0#32) (IntOp.cmpi CmpIPredicate.slt (Scalar.select (IntOp.cmpi CmpIPredicate.eq 128#32 0#32) (1#32) 128#32) 0#32)) (IntOp.cmpi CmpIPredicate.ne (IntOp.remsi ArithUnit.host (BitVec.ofNat 32 x.val) (Scalar.select (IntOp.cmpi CmpIPredicate.eq 128#32 0#32) (1#32) 128#32)) 0#32)) (IntOp.addi (IntOp.remsi ArithUnit.host (BitVec.ofNat 32 x.val) (Scalar.select (IntOp.cmpi CmpIPredicate.eq 128#32 0#32) (1#32) 128#32)) (Scalar.select (IntOp.cmpi CmpIPredicate.eq 128#32 0#32) (1#32) 128#32)) (IntOp.remsi ArithUnit.host (BitVec.ofNat 32 x.val) (Scalar.select (IntOp.cmpi CmpIPredicate.eq 128#32 0#32) (1#32) 128#32))) 3#32) = if x.val % 128 = 3 then 1#1 else 0#1 := by decide +kernel

theorem V19_at (n : Fin 16384) (h : Fin 16) (l : Fin 128) (hc : Fine (argC m c n h)) :
    (V m c main_v19 : Vec Ideal S16384x2048 .bf16) (ix2 n ⟨128 * h.val + l.val, by omega⟩) = qFeat (argC m c n h) l := by
  have e1 := sub_self_fine hc
  have e2 : argC m c n h - argC m c n h - (argC m c n h - argC m c n h) = 0 := by rw [e1, sub_zero]
  obtain ⟨l, hl⟩ := l
  have hl' : l = 0 ∨ l = 1 ∨ l = 2 ∨ l = 3 ∨ l = 4 ∨ l = 5 ∨ 6 ≤ l := by omega
  rcases hl' with rfl | rfl | rfl | rfl | rfl | rfl | h6
  · unfold V qFeat
    after_reads_at
    simp only [show 128 * h.val % 128 = 0 by omega]
    rw [dif_pos (show 0 < 3 by omega)]
    after_reads_at
    after_reads_at
    rfl
  · unfold V qFeat
    after_reads_at
    simp only [show (128 * h.val + 1) % 128 = 1 by omega]
    rw [dif_pos (show 1 < 3 by omega)]
    after_reads_at
    after_reads_at
    exact e1
  · unfold V qFeat
    after_reads_at
    simp only [show (128 * h.val + 2) % 128 = 2 by omega]
    rw [dif_pos (show 2 < 3 by omega)]
    after_reads_at
    after_reads_at
    exact e2
  · unfold V qFeat
    after_reads_at
    simp only [show (128 * h.val + 3) % 128 = 3 by omega]
    rw [dif_neg (show ¬ 3 < 3 by omega), dif_pos (show 3 - 3 < 3 by omega)]
    after_reads_at
  · unfold V qFeat
    after_reads_at
    simp only [show (128 * h.val + 4) % 128 = 4 by omega]
    rw [dif_neg (show ¬ 4 < 3 by omega), dif_pos (show 4 - 3 < 3 by omega)]
    after_reads_at
  · unfold V qFeat
    after_reads_at
    simp only [show (128 * h.val + 5) % 128 = 5 by omega]
    rw [dif_neg (show ¬ 5 < 3 by omega), dif_pos (show 5 - 3 < 3 by omega)]
    after_reads_at
  · unfold V qFeat
    after_reads_at
    simp only [show (128 * h.val + l) % 128 = l by omega]
    rw [dif_neg (show ¬ l < 3 by omega), dif_neg (show ¬ l - 3 < 3 by omega)]
    after_reads_at
    rw [if_neg (by omega), if_neg (by omega), if_neg (by omega)]

theorem V35_at (n : Fin 16384) (h : Fin 16) (l : Fin 128) (hc : Fine (argC m c n h)) :
    (V m c main_v35 : Vec Ideal S16384x2048 .bf16) (ix2 n ⟨128 * h.val + l.val, by omega⟩) = kFeat (argC m c n h) l := by
  have e1 := sub_self_fine hc
  have e2 : argC m c n h - argC m c n h - (argC m c n h - argC m c n h) = 0 := by rw [e1, sub_zero]
  obtain ⟨l, hl⟩ := l
  have hl' : l = 0 ∨ l = 1 ∨ l = 2 ∨ l = 3 ∨ l = 4 ∨ l = 5 ∨ 6 ≤ l := by omega
  rcases hl' with rfl | rfl | rfl | rfl | rfl | rfl | h6
  · unfold V kFeat
    after_reads_at
    simp only [show 128 * h.val % 128 = 0 by omega]
    rw [dif_pos (show 0 < 3 by omega)]
    after_reads_at
  · unfold V kFeat
    after_reads_at
    simp only [show (128 * h.val + 1) % 128 = 1 by omega]
    rw [dif_pos (show 1 < 3 by omega)]
    after_reads_at
  · unfold V kFeat
    after_reads_at
    simp only [show (128 * h.val + 2) % 128 = 2 by omega]
    rw [dif_pos (show 2 < 3 by omega)]
    after_reads_at
  · unfold V kFeat
    after_reads_at
    simp only [show (128 * h.val + 3) % 128 = 3 by omega]
    rw [dif_neg (show ¬ 3 < 3 by omega), dif_pos (show 3 - 3 < 3 by omega)]
    after_reads_at
    after_reads_at
    rfl
  · unfold V kFeat
    after_reads_at
    simp only [show (128 * h.val + 4) % 128 = 4 by omega]
    rw [dif_neg (show ¬ 4 < 3 by omega), dif_pos (show 4 - 3 < 3 by omega)]
    after_reads_at
    after_reads_at
    exact (congrArg (- ·) e1).trans neg_zero
  · unfold V kFeat
    after_reads_at
    simp only [show (128 * h.val + 5) % 128 = 5 by omega]
    rw [dif_neg (show ¬ 5 < 3 by omega), dif_pos (show 5 - 3 < 3 by omega)]
    after_reads_at
    after_reads_at
    exact (congrArg (- ·) e2).trans neg_zero
  · unfold V kFeat
    after_reads_at
    simp only [show (128 * h.val + l) % 128 = l by omega]
    rw [dif_neg (show ¬ l < 3 by omega), dif_neg (show ¬ l - 3 < 3 by omega)]
    after_reads_at
    rw [if_neg (by omega), if_neg (by omega)]

set_option maxHeartbeats 4000000 in
theorem V58_at (n : Fin 128) (h : Fin 16) (l : Fin 128) (hn : n.val < 16) (hc : Fine (argCm m c ⟨n, hn⟩ h)) :
    (V m c main_v58 : Vec Ideal S128x2048 .bf16) (ix2 n ⟨128 * h.val + l.val, by omega⟩) = kFeat (argCm m c ⟨n, hn⟩ h) l := by
  have e1 := sub_self_fine hc
  have e2 : argCm m c ⟨n, hn⟩ h - argCm m c ⟨n, hn⟩ h - (argCm m c ⟨n, hn⟩ h - argCm m c ⟨n, hn⟩ h) = 0 := by rw [e1, sub_zero]
  obtain ⟨l, hl⟩ := l
  have hl' : l = 0 ∨ l = 1 ∨ l = 2 ∨ l = 3 ∨ l = 4 ∨ l = 5 ∨ 6 ≤ l := by omega
  rcases hl' with rfl | rfl | rfl | rfl | rfl | rfl | h6
  · unfold V kFeat
    after_reads_at
    rw [dif_pos hn]
    simp only [show 128 * h.val % 128 = 0 by omega, show 128 * h.val / 128 = h.val by omega]
    rw [dif_pos (show 0 < 3 by omega)]
    after_reads_at
  · unfold V kFeat
    after_reads_at
    rw [dif_pos hn]
    simp only [show (128 * h.val + 1) % 128 = 1 by omega, show (128 * h.val + 1) / 128 = h.val by omega]
    rw [dif_pos (show 1 < 3 by omega)]
    after_reads_at
  · unfold V kFeat
    after_reads_at
    rw [dif_pos hn]
    simp only [show (128 * h.val + 2) % 128 = 2 by omega, show (128 * h.val + 2) / 128 = h.val by omega]
    rw [dif_pos (show 2 < 3 by omega)]
    after_reads_at
  · unfold V kFeat
    after_reads_at
    rw [dif_pos hn]
    simp only [show (128 * h.val + 3) % 128 = 3 by omega, show (128 * h.val + 3) / 128 = h.val by omega]
    rw [dif_neg (show ¬ 3 < 3 by omega), dif_pos (show 3 - 3 < 3 by omega)]
    after_reads_at
    after_reads_at
    rfl
  · unfold V kFeat
    after_reads_at
    rw [dif_pos hn]
    simp only [show (128 * h.val + 4) % 128 = 4 by omega, show (128 * h.val + 4) / 128 = h.val by omega]
    rw [dif_neg (show ¬ 4 < 3 by omega), dif_pos (show 4 - 3 < 3 by omega)]
    after_reads_at
    after_reads_at
    exact (congrArg (- ·) e1).trans neg_zero
  · unfold V kFeat
    after_reads_at
    rw [dif_pos hn]
    simp only [show (128 * h.val + 5) % 128 = 5 by omega, show (128 * h.val + 5) / 128 = h.val by omega]
    rw [dif_neg (show ¬ 5 < 3 by omega), dif_pos (show 5 - 3 < 3 by omega)]
    after_reads_at
    after_reads_at
    exact (congrArg (- ·) e2).trans neg_zero
  · unfold V kFeat
    after_reads_at
    rw [dif_pos hn]
    simp only [show (128 * h.val + l) % 128 = l by omega, show (128 * h.val + l) / 128 = h.val by omega]
    rw [dif_neg (show ¬ l < 3 by omega), dif_neg (show ¬ l - 3 < 3 by omega)]
    after_reads_at
    rw [if_neg (by omega), if_neg (by omega)]

theorem V58_pad (n : Fin 128) (d : Fin 2048) (hn : 16 ≤ n.val) :
    (V m c main_v58 : Vec Ideal S128x2048 .bf16) (ix2 n d) = if d.val % 128 = 3 then (⊥ : EReal) else 0 := by
  unfold V
  after_reads_at
  rw [dif_neg (by omega)]
  have e := pad_word d
  simp only [id, constantI]
  rw [e]
  split_ifs <;> simp [Scalar.select, neg_inf]

end Cert.Attn
end
-- ==== Proof.Blocks.lean ====
module

public import proofs.«01_k».proof.Proof.Host

/-
The blocks of the attention call at each point of the grid, read from the program's arguments.
-/
@[expose] public section
set_option maxRecDepth 16384
noncomputable section
namespace Cert.Attn
open Idealize.ShloMosaic
open Cert.KernelIdeal Cert.KernelIdeal.Gen Cert.KernelIdeal.Body

variable (m : (ℓ : Loc nD τ sig) → Buf (Elt Ideal) ℓ) (c : Dev nD)

/-- The batch, the pair of heads and the block of queries of each point, as the windows use them. -/
theorem idx_facts : ∀ t : Fin cfg0.N,
    win0_0.index t (0 : Fin 2) = t.val / 32 * 4 + t.val % 4 ∧ win0_0.index t (1 : Fin 2) = t.val / 4 % 8
    ∧ win0_1.index t (0 : Fin 2) = t.val / 32 * 4 + t.val % 4 ∧ win0_1.index t (1 : Fin 2) = t.val / 4 % 8
    ∧ win0_2.index t (0 : Fin 2) = t.val / 32 ∧ win0_2.index t (1 : Fin 2) = 8 + t.val / 4 % 8
    ∧ win0_3.index t (0 : Fin 2) = t.val / 32 ∧ win0_3.index t (1 : Fin 2) = t.val / 4 % 8
    ∧ win0_4.index t (0 : Fin 2) = t.val / 32 ∧ win0_4.index t (1 : Fin 2) = t.val / 4 % 8
    ∧ win0_5.index t (0 : Fin 2) = 0 ∧ win0_5.index t (1 : Fin 2) = t.val / 4 % 8
    ∧ win0_6.index t (0 : Fin 2) = 0 ∧ win0_6.index t (1 : Fin 2) = t.val / 4 % 8
    ∧ win0_7.index t (0 : Fin 2) = 0 ∧ win0_7.index t (1 : Fin 2) = t.val / 4 % 8
    ∧ win0_8.index t (0 : Fin 2) = t.val / 32 * 4 + t.val % 4 ∧ win0_8.index t (1 : Fin 2) = t.val / 4 % 8 :=
  (by decide +kernel : ∀ t : Fin grid0.N, _)

/-- The row of the arguments which row `a` of a point's block of queries is. -/
def qrow (t : Fin cfg0.N) (a : Fin 1024) : Fin 16384 :=
  ⟨(t.val / 32 * 4 + t.val % 4) * 1024 + a.val, by have := t.isLt; have : cfg0.N = 128 := rfl; omega⟩
/-- The row of the arguments which row `a` of a point's block of keys is. -/
def krow (t : Fin cfg0.N) (a : Fin 4096) : Fin 16384 :=
  ⟨t.val / 32 * 4096 + a.val, by have := t.isLt; have : cfg0.N = 128 := rfl; omega⟩
/-- The column of the arguments which column `b` of a point's blocks is. -/
def bcol (t : Fin cfg0.N) (b : Fin 256) : Fin 2048 := ⟨t.val / 4 % 8 * 256 + b.val, by omega⟩
/-- The head of the first or of the second half of a point's blocks. -/
def hd (t : Fin cfg0.N) (o : ℕ) : Fin 16 := ⟨(t.val / 4 % 8 * 2 + o / 128) % 16, by omega⟩

theorem bcol_hd (t : Fin cfg0.N) (o : ℕ) (ho : o = 0 ∨ o = 128) (l : Fin 128) (b : Fin 256) (hb : b.val = o + l.val) :
    bcol t b = ⟨128 * (hd t o).val + l.val, by have := (hd t o).isLt; omega⟩ := by
  apply Fin.ext
  show t.val / 4 % 8 * 256 + b.val = 128 * ((t.val / 4 % 8 * 2 + o / 128) % 16) + l.val
  rcases ho with rfl | rfl <;> omega

theorem blk0_at (t : Fin cfg0.N) (a : Fin 1024) (b : Fin 256) :
    (iblk m c 0 t : Vec Ideal S1024x256 .bf16) (ix2 a b) = (V m c main_v4 : Vec Ideal S16384x4096 .bf16) (ix2 (qrow t a) ⟨(bcol t b).val, by have := (bcol t b).isLt; omega⟩) := by
  obtain ⟨e0, e1, _⟩ := idx_facts t
  show (V m c main_v4 : Vec Ideal S16384x4096 .bf16) (((cfg0.win 0).blk t).view.emb (ix2 a b)) = _
  congr 1
  funext i; apply Fin.ext
  match i with
  | ⟨0, _⟩ => show win0_0.index t (0 : Fin 2) * 1024 + 1 * a.val = _; rw [e0, one_mul]; rfl
  | ⟨1, _⟩ => show win0_0.index t (1 : Fin 2) * 256 + 1 * b.val = _; rw [e1, one_mul]; rfl
theorem blk1_at (t : Fin cfg0.N) (a : Fin 1024) (b : Fin 256) :
    (iblk m c 1 t : Vec Ideal S1024x256 .bf16) (ix2 a b) = (V m c main_v19 : Vec Ideal S16384x2048 .bf16) (ix2 (qrow t a) (bcol t b)) := by
  obtain ⟨_, _, e0, e1, _⟩ := idx_facts t
  show (V m c main_v19 : Vec Ideal S16384x2048 .bf16) (((cfg0.win 1).blk t).view.emb (ix2 a b)) = _
  congr 1
  funext i; apply Fin.ext
  match i with
  | ⟨0, _⟩ => show win0_1.index t (0 : Fin 2) * 1024 + 1 * a.val = _; rw [e0, one_mul]; rfl
  | ⟨1, _⟩ => show win0_1.index t (1 : Fin 2) * 256 + 1 * b.val = _; rw [e1, one_mul]; rfl
theorem blk2_at (t : Fin cfg0.N) (a : Fin 4096) (b : Fin 256) :
    (iblk m c 2 t : Vec Ideal S4096x256 .bf16) (ix2 a b) = (V m c main_v4 : Vec Ideal S16384x4096 .bf16) (ix2 (krow t a) ⟨2048 + (bcol t b).val, by have := (bcol t b).isLt; omega⟩) := by
  obtain ⟨_, _, _, _, e0, e1, _⟩ := idx_facts t
  show (V m c main_v4 : Vec Ideal S16384x4096 .bf16) (((cfg0.win 2).blk t).view.emb (ix2 a b)) = _
  congr 1
  funext i; apply Fin.ext
  match i with
  | ⟨0, _⟩ => show win0_2.index t (0 : Fin 2) * 4096 + 1 * a.val = _; rw [e0, one_mul]; rfl
  | ⟨1, _⟩ => show win0_2.index t (1 : Fin 2) * 256 + 1 * b.val = _; rw [e1, one_mul]; show (8 + t.val / 4 % 8) * 256 + b.val = 2048 + (t.val / 4 % 8 * 256 + b.val); omega
theorem blk3_at (t : Fin cfg0.N) (a : Fin 4096) (b : Fin 256) :
    (iblk m c 3 t : Vec Ideal S4096x256 .bf16) (ix2 a b) = (V m c main_v35 : Vec Ideal S16384x2048 .bf16) (ix2 (krow t a) (bcol t b)) := by
  obtain ⟨_, _, _, _, _, _, e0, e1, _⟩ := idx_facts t
  show (V m c main_v35 : Vec Ideal S16384x2048 .bf16) (((cfg0.win 3).blk t).view.emb (ix2 a b)) = _
  congr 1
  funext i; apply Fin.ext
  match i with
  | ⟨0, _⟩ => show win0_3.index t (0 : Fin 2) * 4096 + 1 * a.val = _; rw [e0, one_mul]; rfl
  | ⟨1, _⟩ => show win0_3.index t (1 : Fin 2) * 256 + 1 * b.val = _; rw [e1, one_mul]; rfl
theorem blk4_at (t : Fin cfg0.N) (a : Fin 4096) (b : Fin 256) :
    (iblk m c 4 t : Vec Ideal S4096x256 .bf16) (ix2 a b) = (V m c main_v63 : Vec Ideal S16384x2048 .bf16) (ix2 (krow t a) (bcol t b)) := by
  obtain ⟨_, _, _, _, _, _, _, _, e0, e1, _⟩ := idx_facts t
  show (V m c main_v63 : Vec Ideal S16384x2048 .bf16) (((cfg0.win 4).blk t).view.emb (ix2 a b)) = _
  congr 1
  funext i; apply Fin.ext
  match i with
  | ⟨0, _⟩ => show win0_4.index t (0 : Fin 2) * 4096 + 1 * a.val = _; rw [e0, one_mul]; rfl
  | ⟨1, _⟩ => show win0_4.index t (1 : Fin 2) * 256 + 1 * b.val = _; rw [e1, one_mul]; rfl
theorem blk5_at (t : Fin cfg0.N) (a : Fin 128) (b : Fin 256) :
    (iblk m c 5 t : Vec Ideal S128x256 .bf16) (ix2 a b) = (V m c main_v60 : Vec Ideal S128x2048 .bf16) (ix2 (a) (bcol t b)) := by
  obtain ⟨_, _, _, _, _, _, _, _, _, _, e0, e1, _⟩ := idx_facts t
  show (V m c main_v60 : Vec Ideal S128x2048 .bf16) (((cfg0.win 5).blk t).view.emb (ix2 a b)) = _
  congr 1
  funext i; apply Fin.ext
  match i with
  | ⟨0, _⟩ => show win0_5.index t (0 : Fin 2) * 128 + 1 * a.val = _; rw [e0, one_mul, zero_mul, zero_add]; rfl
  | ⟨1, _⟩ => show win0_5.index t (1 : Fin 2) * 256 + 1 * b.val = _; rw [e1, one_mul]; rfl
theorem blk6_at (t : Fin cfg0.N) (a : Fin 128) (b : Fin 256) :
    (iblk m c 6 t : Vec Ideal S128x256 .bf16) (ix2 a b) = (V m c main_v58 : Vec Ideal S128x2048 .bf16) (ix2 (a) (bcol t b)) := by
  obtain ⟨_, _, _, _, _, _, _, _, _, _, _, _, e0, e1, _⟩ := idx_facts t
  show (V m c main_v58 : Vec Ideal S128x2048 .bf16) (((cfg0.win 6).blk t).view.emb (ix2 a b)) = _
  congr 1
  funext i; apply Fin.ext
  match i with
  | ⟨0, _⟩ => show win0_6.index t (0 : Fin 2) * 128 + 1 * a.val = _; rw [e0, one_mul, zero_mul, zero_add]; rfl
  | ⟨1, _⟩ => show win0_6.index t (1 : Fin 2) * 256 + 1 * b.val = _; rw [e1, one_mul]; rfl
theorem blk7_at (t : Fin cfg0.N) (a : Fin 128) (b : Fin 256) :
    (iblk m c 7 t : Vec Ideal S128x256 .bf16) (ix2 a b) = (V m c main_v62 : Vec Ideal S128x2048 .bf16) (ix2 (a) (bcol t b)) := by
  obtain ⟨_, _, _, _, _, _, _, _, _, _, _, _, _, _, e0, e1, _⟩ := idx_facts t
  show (V m c main_v62 : Vec Ideal S128x2048 .bf16) (((cfg0.win 7).blk t).view.emb (ix2 a b)) = _
  congr 1
  funext i; apply Fin.ext
  match i with
  | ⟨0, _⟩ => show win0_7.index t (0 : Fin 2) * 128 + 1 * a.val = _; rw [e0, one_mul, zero_mul, zero_add]; rfl
  | ⟨1, _⟩ => show win0_7.index t (1 : Fin 2) * 256 + 1 * b.val = _; rw [e1, one_mul]; rfl

theorem in0 (t : Fin cfg0.N) (a : Fin 1024) (b : Fin 256) :
    (iblk m c 0 t : Vec Ideal S1024x256 .bf16) (ix2 a b) = argQ m c (qrow t a) (bcol t b) * Ideal.ofBits .f32 0x3DB504F3#32 :=
  (blk0_at m c t a b).trans (V4_left m c _ _)
theorem in2 (t : Fin cfg0.N) (a : Fin 4096) (b : Fin 256) :
    (iblk m c 2 t : Vec Ideal S4096x256 .bf16) (ix2 a b) = argK m c (krow t a) (bcol t b) :=
  (blk2_at m c t a b).trans (V4_right m c _ _)
theorem in4 (t : Fin cfg0.N) (a : Fin 4096) (b : Fin 256) :
    (iblk m c 4 t : Vec Ideal S4096x256 .bf16) (ix2 a b) = argV m c (krow t a) (bcol t b) :=
  (blk4_at m c t a b).trans (V63_at m c _ _)
theorem in5 (t : Fin cfg0.N) (a : Fin 128) (b : Fin 256) :
    (iblk m c 5 t : Vec Ideal S128x256 .bf16) (ix2 a b) = if h : a.val < 16 then argKm m c ⟨a, h⟩ (bcol t b) else (0 : EReal) :=
  (blk5_at m c t a b).trans (V60_at m c _ _)
theorem in7 (t : Fin cfg0.N) (a : Fin 128) (b : Fin 256) :
    (iblk m c 7 t : Vec Ideal S128x256 .bf16) (ix2 a b) = if h : a.val < 16 then argVm m c ⟨a, h⟩ (bcol t b) else (0 : EReal) :=
  (blk7_at m c t a b).trans (V62_at m c _ _)
theorem in1 (t : Fin cfg0.N) (o : ℕ) (ho : o = 0 ∨ o = 128) (a : Fin 1024) (l : Fin 128) (hc : Fine (argC m c (qrow t a) (hd t o))) :
    (iblk m c 1 t : Vec Ideal S1024x256 .bf16) (ix2 a ⟨o + l.val, by omega⟩) = qFeat (argC m c (qrow t a) (hd t o)) l := by
  rw [blk1_at, bcol_hd t o ho l _ rfl]; exact V19_at m c _ _ l hc
theorem in3 (t : Fin cfg0.N) (o : ℕ) (ho : o = 0 ∨ o = 128) (a : Fin 4096) (l : Fin 128) (hc : Fine (argC m c (krow t a) (hd t o))) :
    (iblk m c 3 t : Vec Ideal S4096x256 .bf16) (ix2 a ⟨o + l.val, by omega⟩) = kFeat (argC m c (krow t a) (hd t o)) l := by
  rw [blk3_at, bcol_hd t o ho l _ rfl]; exact V35_at m c _ _ l hc
theorem in6 (t : Fin cfg0.N) (o : ℕ) (ho : o = 0 ∨ o = 128) (a : Fin 128) (ha : a.val < 16) (l : Fin 128) (hc : Fine (argCm m c ⟨a, ha⟩ (hd t o))) :
    (iblk m c 6 t : Vec Ideal S128x256 .bf16) (ix2 a ⟨o + l.val, by omega⟩) = kFeat (argCm m c ⟨a, ha⟩ (hd t o)) l := by
  rw [blk6_at, bcol_hd t o ho l _ rfl]; exact V58_at m c _ _ l ha hc
theorem in6_pad (t : Fin cfg0.N) (o : ℕ) (ho : o = 0 ∨ o = 128) (a : Fin 128) (ha : 16 ≤ a.val) (l : Fin 128) :
    (iblk m c 6 t : Vec Ideal S128x256 .bf16) (ix2 a ⟨o + l.val, by omega⟩) = if l.val = 3 then (⊥ : EReal) else 0 := by
  rw [blk6_at, bcol_hd t o ho l _ rfl, V58_pad m c _ _ ha]
  simp only [show (128 * (hd t o).val + l.val) % 128 = l.val by omega]

end Cert.Attn
end
-- ==== Proof.Ref.lean ====
module

public import proofs.«01_k».proof.Proof.Gen.ReferenceIdeal.Read
public import proofs.«01_k».proof.Proof.Softmax
public import proofs.«01_k».proof.Proof.Reals
public import Idealize.ShloMosaic.Lib.WordCmp

/-
The reference, read at an index: the softmax of its scores over the memory rows and the keys, times the values.
-/
@[expose] public section
noncomputable section
namespace Cert.AttnRef
open Idealize.ShloMosaic
open Cert.Attn Cert.ReferenceIdeal Cert.ReferenceIdeal.Read

variable (x0 x1 x2 : Vec Ideal S16384x2048 .f32) (x3 : Vec Ideal S16384x16 .f32) (x4 x5 : Vec Ideal S16x2048 .f32) (x6 : Vec Ideal S16x16 .f32)

/-- Memory rows, then a batch's own rows: the keys or the values of batch `b`. -/
def rows (b : Fin 4) (s : Fin 4112) (e : Fin 2048) : EReal :=
  if hs : s.val < 16 then x4 (ix2 ⟨s.val, hs⟩ e) else x1 (ix2 ⟨b.val * 4096 + (s.val - 16), by omega⟩ e)
/-- Their cumulative log forget gates. -/
def gates (b : Fin 4) (s : Fin 4112) (h : Fin 16) : EReal :=
  if hs : s.val < 16 then x6 (ix2 ⟨s.val, hs⟩ h) else x3 (ix2 ⟨b.val * 4096 + (s.val - 16), by omega⟩ h)
/-- Column `d` of head `h`. -/
def hcol (h : Fin 16) (d : Fin 128) : Fin 2048 := ⟨128 * h.val + d.val, by omega⟩
/-- The reference's score of a query and a key, before the mask. -/
def logit (b : Fin 4) (h : Fin 16) (r : Fin 4096) (s : Fin 4112) : EReal :=
  (∑ d : Fin 128, x0 (ix2 ⟨b.val * 4096 + r.val, by omega⟩ (hcol h d)) * rows x1 x4 b s (hcol h d)) * Ideal.ofBits .f32 0x3DB504F3#32
    + (gates x3 x6 b ⟨16 + r.val, by omega⟩ h - gates x3 x6 b s h)
/-- And after it. -/
def ys (b : Fin 4) (h : Fin 16) (r : Fin 4096) (s : Fin 4112) : EReal :=
  if s.val ≤ r.val + 16 then logit x0 x1 x3 x4 x6 b h r s else ⊥

theorem v0_at (b : Fin 4) (r : Fin 4096) (h : Fin 16) (d : Fin 128) :
    val_main_v0 x0 (ix4 b r h d) = x0 (ix2 ⟨b.val * 4096 + r.val, by omega⟩ (hcol h d)) := by
  unfold hcol
  pointwise [val_main_v0]
  simp only [Nat.mul_comm]

theorem v5_at (b : Fin 4) (s : Fin 4112) (h : Fin 16) (d : Fin 128) :
    val_main_v5 x1 x4 (ix4 b s h d) = rows x1 x4 b s (hcol h d) := by
  unfold rows hcol
  pointwise [val_main_v5, val_main_v4, val_main_v3, val_main_v2, val_main_v1]
  simp only [Nat.mul_comm]

theorem v10_at (b : Fin 4) (s : Fin 4112) (h : Fin 16) (d : Fin 128) :
    val_main_v10 x2 x5 (ix4 b s h d) = rows x2 x5 b s (hcol h d) := by
  unfold rows hcol
  pointwise [val_main_v10, val_main_v9, val_main_v8, val_main_v7, val_main_v6]
  simp only [Nat.mul_comm]

theorem v15_at (b : Fin 4) (s : Fin 4112) (h : Fin 16) :
    val_main_v15 x3 x6 (ix3 b h s) = gates x3 x6 b s h := by
  unfold gates
  pointwise [val_main_v15, val_main_v14, val_main_v13, val_main_v12, val_main_v11]

theorem v34_at (r : Fin 4096) (s : Fin 4112) :
    val_main_v34 (F := Ideal) (ix2 r s) = BitVec.ofBool (decide (s.val ≤ r.val + 16)) := by
  pointwise [val_main_v34, val_main_v33, val_main_v32, val_main_v31, val_main_v30, val_main_v29, val_main_v28, val_main_v27, val_main_v26, val_main_c]
  rw [show IntOp.addi (16#32) (BitVec.ofNat 32 r.val) = BitVec.ofNat 32 (r.val + 16) by
    unfold IntOp.addi; rw [Nat.add_comm r.val 16, BitVec.ofNat_add]]
  exact WordCmp.cmpi_sge_ofNat (by have := r.isLt; norm_num; omega) (by have := s.isLt; norm_num; omega)

theorem v35_at (b : Fin 4) (h : Fin 16) (r : Fin 4096) (s : Fin 4112) :
    val_main_v35 x0 x1 x3 x4 x6 (ix4 b h r s) = ys x0 x1 x3 x4 x6 b h r s := by
  rw [val_main_v35_apply, val_main_call0_v1_apply, val_main_call0_v2_apply, val_main_call0_v0_apply, val_main_cst_0_apply, val_main_v25_apply, val_main_v24_apply, val_main_v23_apply, val_main_v22_apply, val_main_v21_apply, val_main_v20_apply, val_main_v19_apply, val_main_v18_apply, val_main_v17_apply, val_main_v16_apply, val_main_cst_apply]
  rw [show idx_main_call0_v1 (ix4 b h r s) = ix2 r s from eq_ix2 _, v34_at,
    show idx_main_v19 (idx_main_v20 (idx_main_v22 (ix4 b h r s))) = ix3 b h ⟨16 + r.val, by omega⟩ from eq_ix3 _,
    show idx_main_v21 (idx_main_v23 (ix4 b h r s)) = ix3 b h s from eq_ix3 _, v15_at, v15_at]
  have e : ∀ k : Fin 128, val_main_v0 x0 (lidx_main_v16 (ix4 b h r s) k) * val_main_v5 x1 x4 (ridx_main_v16 (ix4 b h r s) k)
      = x0 (ix2 ⟨b.val * 4096 + r.val, by omega⟩ (hcol h k)) * rows x1 x4 b s (hcol h k) := fun k => by
    rw [show lidx_main_v16 (ix4 b h r s) k = ix4 b r h k from eq_ix4 _, show ridx_main_v16 (ix4 b h r s) k = ix4 b s h k from eq_ix4 _, v0_at, v5_at]
  unfold ys logit
  by_cases hm : s.val ≤ r.val + 16
  · rw [if_pos hm, decide_eq_true hm]
    show (∑ k, _) * _ + _ = _
    rw [Finset.sum_congr rfl fun k _ => e k]; rfl
  · rw [if_neg hm, decide_eq_false hm]
    exact neg_inf

theorem fold_at (y : FVec Ideal S4x16x4096x4112 .f32) (z : FVec Ideal S_ .f32) (b : Fin 4) (h : Fin 16) (r : Fin 4096) :
    Host.reduce FloatOps.maximumf y z Gen.reducesTo_S4x16x4096x4112_S4x16x4096_d3 Gen.h_S_ (ix3 b h r)
      = Finset.fold max (z (Shape.Idx.first Gen.h_S_)) (fun k : Fin 4112 => y (ix4 b h r k)) Finset.univ := by
  simp only [pointwise]

variable (h0 : ∀ i, Fine (x0 i)) (h1 : ∀ i, Fine (x1 i)) (h3 : ∀ i, Fine (x3 i)) (h4 : ∀ i, Fine (x4 i)) (h6 : ∀ i, Fine (x6 i))

include h0 h1 h3 h4 h6

theorem logit_fine (b : Fin 4) (h : Fin 16) (r : Fin 4096) (s : Fin 4112) : Fine (logit x0 x1 x3 x4 x6 b h r s) := by
  have hg : ∀ s, Fine (gates x3 x6 b s h) := fun s => by unfold gates; split_ifs; exacts [h6 _, h3 _]
  have hr : ∀ e, Fine (rows x1 x4 b s e) := fun e => by unfold rows; split_ifs; exacts [h4 _, h1 _]
  exact ((Fine.sum _ fun d => (h0 _).mul (hr _)).mul scale_fine).add ((hg _).sub (hg _))

theorem ys_ne (b : Fin 4) (h : Fin 16) (r : Fin 4096) (s : Fin 4112) : ys x0 x1 x3 x4 x6 b h r s < ⊤ := by
  unfold ys; split_ifs
  · exact (logit_fine x0 x1 x3 x4 x6 h0 h1 h3 h4 h6 b h r s).lt_top
  · exact bot_lt_top

theorem ys_zero (b : Fin 4) (h : Fin 16) (r : Fin 4096) : Fine (ys x0 x1 x3 x4 x6 b h r 0) := by
  unfold ys; rw [if_pos (show ((0 : Fin 4112)).val ≤ r.val + 16 from Nat.zero_le _)]
  exact logit_fine x0 x1 x3 x4 x6 h0 h1 h3 h4 h6 b h r 0

theorem v36_fine (b : Fin 4) (h : Fin 16) (r : Fin 4096) : Fine (val_main_v36 x0 x1 x3 x4 x6 (ix3 b h r)) := by
  unfold val_main_v36
  rw [fold_at, show val_main_cst_1 (F := Ideal) (Shape.Idx.first Gen.h_S_) = ⊥ from neg_inf]
  have e : ∀ s, val_main_v35 x0 x1 x3 x4 x6 (ix4 b h r s) < ⊤ := fun s => by
    rw [v35_at]; exact ys_ne x0 x1 x3 x4 x6 h0 h1 h3 h4 h6 b h r s
  exact fold_fine _ e 0 (by rw [v35_at]; exact (ys_zero x0 x1 x3 x4 x6 h0 h1 h3 h4 h6 b h r).bot_lt)

theorem v46_at (b : Fin 4) (h : Fin 16) (r : Fin 4096) (M : EReal) (hM : val_main_v36 x0 x1 x3 x4 x6 (ix3 b h r) = M) (s : Fin 4112) :
    val_main_v46 x0 x1 x3 x4 x6 (ix4 b h r s)
      = Ideal.div (Ideal.exp (ys x0 x1 x3 x4 x6 b h r s - M)) (∑ j : Fin 4112, Ideal.exp (ys x0 x1 x3 x4 x6 b h r j - M)) := by
  have e42 : ∀ j, val_main_v42 x0 x1 x3 x4 x6 (ix4 b h r j) = Ideal.exp (ys x0 x1 x3 x4 x6 b h r j - M) := fun j => by
    rw [val_main_v42_apply, val_main_v41_apply, val_main_v40_apply, val_main_v39_apply, val_main_v38_apply, val_main_v37_apply, val_main_cst_2_apply,
      show idx_main_v39 (idx_main_v40 (ix4 b h r j)) = ix3 b h r from eq_ix3 _, hM, v35_at]
    show Ideal.exp (_ - max (Ideal.ofBits .f32 0xFF800000#32) M) = _
    rw [neg_inf, max_eq_right bot_le]
  rw [val_main_v46_apply, val_main_v45_apply, val_main_v44_apply, val_main_v43_apply, val_main_cst_3_apply, e42]
  have e : ∀ k : Fin 4112, val_main_v42 x0 x1 x3 x4 x6 (idx_main_v43 (idx_main_v44 (idx_main_v45 (ix4 b h r s))) k) = Ideal.exp (ys x0 x1 x3 x4 x6 b h r k - M) := fun k => by
    rw [show idx_main_v43 (idx_main_v44 (idx_main_v45 (ix4 b h r s))) k = ix4 b h r k from eq_ix4 _, e42]
  show Ideal.div _ (Ideal.ofBits .f32 0#32 + ∑ k : Fin 4112, _) = _
  rw [Finset.sum_congr rfl fun k _ => e k, show Ideal.ofBits .f32 0#32 = 0 by simp [Ideal.ofBits, Ideal.ieee], zero_add]

theorem v50_at (b : Fin 4) (r : Fin 4096) (h : Fin 16) (d : Fin 128) (n : Fin 16384) (e : Fin 2048) (hn : n.val = b.val * 4096 + r.val) (he : e = hcol h d) :
    val_main_v50 x0 x1 x2 x3 x4 x5 x6 (ix2 n e) = softmax Finset.univ (ys x0 x1 x3 x4 x6 b h r) (fun s => rows x2 x5 b s e) := by
  obtain ⟨M, hM⟩ := v36_fine x0 x1 x3 x4 x6 h0 h1 h3 h4 h6 b h r
  rw [val_main_v50_apply, val_main_v49_apply, val_main_v48_apply, val_main_v47_apply,
    ← div_weight (fun s _ => (ys_ne x0 x1 x3 x4 x6 h0 h1 h3 h4 h6 b h r s).ne) ⟨0, Finset.mem_univ _, ys_zero x0 x1 x3 x4 x6 h0 h1 h3 h4 h6 b h r⟩ M]
  refine Finset.sum_congr rfl fun k _ => ?_
  have hi : idx_main_v48 (idx_main_v49 (ix2 n e)) = ix4 b h d r := by
    have hv : e.val = 128 * h.val + d.val := by rw [he]; rfl
    have := b.isLt; have := r.isLt; have := h.isLt; have := d.isLt
    have f0 : idx_main_v48 (idx_main_v49 (ix2 n e)) 0 = b :=
      Fin.ext (show (n.val * 2048 + e.val) / 8388608 = b.val by omega)
    have f1 : idx_main_v48 (idx_main_v49 (ix2 n e)) 1 = h :=
      Fin.ext (show (n.val * 2048 + e.val) / 128 % 16 = h.val by omega)
    have f2 : idx_main_v48 (idx_main_v49 (ix2 n e)) 2 = d :=
      Fin.ext (show (n.val * 2048 + e.val) % 128 = d.val by omega)
    have f3 : idx_main_v48 (idx_main_v49 (ix2 n e)) 3 = r :=
      Fin.ext (show (n.val * 2048 + e.val) / 2048 % 4096 = r.val by omega)
    exact (eq_ix4 _).trans (by rw [f0, f1, f2, f3])
  rw [hi, show lidx_main_v47 (ix4 b h d r) k = ix4 b k h d from eq_ix4 _, show ridx_main_v47 (ix4 b h d r) k = ix4 b h r k from eq_ix4 _,
    v10_at, v46_at x0 x1 x3 x4 x6 h0 h1 h3 h4 h6 b h r M hM, he]

end Cert.AttnRef
end
-- ==== Proof.Scores.lean ====
module

public import proofs.«01_k».proof.Proof.Blocks
public import proofs.«01_k».proof.Proof.Ref

/-
The kernel's scores are the reference's: the gates' difference comes from the feature lanes, and the memory rows past the
sixteenth stand at −∞.
-/
@[expose] public section
set_option maxRecDepth 16384
noncomputable section
namespace Cert.Attn
open Idealize.ShloMosaic
open Cert.KernelIdeal Cert.KernelIdeal.Gen Cert.KernelIdeal.Body Cert.AttnRef

theorem at2_mk {n m : ℕ} (x : (⟨2, ![n, m]⟩ : Shape).Idx → EReal) {a b : ℕ} (ha : a < n) (hb : b < m) :
    at2 x a b = x (ix2 ⟨a, ha⟩ ⟨b, hb⟩) := (at2_eq x ⟨a, ha⟩ ⟨b, hb⟩).symm

/-- The feature lanes of a query and a key give the difference of their gates. -/
theorem feat_sum {x y : EReal} (hx : Fine x) (hy : Fine y) :
    ∑ l : Fin 128, qFeat x l * kFeat y l = x - y := by
  have e : ∀ l : Fin 128, qFeat x l * kFeat y l = (if l = 0 then x else 0) + (if l = 3 then -y else 0) := by
    intro l
    simp only [Fin.ext_iff, show ((0 : Fin 128) : ℕ) = 0 from rfl, show ((3 : Fin 128) : ℕ) = 3 from rfl]
    obtain h | h | h | h : l.val = 0 ∨ (0 < l.val ∧ l.val < 3) ∨ l.val = 3 ∨ 3 < l.val := by omega
    · simp [qFeat, kFeat, h]
    · rw [if_neg (show ¬ l.val = 0 by omega), if_neg (show ¬ l.val = 3 by omega),
        show qFeat x l.val = 0 by unfold qFeat; rw [if_neg (by omega), if_pos h.2], zero_mul, add_zero]
    · simp [qFeat, kFeat, h]
    · rw [if_neg (show ¬ l.val = 0 by omega), if_neg (show ¬ l.val = 3 by omega),
        show kFeat y l.val = 0 by unfold kFeat; rw [if_neg (by omega), if_neg (by omega)], mul_zero, add_zero]
  rw [Finset.sum_congr rfl fun l _ => e l, Finset.sum_add_distrib, Finset.sum_ite_eq', Finset.sum_ite_eq',
    if_pos (Finset.mem_univ _), if_pos (Finset.mem_univ _), sub_eq_add_neg]

/-- The feature lanes of a memory row past the sixteenth give −∞. -/
theorem feat_pad (x : EReal) : ∑ l : Fin 128, qFeat x l * (if l.val = 3 then (⊥ : EReal) else 0) = ⊥ := by
  have e : ∀ l : Fin 128, qFeat x l * (if l.val = 3 then (⊥ : EReal) else 0) = if l = 3 then (⊥ : EReal) else 0 := by
    intro l
    simp only [Fin.ext_iff, show ((3 : Fin 128) : ℕ) = 3 from rfl]
    by_cases h : l.val = 3
    · rw [if_pos h]; simp [qFeat, h]
    · rw [if_neg h, mul_zero]
  rw [Finset.sum_congr rfl fun l _ => e l, Finset.sum_ite_eq', if_pos (Finset.mem_univ _)]

theorem scaled_sum {n : ℕ} {q k : Fin n → EReal} {c : EReal} (hq : ∀ d, Fine (q d)) (hk : ∀ d, Fine (k d)) (hc : Fine c) :
    ∑ d, q d * c * k d = (∑ d, q d * k d) * c := by
  choose q' hq' using hq
  choose k' hk' using hk
  obtain ⟨c', rfl⟩ := hc
  simp only [hq', hk', ← EReal.coe_mul, ← coe_sum']
  rw [Finset.sum_mul]
  congr 1
  exact Finset.sum_congr rfl fun d _ => by ring

variable (m : (ℓ : Loc nD τ sig) → Buf (Elt Ideal) ℓ) (c : Dev nD)

/-- The arguments. -/
abbrev X0 : Vec Ideal S16384x2048 .f32 := m (c.tc.loc main_arg0)
abbrev X1 : Vec Ideal S16384x2048 .f32 := m (c.tc.loc main_arg1)
abbrev X2 : Vec Ideal S16384x2048 .f32 := m (c.tc.loc main_arg2)
abbrev X3 : Vec Ideal S16384x16 .f32 := m (c.tc.loc main_arg3)
abbrev X4 : Vec Ideal S16x2048 .f32 := m (c.tc.loc main_arg4)
abbrev X5 : Vec Ideal S16x2048 .f32 := m (c.tc.loc main_arg5)
abbrev X6 : Vec Ideal S16x16 .f32 := m (c.tc.loc main_arg6)

/-- The queries, the keys and the gates are real. -/
structure Real' : Prop where
  q : ∀ i, Fine (X0 m c i)
  k : ∀ i, Fine (X1 m c i)
  g : ∀ i, Fine (X3 m c i)
  km : ∀ i, Fine (X4 m c i)
  gm : ∀ i, Fine (X6 m c i)

/-- A point's batch, and its queries' positions. -/
def bt (t : Fin cfg0.N) : Fin 4 := ⟨t.val / 32, by have := t.isLt; have : cfg0.N = 128 := rfl; omega⟩
def rt (t : Fin cfg0.N) (r : Fin 1024) : Fin 4096 := ⟨t.val % 4 * 1024 + r.val, by omega⟩

variable {m c} (hR : Real' m c) (t : Fin cfg0.N) (r : Fin 1024)
include hR

omit t r in
theorem rows_fine (b : Fin 4) (s : Fin 4112) (e : Fin 2048) : Fine (rows (X1 m c) (X4 m c) b s e) := by
  unfold rows
  split_ifs
  · exact hR.km _
  · exact hR.k _

theorem key_eq (o : ℕ) (ho : o = 0 ∨ o = 128) (s : ℕ) (hs : s < 4096) :
    keyAt m c t r o s = logit (X0 m c) (X1 m c) (X3 m c) (X4 m c) (X6 m c) (bt t) (hd t o) (rt t r) ⟨s + 16, by omega⟩ := by
  have gq : gates (X3 m c) (X6 m c) (bt t) ⟨16 + (rt t r).val, by have := (rt t r).isLt; omega⟩ (hd t o) = argC m c (qrow t r) (hd t o) := by
    unfold gates argC
    rw [dif_neg (show ¬ 16 + (rt t r).val < 16 by omega)]
    congr 2
    apply Fin.ext
    show t.val / 32 * 4096 + (16 + (t.val % 4 * 1024 + r.val) - 16) = (t.val / 32 * 4 + t.val % 4) * 1024 + r.val
    omega
  have gk : gates (X3 m c) (X6 m c) (bt t) ⟨s + 16, by omega⟩ (hd t o) = argC m c (krow t ⟨s, hs⟩) (hd t o) := by
    unfold gates argC
    rw [dif_neg (show ¬ s + 16 < 16 by omega)]
    rfl
  unfold keyAt score logit
  rw [gq, gk]
  congr 1
  · rw [← scaled_sum (fun d => hR.q _) (fun d => rows_fine hR _ _ _) scale_fine]
    refine Finset.sum_congr rfl fun d _ => ?_
    rw [at2_mk _ r.isLt (show o + d.val < 256 by omega), at2_mk _ hs (show o + d.val < 256 by omega), in0 m c, in2 m c, bcol_hd t o ho d _ rfl]
    unfold rows
    rw [dif_neg (show ¬ s + 16 < 16 by omega)]
    unfold argQ argK
    congr 3
    congr 1
    apply Fin.ext
    show (t.val / 32 * 4 + t.val % 4) * 1024 + r.val = t.val / 32 * 4096 + (t.val % 4 * 1024 + r.val)
    omega
  · rw [← feat_sum (x := argC m c (qrow t r) (hd t o)) (y := argC m c (krow t ⟨s, hs⟩) (hd t o)) (hR.g _) (hR.g _)]
    refine Finset.sum_congr rfl fun d _ => ?_
    rw [at2_mk _ r.isLt (show o + d.val < 256 by omega), at2_mk _ hs (show o + d.val < 256 by omega)]
    exact congrArg₂ (· * ·) (in1 m c t o ho r d (hR.g _)) (in3 m c t o ho ⟨s, hs⟩ d (hR.g _))

theorem mem_eq (o : ℕ) (ho : o = 0 ∨ o = 128) (s : ℕ) (hs : s < 16) :
    memAt m c t r o s = logit (X0 m c) (X1 m c) (X3 m c) (X4 m c) (X6 m c) (bt t) (hd t o) (rt t r) ⟨s, by omega⟩ := by
  have gq : gates (X3 m c) (X6 m c) (bt t) ⟨16 + (rt t r).val, by have := (rt t r).isLt; omega⟩ (hd t o) = argC m c (qrow t r) (hd t o) := by
    unfold gates argC
    rw [dif_neg (show ¬ 16 + (rt t r).val < 16 by omega)]
    congr 2
    apply Fin.ext
    show t.val / 32 * 4096 + (16 + (t.val % 4 * 1024 + r.val) - 16) = (t.val / 32 * 4 + t.val % 4) * 1024 + r.val
    omega
  have gk : gates (X3 m c) (X6 m c) (bt t) ⟨s, by omega⟩ (hd t o) = argCm m c ⟨s, hs⟩ (hd t o) := by
    unfold gates argCm
    rw [dif_pos hs]
  unfold memAt score logit
  rw [gq, gk]
  congr 1
  · rw [← scaled_sum (fun d => hR.q _) (fun d => rows_fine hR _ _ _) scale_fine]
    refine Finset.sum_congr rfl fun d _ => ?_
    rw [at2_mk _ r.isLt (show o + d.val < 256 by omega), at2_mk _ (show s < 128 by omega) (show o + d.val < 256 by omega), in0 m c, in5 m c, bcol_hd t o ho d _ rfl]
    unfold rows
    rw [dif_pos hs, dif_pos hs]
    unfold argQ argKm
    congr 3
    congr 1
    apply Fin.ext
    show (t.val / 32 * 4 + t.val % 4) * 1024 + r.val = t.val / 32 * 4096 + (t.val % 4 * 1024 + r.val)
    omega
  · rw [← feat_sum (x := argC m c (qrow t r) (hd t o)) (y := argCm m c ⟨s, hs⟩ (hd t o)) (hR.g _) (hR.gm _)]
    refine Finset.sum_congr rfl fun d _ => ?_
    rw [at2_mk _ r.isLt (show o + d.val < 256 by omega), at2_mk _ (show s < 128 by omega) (show o + d.val < 256 by omega)]
    exact congrArg₂ (· * ·) (in1 m c t o ho r d (hR.g _)) (in6 m c t o ho ⟨s, by omega⟩ hs d (hR.gm _))

theorem mem_pad (o : ℕ) (ho : o = 0 ∨ o = 128) (s : ℕ) (h16 : 16 ≤ s) (hs : s < 128) : memAt m c t r o s = ⊥ := by
  unfold memAt score
  have e : ∀ d : Fin 128, at2 (n := 1024) (m := 256) (iblk m c 1 t) r (o + d.val) * at2 (n := 128) (m := 256) (iblk m c 6 t) s (o + d.val)
      = qFeat (argC m c (qrow t r) (hd t o)) d * (if d.val = 3 then (⊥ : EReal) else 0) := fun d => by
    rw [at2_mk _ r.isLt (show o + d.val < 256 by omega), at2_mk _ hs (show o + d.val < 256 by omega)]
    exact congrArg₂ (· * ·) (in1 m c t o ho r d (hR.g _)) (in6_pad m c t o ho ⟨s, hs⟩ h16 d)
  rw [Finset.sum_congr rfl fun d _ => e d, feat_pad, EReal.add_bot]

theorem good : Good m c where
  q t r d := by rw [in0]; exact (hR.q _).mul scale_fine
  k t a b := by rw [in2]; exact hR.k _
  km t a b := by rw [in5]; split_ifs; exacts [hR.km _, Fine.zero]
  mem t r o s ho hs := by
    rw [mem_eq hR t r o ho s hs]; exact logit_fine _ _ _ _ _ hR.q hR.k hR.g hR.km hR.gm _ _ _ _
  pad t r o s ho h16 hs := mem_pad hR t r o ho s h16 hs
  key t r o s ho hs := by
    rw [key_eq hR t r o ho s hs]; exact logit_fine _ _ _ _ _ hR.q hR.k hR.g hR.km hR.gm _ _ _ _

end Cert.Attn
end
-- ==== Proof.Match.lean ====
module

public import proofs.«01_k».proof.Proof.Scores

/-
A point's block of the kernel's result is that block of the reference's: both are one softmax-weighted sum, the kernel's
over 128 memory rows and 4096 keys, the reference's over 16 and 4096; what the kernel has more stands at −∞.
-/
@[expose] public section
set_option maxRecDepth 16384
noncomputable section
namespace Cert.Attn
open Idealize.ShloMosaic
open Cert.KernelIdeal Cert.KernelIdeal.Gen Cert.KernelIdeal.Body Cert.AttnRef

/-- Scores at −∞ carry no weight, so a softmax-weighted sum is the one over the others. -/
theorem softmax_reindex {ι κ : Type*} [Fintype ι] [Fintype κ] (e : ι → κ) (he : Function.Injective e)
    {x v : κ → EReal} {y w : ι → EReal} (hx : ∀ s, y s = x (e s)) (hv : ∀ s, w s = v (e s))
    (hb : ∀ i, i ∉ Set.range e → x i = ⊥) :
    softmax Finset.univ x v = softmax Finset.univ y w := by
  have hz : ∀ i, i ∉ Set.range e → wt (x i) = 0 := fun i hi => by rw [hb i hi]; simp [wt]
  have hW : ∑ s, wt (y s) = ∑ i, wt (x i) :=
    Fintype.sum_of_injective e he _ _ hz fun s => by rw [hx]
  unfold softmax
  symm
  refine Fintype.sum_of_injective e he _ _ (fun i hi => ?_) fun s => ?_
  · rw [hz i hi, zero_div, EReal.coe_zero, mul_zero]
  · rw [hW, hx, hv]

/-- The reference's rows in the kernel's order. -/
def place (s : Fin 4112) : Fin 128 ⊕ Fin 4096 :=
  if h : s.val < 16 then .inl ⟨s.val, by omega⟩ else .inr ⟨s.val - 16, by omega⟩

theorem place_inj : Function.Injective place := by
  intro a b h
  unfold place at h
  split_ifs at h with ha hb hb
  · have := congrArg Fin.val (Sum.inl.inj h); exact Fin.ext this
  · have := congrArg Fin.val (Sum.inr.inj h)
    apply Fin.ext
    have h2 : a.val - 16 = b.val - 16 := this
    omega

theorem not_place {i : Fin 128 ⊕ Fin 4096} (hi : i ∉ Set.range place) : ∃ s : Fin 128, 16 ≤ s.val ∧ i = .inl s := by
  rcases i with s | s
  · refine ⟨s, ?_, rfl⟩
    by_contra h
    refine hi ⟨⟨s.val, by omega⟩, ?_⟩
    unfold place
    rw [dif_pos (show s.val < 16 by omega)]
  · refine absurd ⟨⟨s.val + 16, by omega⟩, ?_⟩ hi
    unfold place
    rw [dif_neg (show ¬ s.val + 16 < 16 by omega)]
    exact congrArg Sum.inr (Fin.ext (show s.val + 16 - 16 = s.val by omega))

variable {m : (ℓ : Loc nD τ sig) → Buf (Elt Ideal) ℓ} {c : Dev nD} (hR : Real' m c) (t : Fin cfg0.N) (r : Fin 1024)
include hR

theorem half_eq (o : ℕ) (ho : o = 0 ∨ o = 128) (j : Fin 128) :
    softmax Finset.univ (xs t (iblk m c 0 t) (iblk m c 1 t) (iblk m c 2 t) (iblk m c 3 t) (iblk m c 5 t) (iblk m c 6 t) r o) (vs (iblk m c 4 t) (iblk m c 7 t) o j)
      = softmax Finset.univ (ys (X0 m c) (X1 m c) (X3 m c) (X4 m c) (X6 m c) (bt t) (hd t o) (rt t r))
          (fun s => rows (X2 m c) (X5 m c) (bt t) s (hcol (hd t o) j)) := by
  refine softmax_reindex place place_inj (fun s => ?_) (fun s => ?_) fun i hi => ?_
  · by_cases h : s.val < 16
    · unfold place ys
      rw [dif_pos h, if_pos (by omega)]
      exact (mem_eq hR t r o ho s.val h).symm
    · unfold place ys
      rw [dif_neg h]
      have hs : s.val - 16 < 4096 := by omega
      have e : (⟨s.val - 16 + 16, by omega⟩ : Fin 4112) = s := Fin.ext (show s.val - 16 + 16 = s.val by omega)
      have k := key_eq hR t r o ho (s.val - 16) hs
      rw [e] at k
      show _ = if (s.val - 16) ≤ 1024 * (t.val % 4) + r.val then keyAt m c t r o (s.val - 16) else ⊥
      rw [k]
      have hr : (rt t r).val = t.val % 4 * 1024 + r.val := rfl
      by_cases q : s.val ≤ (rt t r).val + 16
      · rw [if_pos q, if_pos (by omega)]
      · rw [if_neg q, if_neg (by omega)]
  · by_cases h : s.val < 16
    · unfold place rows
      rw [dif_pos h, dif_pos h]
      show _ = at2 (n := 128) (m := 256) (iblk m c 7 t) s.val (o + j.val)
      rw [at2_mk _ (show s.val < 128 by omega) (show o + j.val < 256 by omega), in7 m c, bcol_hd t o ho j _ rfl, dif_pos h]
      rfl
    · unfold place rows
      rw [dif_neg h, dif_neg h]
      show _ = at2 (n := 4096) (m := 256) (iblk m c 4 t) (s.val - 16) (o + j.val)
      rw [at2_mk _ (show s.val - 16 < 4096 by omega) (show o + j.val < 256 by omega), in4 m c, bcol_hd t o ho j _ rfl]
      rfl
  · obtain ⟨s, hs, rfl⟩ := not_place hi
    exact mem_pad hR t r o ho s.val hs s.isLt

/-- The reference's result of the kernel's arguments. -/
def G (m : (ℓ : Loc nD τ sig) → Buf (Elt Ideal) ℓ) (c : Dev nD) : Vec Ideal S16384x2048 .bf16 :=
  Cert.ReferenceIdeal.Read.val_main_v50 (F := Ideal) (X0 m c) (X1 m c) (X2 m c) (X3 m c) (X4 m c) (X5 m c) (X6 m c)

theorem G_at (o : ℕ) (ho : o = 0 ∨ o = 128) (j : Fin 128) (b : Fin 256) (hb : b.val = o + j.val) :
    G m c (ix2 (qrow t r) (bcol t b)) = softmax Finset.univ (ys (X0 m c) (X1 m c) (X3 m c) (X4 m c) (X6 m c) (bt t) (hd t o) (rt t r))
          (fun s => rows (X2 m c) (X5 m c) (bt t) s (hcol (hd t o) j)) :=
  (v50_at (X0 m c) (X1 m c) (X2 m c) (X3 m c) (X4 m c) (X5 m c) (X6 m c) hR.q hR.k hR.g hR.km hR.gm (bt t) (rt t r) (hd t o) j
    (qrow t r) (bcol t b)
    (show (t.val / 32 * 4 + t.val % 4) * 1024 + r.val = t.val / 32 * 4096 + (t.val % 4 * 1024 + r.val) by omega)
    (bcol_hd t o ho j b hb)).trans (by rw [bcol_hd t o ho j b hb]; rfl)

/-- The kernel's block is the reference's. -/
theorem out_eq (b : Fin 256) : outAt m c t (ix2 r b) = G m c (ix2 (qrow t r) (bcol t b)) := by
  have hg := good hR
  by_cases h : b.val < 128
  · have e : b = ⟨(⟨b.val, h⟩ : Fin 128).val, by omega⟩ := rfl
    rw [G_at hR t r 0 (.inl rfl) ⟨b.val, h⟩ b (by simp), ← half_eq hR t r 0 (.inl rfl)]
    exact hg.out0 t r ⟨b.val, h⟩
  · have hj : b.val - 128 < 128 := by omega
    have e : b = ⟨128 + (⟨b.val - 128, hj⟩ : Fin 128).val, by show 128 + (b.val - 128) < 256; omega⟩ := Fin.ext (show b.val = 128 + (b.val - 128) by omega)
    rw [G_at hR t r 128 (.inr rfl) ⟨b.val - 128, hj⟩ b (by show b.val = 128 + (b.val - 128); omega), ← half_eq hR t r 128 (.inr rfl)]
    exact (congrArg (fun b => outAt m c t (ix2 r b)) e).trans (hg.out1 t r ⟨b.val - 128, hj⟩)

end Cert.Attn
end
-- ==== Proof.Final.lean ====
module

public import proofs.«01_k».proof.Proof.Match
public import proofs.«01_k».proof.Proof.Frames
public import Idealize.ShloMosaic.Lib.ReduceAll

/-
The array after the run is the reference's result of the arguments (`final8`), the precondition says that the queries, the
keys and the gates are real (`real_of_finite`), and so the two programs agree (`algebraic`).
-/
@[expose] public section
set_option maxRecDepth 16384
noncomputable section
namespace Cert.Attn
open Idealize.ShloMosaic Idealize.ShloMosaic.TcCoe Idealize.SL.Sem
open Cert.KernelIdeal Cert.KernelIdeal.Gen Cert.KernelIdeal.Body

variable {m : (ℓ : Loc nD τ sig) → Buf (Elt Ideal) ℓ} {c : Dev nD}

/-- Where an index of a point's block of the result lies in it. -/
theorem emb8 (t : Fin cfg0.N) (a : Fin 1024) (b : Fin 256) :
    ((cfg0.win 8).blk t).view.emb (ix2 a b) = (ix2 (qrow t a) (bcol t b) : S16384x2048.Idx) := by
  obtain ⟨-, -, -, -, -, -, -, -, -, -, -, -, -, -, -, -, e0, e1⟩ := idx_facts t
  funext x; apply Fin.ext
  match x with
  | ⟨0, _⟩ =>
    show win0_8.index t (0 : Fin 2) * 1024 + 1 * a.val = (t.val / 32 * 4 + t.val % 4) * 1024 + a.val
    omega
  | ⟨1, _⟩ =>
    show win0_8.index t (1 : Fin 2) * 256 + 1 * b.val = t.val / 4 % 8 * 256 + b.val
    omega

theorem block8 (hR : Real' m c) (t : Fin cfg0.N) (j : S1024x256.Idx) :
    outAt m c t j = G m c (((cfg0.win 8).blk t).view.emb j) := by
  obtain ⟨a, b, rfl⟩ : ∃ (a : Fin 1024) (b : Fin 256), j = ix2 a b := ⟨j 0, j 1, eq_ix2 j⟩
  rw [emb8]
  exact out_eq hR t a b

/-- A block whose elements are those of an array at the block's place is that array read there. -/
theorem cut8 (t : Fin cfg0.N) (Y : Vec Ideal S1024x256 .bf16) (X : Vec Ideal S16384x2048 .bf16)
    (h : ∀ j : S1024x256.Idx, Y j = X (((cfg0.win 8).blk t).view.emb j)) :
    (cfg0.win 8).cut (grid0.coords t) Y = ((cfg0.win 8).blk t).view.read (Elt Ideal) X := by
  funext j
  exact h j

theorem flushed8 (hR : Real' m c) (t : Fin cfg0.N) :
    (dats m 0 c).flushed 8 t = ((cfg0.win 8).blk t).view.read (Elt Ideal) (G m c) := by
  have h := cut8 t (outAt m c t) (G m c) (block8 hR t)
  rw [← after8] at h
  exact h

theorem covered8 (i : S16384x2048.Idx) :
    ∃ t : Fin cfg0.N, (cfg0.win 8).flush t = true ∧ i ∈ ((cfg0.win 8).blk t).view.set := by
  have h0 : (i 0).val < 16384 := (i 0).isLt
  have h1 : (i 1).val < 2048 := (i 1).isLt
  have hN : cfg0.N = 128 := rfl
  refine ⟨⟨(i 0).val / 4096 * 32 + (i 1).val / 256 * 4 + (i 0).val / 1024 % 4, by omega⟩, flush0_8 _, ?_⟩
  generalize hu : (⟨(i 0).val / 4096 * 32 + (i 1).val / 256 * 4 + (i 0).val / 1024 % 4, by omega⟩ : Fin cfg0.N) = u
  have hv : u.val = (i 0).val / 4096 * 32 + (i 1).val / 256 * 4 + (i 0).val / 1024 % 4 := by rw [← hu]
  have e := ((cfg0.win 8).blk u).view.emb_mem_set (ix2 ⟨(i 0).val % 1024, by omega⟩ ⟨(i 1).val % 256, by omega⟩)
  rw [emb8] at e
  have ei : (ix2 (qrow u ⟨(i 0).val % 1024, by omega⟩) (bcol u ⟨(i 1).val % 256, by omega⟩) : S16384x2048.Idx) = i := by
    funext x; apply Fin.ext
    match x with
    | ⟨0, _⟩ =>
      show (u.val / 32 * 4 + u.val % 4) * 1024 + (i 0).val % 1024 = (i 0).val
      omega
    | ⟨1, _⟩ =>
      show u.val / 4 % 8 * 256 + (i 1).val % 256 = (i 1).val
      omega
  rwa [ei] at e

/-- The result array after the run. -/
theorem final8 (hR : Real' m c) : (dats m 0 c).arrAt 8 cfg0.N = G m c :=
  (dats m 0 c).arrAt_eq_of_cover 8 (G m c) (fun t _ => flushed8 hR t) covered8

/-- A word saying that an absolute value is below +∞ says that the value is real. -/
theorem fine_of_word (x : EReal) (h : FloatOps.cmpf (F := Ideal) (φ := .f32) .olt (FloatOps.hostAbsf (F := Ideal) (φ := .f32) x) (FloatOps.ofBits (F := Ideal) .f32 0x7F800000#32) = 1#1) : Fine x := by
  have h2 : Ideal.cmp .olt (max x (-x)) (Ideal.ofBits .f32 0x7F800000#32) = 1#1 := h
  have ht : Ideal.ofBits .f32 0x7F800000#32 = ⊤ := by simp [Ideal.ofBits, Ideal.ieee]
  rw [ht] at h2
  induction x using EReal.rec with
  | bot => simp [Ideal.cmp] at h2
  | top => simp [Ideal.cmp] at h2
  | coe r => exact ⟨r, rfl⟩

theorem andi_one {x y : BitVec 1} (h : IntOp.andi x y = 1#1) : x = 1#1 ∧ y = 1#1 := by
  revert x y; decide

open Cert.Pre_finite in
theorem real_of_finite [Cert.Pre_finite.Facts] (m : (ℓ : Loc nD τ sig) → Buf (Elt Ideal) ℓ) (h : Cert.Pre_KernelIdeal_finite m) (c : Dev nD) : Real' m c := by
  have h1 := congrFun (h c) (fun a => a.elim0)
  unfold Cert.Pre_finite.fn Cert.Pre_finite.fn_part1 at h1
  dsimp only at h1
  obtain ⟨h2, hgm⟩ := andi_one h1
  obtain ⟨h3, hkm⟩ := andi_one h2
  obtain ⟨h4, hg⟩ := andi_one h3
  obtain ⟨hq, hk⟩ := andi_one h4
  exact {
    q := fun i => fine_of_word _ (Host.reduce_andi_all _ _ _ _ _ hq i)
    k := fun i => fine_of_word _ (Host.reduce_andi_all _ _ _ _ _ hk i)
    g := fun i => fine_of_word _ (Host.reduce_andi_all _ _ _ _ _ hg i)
    km := fun i => fine_of_word _ (Host.reduce_andi_all _ _ _ _ _ hkm i)
    gm := fun i => fine_of_word _ (Host.reduce_andi_all _ _ _ _ _ hgm i) }

/-- The kernel's run leaves the reference's result of its arguments in its result array. -/
theorem run_G (m : (ℓ : Loc nD τ sig) → Buf (Elt Ideal) ℓ) (ρ : Dev nD → PrngReg) (hR : ∀ c, Real' m c) :
    θ_run (defs (F := Ideal)) (onTc (τ := τ) (main (F := Ideal))) ⟨m, fun _ => 0, ρ⟩ fun r => ∀ c : Dev nD,
      r.2.mem ((c.tc : Thread nD τ).loc main_v64) = G m c :=
  (θ_run defs _ _).mono (fun _ h c => ((h c).1 8).trans (final8 (hR c))) (run_main m ρ)

end Cert.Attn

namespace Cert.Proof
open Idealize.ShloMosaic Idealize.SL.Sem

/-- The kernel and the reference agree wherever the queries, the keys and the gates are real. -/
theorem algebraic : Cert.algebraic_KernelIdeal_ReferenceIdeal_pre_finite := by
  intro m g m' g' hp he
  have hR := Cert.Attn.real_of_finite m hp
  refine ⟨fun c => Cert.Attn.G m c, ?_, ?_⟩
  · exact (θ_run _ _ _).mono (fun r h c => ⟨h.1 c, h.2.1 c⟩)
      (θ_run_and (Cert.Attn.run_G m g hR) (Cert.KernelIdeal.Body.frame_main (F := Ideal) m g))
  · refine (θ_run _ _ _).mono (fun r h c => ⟨(h c).1.trans ?_, (h c).2⟩) (Cert.ReferenceIdeal.Value.run (F := Ideal) m' g')
    rw [Cert.ReferenceIdeal.Read.val_main_v50_eq]
    obtain ⟨e0, e1, e2, e3, e4, e5, e6⟩ := he c
    rw [e0, e1, e2, e3, e4, e5, e6]
    rfl

end Cert.Proof
end
-- ==== Proof.lean ====
/- The claims of this certificate, put together: the attention's frames (Proof/Frames.lean), its named constant and its
   equation with the reference (Proof/Final.lean), and the five tiled products. -/
module

public import proofs.«01_k».proof.Proof.Gates
public import proofs.«01_k».proof.Proof.Values
public import proofs.«01_k».proof.Proof.Inputs
public import proofs.«01_k».proof.Proof.Mix
public import proofs.«01_k».proof.Proof.Residual
public import proofs.«01_k».proof.Proof.Frames
public import proofs.«01_k».proof.Proof.Final
public import proofs.«01_k».proof.Proof.Gen.Residual
public import proofs.«01_k».proof.Proof.Gen.Mix
public import proofs.«01_k».proof.Proof.Gen.Inputs
public import proofs.«01_k».proof.Proof.Gen.Values
public import proofs.«01_k».proof.Proof.Gen.Gates

@[expose] public section

noncomputable section

namespace Cert.Proof

open Idealize.ShloMosaic

/-- The named constant: the kernel's mask reads −∞ at the ideal instance. -/
theorem mask_named : Cert.preserves_Kernel_KernelIdeal :=
  IdealRules.named_const.statement Cert.KernelIdeal.κ "mask" .f32 0xF149F2CA#32 ⊥ rfl

theorem claim : Cert.Claim :=
  ⟨Cert.Kernel.Gen.facts, Cert.KernelIdeal.Gen.facts, Cert.ReferenceIdeal.Gen.facts,
    Cert.Gates.Gen.facts, Cert.GatesIdeal.Gen.facts, Cert.GatesReferenceIdeal.Gen.facts,
    Cert.Values.Gen.facts, Cert.ValuesIdeal.Gen.facts, Cert.ValuesReferenceIdeal.Gen.facts,
    Cert.Inputs.Gen.facts, Cert.InputsIdeal.Gen.facts, Cert.InputsReferenceIdeal.Gen.facts,
    Cert.Mix.Gen.facts, Cert.MixIdeal.Gen.facts, Cert.MixReferenceIdeal.Gen.facts,
    Cert.Residual.Gen.facts, Cert.ResidualIdeal.Gen.facts, Cert.ResidualReferenceIdeal.Gen.facts,
    finiteFacts, frame_kernel, frame_ideal, frame_ideal_finite, frame_reference, frame_reference_finite,
    Cert.GatesCall.frame_words, Cert.GatesCall.frame_ideal, Cert.GatesCall.frame_reference,
    Cert.ValuesCall.frame_words, Cert.ValuesCall.frame_ideal, Cert.ValuesCall.frame_reference,
    Cert.InputsCall.frame_words, Cert.InputsCall.frame_ideal, Cert.InputsCall.frame_reference,
    Cert.MixCall.frame_words, Cert.MixCall.frame_ideal, Cert.MixCall.frame_reference,
    Cert.ResidualCall.frame_words, Cert.ResidualCall.frame_ideal, Cert.ResidualCall.frame_reference,
    mask_named, algebraic,
    Cert.GatesCall.preserved, Cert.GatesCall.algebraic,
    Cert.ValuesCall.preserved, Cert.ValuesCall.algebraic,
    Cert.InputsCall.preserved, Cert.InputsCall.algebraic,
    Cert.MixCall.preserved, Cert.MixCall.algebraic,
    Cert.ResidualCall.preserved, Cert.ResidualCall.algebraic⟩

end Cert.Proof

end
